-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "qscale" .f32 0x3E16C740#32 (((Real.sqrt 96)⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v128) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v90) = v0 c
          ∧ r.2.mem ((c.tc : Thread Cert.Reference4Ideal.nD Cert.Reference4Ideal.τ).loc Cert.Reference4Ideal.main_v92) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x8x96 : Shape := ⟨4, ![8, 4096, 8, 96]⟩
abbrev S8x4096x8x64 : Shape := ⟨4, ![8, 4096, 8, 64]⟩
abbrev S96 : Shape := ⟨1, ![96]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel

variable [Facts]

def fn {F : FTy → Type} [FloatOps F] (main_arg0 : FVec F S8x4096x8x96 .f32) (main_arg1 : FVec F S8x4096x8x96 .f32) (main_arg2 : FVec F S8x4096x8x64 .f32) (main_arg3 : FVec F S96 .f32) (main_arg4 : FVec F S96 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  main_v8
-- ==== Pre_in_range.lean ====
abbrev S136 : Shape := ⟨1, ![136]⟩
abbrev S1 : Shape := ⟨1, ![1]⟩
abbrev S69632x1024 : Shape := ⟨2, ![69632, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S136 32) (main_arg1 : IVec S1 32) (main_arg2 : FVec F S69632x1024 .f32) (main_arg3 : FVec F S8x1024x2816 .f32) (main_arg4 : FVec F S8x1024x2816 .f32) (main_arg5 : FVec F S8x2816x1024 .f32) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 1 := constantI S_ 1 1#1
  let main_v2 : IVec S_ 1 := (fun x v => Host.reduce IntOp.andi x v reducesTo_S136_S_d0 h_S_) main_v1 main_c_0
  let main_c_1 : IVec S_ 32 := constantI S_ 32 8#32
  let main_v3 : IVec S136 32 := broadcastInDim S136 ![] bcast_S_S136 main_c_1
  let main_v4 : IVec S136 1 := cmpi .slt main_arg0 main_v3
  let main_c_2 : IVec S_ 1 := constantI S_ 1 1#1
  let main_v5 : IVec S_ 1 := (fun x v => Host.reduce IntOp.andi x v reducesTo_S136_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S8x4096x8x96 : Shape := ⟨4, ![8, 4096, 8, 96]⟩
abbrev S8x4096x8x64 : Shape := ⟨4, ![8, 4096, 8, 64]⟩
abbrev S96 : Shape := ⟨1, ![96]⟩
abbrev S8x16x256x512 : Shape := ⟨4, ![8, 16, 256, 512]⟩
abbrev S8x16x512x256 : Shape := ⟨4, ![8, 16, 512, 256]⟩
abbrev S_ : Shape := ⟨0, ![]⟩
abbrev S1 : Shape := ⟨1, ![1]⟩
abbrev S8x4096x8x128 : Shape := ⟨4, ![8, 4096, 8, 128]⟩
abbrev S8x4096x1024 : Shape := ⟨3, ![8, 4096, 1024]⟩
abbrev S8x512x4096 : Shape := ⟨3, ![8, 512, 4096]⟩
abbrev S1x512x512 : Shape := ⟨3, ![1, 512, 512]⟩
abbrev S1x4096x512 : Shape := ⟨3, ![1, 4096, 512]⟩
abbrev S1x16x256x256 : Shape := ⟨4, ![1, 16, 256, 256]⟩
abbrev S1x256x512 : Shape := ⟨3, ![1, 256, 512]⟩
abbrev S256x512 : Shape := ⟨2, ![256, 512]⟩
abbrev S16x256 : Shape := ⟨2, ![16, 256]⟩
abbrev S1x512x128 : Shape := ⟨3, ![1, 512, 128]⟩
abbrev S512x128 : Shape := ⟨2, ![512, 128]⟩
abbrev S80x512 : Shape := ⟨2, ![80, 512]⟩
abbrev S1x256x128 : Shape := ⟨3, ![1, 256, 128]⟩
abbrev S256x128 : Shape := ⟨2, ![256, 128]⟩
abbrev S1x1x64x256 : Shape := ⟨4, ![1, 1, 64, 256]⟩
abbrev S64x256 : Shape := ⟨2, ![64, 256]⟩
abbrev S80x256 : Shape := ⟨2, ![80, 256]⟩
abbrev S64x512 : Shape := ⟨2, ![64, 512]⟩
abbrev S1x512 : Shape := ⟨2, ![1, 512]⟩
abbrev S1x64x512 : Shape := ⟨3, ![1, 64, 512]⟩
abbrev S512 : Shape := ⟨1, ![512]⟩

abbrev nBuf : Space → Nat
  | .hbm => 29
  | .vmem => 8
  | .smem => 1
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S96, .f32⟩
  | .hbm, ⟨4, _⟩ => ⟨S96, .f32⟩
  | .hbm, ⟨5, _⟩ => ⟨S8x16x256x512, .f32⟩
  | .hbm, ⟨6, _⟩ => ⟨S8x16x512x256, .f32⟩
  | .hbm, ⟨7, _⟩ => ⟨S8x16x512x256, .bf16⟩
  | .hbm, ⟨8, _⟩ => ⟨S96, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S96, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .i32⟩
  | .hbm, ⟨19, _⟩ => ⟨S_, .f32⟩
  | .hbm, ⟨20, _⟩ => ⟨S8x4096x8x128, .f32⟩
  | .hbm, ⟨21, _⟩ => ⟨S8x4096x1024, .f32⟩
  | .hbm, ⟨22, _⟩ => ⟨S8x4096x1024, .bf16⟩
  | .hbm, ⟨23, _⟩ => ⟨S_, .i32⟩
  | .hbm, ⟨24, _⟩ => ⟨S_, .f32⟩
  | .hbm, ⟨25, _⟩ => ⟨S8x4096x8x128, .f32⟩
  | .hbm, ⟨26, _⟩ => ⟨S8x4096x1024, .f32⟩
  | .hbm, ⟨27, _⟩ => ⟨S8x4096x1024, .bf16⟩
  | .hbm, ⟨28, _⟩ => ⟨S8x512x4096, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x16x256x256, .bf16⟩
  | .local _ .vmem, ⟨5, _⟩ => ⟨S1x16x256x256, .bf16⟩
  | .local _ .vmem, ⟨6, _⟩ => ⟨S1x256x512, .bf16⟩
  | .local _ .vmem, ⟨7, _⟩ => ⟨S1x256x512, .bf16⟩
  | .local _ .smem, ⟨0, _⟩ => ⟨S1, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 2, 8], ![false, false, false]⟩

def k0_mult1 (i : grid0.Coords) : BitVec 32 :=
  let arg2 : BitVec 32 := BitVec.ofNat 32 (i 2).val
  let c2_i32 : BitVec 32 := 2#32
  let v3 : BitVec 32 := Scalar.muli arg2 c2_i32
  let c2_i32_17 : BitVec 32 := 2#32
  let v37 : BitVec 32 := Scalar.addi v3 c2_i32_17
  let c1_i32 : BitVec 32 := 1#32
  let v38 : BitVec 32 := Scalar.subi v37 c1_i32
  let c256_i32 : BitVec 32 := 256#32
  let v39 : BitVec 32 := Scalar.muli v38 c256_i32
  v39
def k0_off1 (i : grid0.Coords) (c2_i32_17 : BitVec 32) : Fin 3 → Nat :=
  let c0_20 : Index := 0#32
  let arg2 : BitVec 32 := BitVec.ofNat 32 (i 2).val
  let c2_i32 : BitVec 32 := 2#32
  let v3 : BitVec 32 := Scalar.muli arg2 c2_i32
  let v37 : BitVec 32 := Scalar.addi v3 c2_i32_17
  let c1_i32 : BitVec 32 := 1#32
  let v38 : BitVec 32 := Scalar.subi v37 c1_i32
  let c256_i32 : BitVec 32 := 256#32
  let v39 : BitVec 32 := Scalar.muli v38 c256_i32
  let v40 : BitVec 32 := v39
  let v48 : Index := Scalar.indexCast v40
  let c0_21 : Index := 0#32
  ![0, v48.toNat, 0]
def k0_off2 (i : grid0.Coords) (c2_i32_17 : BitVec 32) : Fin 3 → Nat :=
  let c0_24 : Index := 0#32
  let arg2 : BitVec 32 := BitVec.ofNat 32 (i 2).val
  let c2_i32 : BitVec 32 := 2#32
  let v3 : BitVec 32 := Scalar.muli arg2 c2_i32
  let v37 : BitVec 32 := Scalar.addi v3 c2_i32_17
  let c1_i32 : BitVec 32 := 1#32
  let v38 : BitVec 32 := Scalar.subi v37 c1_i32
  let c256_i32 : BitVec 32 := 256#32
  let v39 : BitVec 32 := Scalar.muli v38 c256_i32
  let v40 : BitVec 32 := v39
  let v58 : Index := Scalar.indexCast v40
  let c128_25 : Index := 128#32
  ![0, v58.toNat, 128]
def k0_off3 (i : grid0.Coords) (c2_i32_17 : BitVec 32) : Fin 3 → Nat :=
  let c0_28 : Index := 0#32
  let arg2 : BitVec 32 := BitVec.ofNat 32 (i 2).val
  let c2_i32 : BitVec 32 := 2#32
  let v3 : BitVec 32 := Scalar.muli arg2 c2_i32
  let v37 : BitVec 32 := Scalar.addi v3 c2_i32_17
  let c1_i32 : BitVec 32 := 1#32
  let v38 : BitVec 32 := Scalar.subi v37 c1_i32
  let c256_i32 : BitVec 32 := 256#32
  let v39 : BitVec 32 := Scalar.muli v38 c256_i32
  let v40 : BitVec 32 := v39
  let v68 : Index := Scalar.indexCast v40
  let c256_29 : Index := 256#32
  ![0, v68.toNat, 256]
def k0_off4 (i : grid0.Coords) (c2_i32_17 : BitVec 32) : Fin 3 → Nat :=
  let c0_32 : Index := 0#32
  let arg2 : BitVec 32 := BitVec.ofNat 32 (i 2).val
  let c2_i32 : BitVec 32 := 2#32
  let v3 : BitVec 32 := Scalar.muli arg2 c2_i32
  let v37 : BitVec 32 := Scalar.addi v3 c2_i32_17
  let c1_i32 : BitVec 32 := 1#32
  let v38 : BitVec 32 := Scalar.subi v37 c1_i32
  let c256_i32 : BitVec 32 := 256#32
  let v39 : BitVec 32 := Scalar.muli v38 c256_i32
  let v40 : BitVec 32 := v39
  let v78 : Index := Scalar.indexCast v40
  let c384_33 : Index := 384#32
  ![0, v78.toNat, 384]
def k0_mult2 (i : grid0.Coords) : BitVec 32 :=
  let arg2 : BitVec 32 := BitVec.ofNat 32 (i 2).val
  let c2_i32 : BitVec 32 := 2#32
  let v3 : BitVec 32 := Scalar.muli arg2 c2_i32
  let c1_i32_36 : BitVec 32 := 1#32
  let v88 : BitVec 32 := Scalar.addi v3 c1_i32_36
  let c1_i32_37 : BitVec 32 := 1#32
  let v89 : BitVec 32 := Scalar.subi v88 c1_i32_37
  let c256_i32_38 : BitVec 32 := 256#32
  let v90 : BitVec 32 := Scalar.muli v89 c256_i32_38
  v90
def k0_off5 (i : grid0.Coords) (c1_i32_58 : BitVec 32) : Fin 4 → Nat :=
  let c0_59 : Index := 0#32
  let arg2 : BitVec 32 := BitVec.ofNat 32 (i 2).val
  let c2_i32 : BitVec 32 := 2#32
  let v3 : BitVec 32 := Scalar.muli arg2 c2_i32
  let v139 : BitVec 32 := Scalar.addi v3 c1_i32_58
  let v140 : Index := Scalar.indexCast v139
  let c0_60 : Index := 0#32
  let c0_61 : Index := 0#32
  ![0, v140.toNat, 0, 0]
def k0_off6 (i : grid0.Coords) (c1_i32_58 : BitVec 32) : Fin 4 → Nat :=
  let c0_63 : Index := 0#32
  let arg2 : BitVec 32 := BitVec.ofNat 32 (i 2).val
  let c2_i32 : BitVec 32 := 2#32
  let v3 : BitVec 32 := Scalar.muli arg2 c2_i32
  let v139 : BitVec 32 := Scalar.addi v3 c1_i32_58
  let v146 : Index := Scalar.indexCast v139
  let c64 : Index := 64#32
  let c0_64 : Index := 0#32
  ![0, v146.toNat, 64, 0]
def k0_off7 (i : grid0.Coords) (c1_i32_58 : BitVec 32) : Fin 4 → Nat :=
  let c0_66 : Index := 0#32
  let arg2 : BitVec 32 := BitVec.ofNat 32 (i 2).val
  let c2_i32 : BitVec 32 := 2#32
  let v3 : BitVec 32 := Scalar.muli arg2 c2_i32
  let v139 : BitVec 32 := Scalar.addi v3 c1_i32_58
  let v152 : Index := Scalar.indexCast v139
  let c128_67 : Index := 128#32
  let c0_68 : Index := 0#32
  ![0, v152.toNat, 128, 0]
def k0_off8 (i : grid0.Coords) (c1_i32_58 : BitVec 32) : Fin 4 → Nat :=
  let c0_70 : Index := 0#32
  let arg2 : BitVec 32 := BitVec.ofNat 32 (i 2).val
  let c2_i32 : BitVec 32 := 2#32
  let v3 : BitVec 32 := Scalar.muli arg2 c2_i32
  let v139 : BitVec 32 := Scalar.addi v3 c1_i32_58
  let v158 : Index := Scalar.indexCast v139
  let c192 : Index := 192#32
  let c0_71 : Index := 0#32
  ![0, v158.toNat, 192, 0]
def k0_mult3 (i : grid0.Coords) : BitVec 32 :=
  let arg2 : BitVec 32 := BitVec.ofNat 32 (i 2).val
  let c2_i32 : BitVec 32 := 2#32
  let v3 : BitVec 32 := Scalar.muli arg2 c2_i32
  let c1_i32_73 : BitVec 32 := 1#32
  let v164 : BitVec 32 := Scalar.subi v3 c1_i32_73
  let c0_i32_74 : BitVec 32 := 0#32
  let v165 : BitVec 32 := Scalar.subi v164 c0_i32_74
  let c0_i32_75 : BitVec 32 := 0#32
  let v166 : BitVec 32 := Scalar.maxsi v165 c0_i32_75
  let c256_i32_76 : BitVec 32 := 256#32
  let v167 : BitVec 32 := Scalar.muli v166 c256_i32_76
  v167
def k0_off9 (i : grid0.Coords) (c0_i32_74 : BitVec 32) : Fin 3 → Nat :=
  let c0_77 : Index := 0#32
  let arg2 : BitVec 32 := BitVec.ofNat 32 (i 2).val
  let c2_i32 : BitVec 32 := 2#32
  let v3 : BitVec 32 := Scalar.muli arg2 c2_i32
  let c1_i32_73 : BitVec 32 := 1#32
  let v164 : BitVec 32 := Scalar.subi v3 c1_i32_73
  let v165 : BitVec 32 := Scalar.subi v164 c0_i32_74
  let c0_i32_75 : BitVec 32 := 0#32
  let v166 : BitVec 32 := Scalar.maxsi v165 c0_i32_75
  let c256_i32_76 : BitVec 32 := 256#32
  let v167 : BitVec 32 := Scalar.muli v166 c256_i32_76
  let v168 : BitVec 32 := v167
  let v169 : Index := Scalar.indexCast v168
  let c0_78 : Index := 0#32
  ![0, v169.toNat, 0]
def k0_off10 (i : grid0.Coords) (c0_i32_74 : BitVec 32) : Fin 3 → Nat :=
  let c0_80 : Index := 0#32
  let arg2 : BitVec 32 := BitVec.ofNat 32 (i 2).val
  let c2_i32 : BitVec 32 := 2#32
  let v3 : BitVec 32 := Scalar.muli arg2 c2_i32
  let c1_i32_73 : BitVec 32 := 1#32
  let v164 : BitVec 32 := Scalar.subi v3 c1_i32_73
  let v165 : BitVec 32 := Scalar.subi v164 c0_i32_74
  let c0_i32_75 : BitVec 32 := 0#32
  let v166 : BitVec 32 := Scalar.maxsi v165 c0_i32_75
  let c256_i32_76 : BitVec 32 := 256#32
  let v167 : BitVec 32 := Scalar.muli v166 c256_i32_76
  let v168 : BitVec 32 := v167
  let v177 : Index := Scalar.indexCast v168
  let c128_81 : Index := 128#32
  ![0, v177.toNat, 128]
def k0_off11 (i : grid0.Coords) (c0_i32_74 : BitVec 32) : Fin 3 → Nat :=
  let c0_83 : Index := 0#32
  let arg2 : BitVec 32 := BitVec.ofNat 32 (i 2).val
  let c2_i32 : BitVec 32 := 2#32
  let v3 : BitVec 32 := Scalar.muli arg2 c2_i32
  let c1_i32_73 : BitVec 32 := 1#32
  let v164 : BitVec 32 := Scalar.subi v3 c1_i32_73
  let v165 : BitVec 32 := Scalar.subi v164 c0_i32_74
  let c0_i32_75 : BitVec 32 := 0#32
  let v166 : BitVec 32 := Scalar.maxsi v165 c0_i32_75
  let c256_i32_76 : BitVec 32 := 256#32
  let v167 : BitVec 32 := Scalar.muli v166 c256_i32_76
  let v168 : BitVec 32 := v167
  let v185 : Index := Scalar.indexCast v168
  let c256_84 : Index := 256#32
  ![0, v185.toNat, 256]
def k0_off12 (i : grid0.Coords) (c0_i32_74 : BitVec 32) : Fin 3 → Nat :=
  let c0_86 : Index := 0#32
  let arg2 : BitVec 32 := BitVec.ofNat 32 (i 2).val
  let c2_i32 : BitVec 32 := 2#32
  let v3 : BitVec 32 := Scalar.muli arg2 c2_i32
  let c1_i32_73 : BitVec 32 := 1#32
  let v164 : BitVec 32 := Scalar.subi v3 c1_i32_73
  let v165 : BitVec 32 := Scalar.subi v164 c0_i32_74
  let c0_i32_75 : BitVec 32 := 0#32
  let v166 : BitVec 32 := Scalar.maxsi v165 c0_i32_75
  let c256_i32_76 : BitVec 32 := 256#32
  let v167 : BitVec 32 := Scalar.muli v166 c256_i32_76
  let v168 : BitVec 32 := v167
  let v193 : Index := Scalar.indexCast v168
  let c384_87 : Index := 384#32
  ![0, v193.toNat, 384]
def k0_mult4 (i : grid0.Coords) : BitVec 32 :=
  let arg2 : BitVec 32 := BitVec.ofNat 32 (i 2).val
  let c2_i32 : BitVec 32 := 2#32
  let v3 : BitVec 32 := Scalar.muli arg2 c2_i32
  let c1_i32_73 : BitVec 32 := 1#32
  let v164 : BitVec 32 := Scalar.subi v3 c1_i32_73
  let c1_i32_89 : BitVec 32 := 1#32
  let v201 : BitVec 32 := Scalar.subi v164 c1_i32_89
  let c0_i32_90 : BitVec 32 := 0#32
  let v202 : BitVec 32 := Scalar.maxsi v201 c0_i32_90
  let c256_i32_91 : BitVec 32 := 256#32
  let v203 : BitVec 32 := Scalar.muli v202 c256_i32_91
  v203
@[reducible] def k0_t1_loop (i : grid0.Coords) : Scf.Loop 32 :=
  let c0_i32_128 : BitVec 32 := 0#32
  let arg2 : BitVec 32 := BitVec.ofNat 32 (i 2).val
  let c2_i32 : BitVec 32 := 2#32
  let v3 : BitVec 32 := Scalar.muli arg2 c2_i32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_130 : BitVec 32 := 1#32
  ⟨c0_i32_128, v283, c1_i32_130⟩
def k0_mult5 (i : grid0.Coords) (k0_t1 : Fin (k0_t1_loop i).trips) : BitVec 32 :=
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let c2_i32_146 : BitVec 32 := 2#32
  let v321 : BitVec 32 := Scalar.subi v320 c2_i32_146
  let c0_i32_147 : BitVec 32 := 0#32
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  v324
def k0_off13 (i : grid0.Coords) (k0_t1 : Fin (k0_t1_loop i).trips) (c0_i32_147 : BitVec 32) : Fin 3 → Nat :=
  let c0_150 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let c2_i32_146 : BitVec 32 := 2#32
  let v321 : BitVec 32 := Scalar.subi v320 c2_i32_146
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  let v325 : BitVec 32 := v324
  let v326 : Index := Scalar.indexCast v325
  let c0_151 : Index := 0#32
  ![0, v326.toNat, 0]
def k0_off14 (i : grid0.Coords) (k0_t1 : Fin (k0_t1_loop i).trips) (c0_i32_147 : BitVec 32) : Fin 3 → Nat :=
  let c0_153 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let c2_i32_146 : BitVec 32 := 2#32
  let v321 : BitVec 32 := Scalar.subi v320 c2_i32_146
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  let v325 : BitVec 32 := v324
  let v334 : Index := Scalar.indexCast v325
  let c128_154 : Index := 128#32
  ![0, v334.toNat, 128]
def k0_off15 (i : grid0.Coords) (k0_t1 : Fin (k0_t1_loop i).trips) (c0_i32_147 : BitVec 32) : Fin 3 → Nat :=
  let c0_156 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let c2_i32_146 : BitVec 32 := 2#32
  let v321 : BitVec 32 := Scalar.subi v320 c2_i32_146
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  let v325 : BitVec 32 := v324
  let v342 : Index := Scalar.indexCast v325
  let c256_157 : Index := 256#32
  ![0, v342.toNat, 256]
def k0_off16 (i : grid0.Coords) (k0_t1 : Fin (k0_t1_loop i).trips) (c0_i32_147 : BitVec 32) : Fin 3 → Nat :=
  let c0_159 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let c2_i32_146 : BitVec 32 := 2#32
  let v321 : BitVec 32 := Scalar.subi v320 c2_i32_146
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  let v325 : BitVec 32 := v324
  let v350 : Index := Scalar.indexCast v325
  let c384_160 : Index := 384#32
  ![0, v350.toNat, 384]
def k0_mult6 (i : grid0.Coords) (k0_t1 : Fin (k0_t1_loop i).trips) : BitVec 32 :=
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let c2_i32_146 : BitVec 32 := 2#32
  let v321 : BitVec 32 := Scalar.subi v320 c2_i32_146
  let c1_i32_162 : BitVec 32 := 1#32
  let v358 : BitVec 32 := Scalar.subi v321 c1_i32_162
  let c0_i32_163 : BitVec 32 := 0#32
  let v359 : BitVec 32 := Scalar.maxsi v358 c0_i32_163
  let c256_i32_164 : BitVec 32 := 256#32
  let v360 : BitVec 32 := Scalar.muli v359 c256_i32_164
  v360
def k0_off17 (i : grid0.Coords) (k0_t1 : Fin (k0_t1_loop i).trips) (c0_i32_177 : BitVec 32) : Fin 4 → Nat :=
  let c0_178 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let v394 : BitVec 32 := Scalar.subi v320 c0_i32_177
  let v395 : Index := Scalar.indexCast v394
  let c0_179 : Index := 0#32
  let c0_180 : Index := 0#32
  ![0, v395.toNat, 0, 0]
def k0_off18 (i : grid0.Coords) (k0_t1 : Fin (k0_t1_loop i).trips) (c0_i32_177 : BitVec 32) : Fin 4 → Nat :=
  let c0_182 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let v394 : BitVec 32 := Scalar.subi v320 c0_i32_177
  let v401 : Index := Scalar.indexCast v394
  let c64_183 : Index := 64#32
  let c0_184 : Index := 0#32
  ![0, v401.toNat, 64, 0]
def k0_off19 (i : grid0.Coords) (k0_t1 : Fin (k0_t1_loop i).trips) (c0_i32_177 : BitVec 32) : Fin 4 → Nat :=
  let c0_186 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let v394 : BitVec 32 := Scalar.subi v320 c0_i32_177
  let v407 : Index := Scalar.indexCast v394
  let c128_187 : Index := 128#32
  let c0_188 : Index := 0#32
  ![0, v407.toNat, 128, 0]
def k0_off20 (i : grid0.Coords) (k0_t1 : Fin (k0_t1_loop i).trips) (c0_i32_177 : BitVec 32) : Fin 4 → Nat :=
  let c0_190 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c1_i32_130 : BitVec 32 := 1#32
  let arg8 : BitVec 32 := Scf.iv c0_i32_128 c1_i32_130 k0_t1
  let v319 : BitVec 32 := Scalar.muli c2_i32_145 arg8
  let v320 : BitVec 32 := Scalar.subi v318 v319
  let v394 : BitVec 32 := Scalar.subi v320 c0_i32_177
  let v413 : Index := Scalar.indexCast v394
  let c192_191 : Index := 192#32
  let c0_192 : Index := 0#32
  ![0, v413.toNat, 192, 0]
@[reducible] def k0_t2_loop (i : grid0.Coords) : Scf.Loop 32 :=
  let c0_i32_128 : BitVec 32 := 0#32
  let arg2 : BitVec 32 := BitVec.ofNat 32 (i 2).val
  let c2_i32 : BitVec 32 := 2#32
  let v3 : BitVec 32 := Scalar.muli arg2 c2_i32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let v280 : BitVec 32 := Scalar.addi c0_i32_128 v279
  let c1_i32_131 : BitVec 32 := 1#32
  ⟨v283, v280, c1_i32_131⟩
def k0_mult7 (i : grid0.Coords) (k0_t2 : Fin (k0_t2_loop i).trips) : BitVec 32 :=
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let c2_i32_146 : BitVec 32 := 2#32
  let v321 : BitVec 32 := Scalar.subi v320 c2_i32_146
  let c0_i32_147 : BitVec 32 := 0#32
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  v324
def k0_off21 (i : grid0.Coords) (k0_t2 : Fin (k0_t2_loop i).trips) (c0_i32_147 : BitVec 32) : Fin 3 → Nat :=
  let c0_150 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let c2_i32_146 : BitVec 32 := 2#32
  let v321 : BitVec 32 := Scalar.subi v320 c2_i32_146
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  let v325 : BitVec 32 := v324
  let v326 : Index := Scalar.indexCast v325
  let c0_151 : Index := 0#32
  ![0, v326.toNat, 0]
def k0_off22 (i : grid0.Coords) (k0_t2 : Fin (k0_t2_loop i).trips) (c0_i32_147 : BitVec 32) : Fin 3 → Nat :=
  let c0_153 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let c2_i32_146 : BitVec 32 := 2#32
  let v321 : BitVec 32 := Scalar.subi v320 c2_i32_146
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  let v325 : BitVec 32 := v324
  let v334 : Index := Scalar.indexCast v325
  let c128_154 : Index := 128#32
  ![0, v334.toNat, 128]
def k0_off23 (i : grid0.Coords) (k0_t2 : Fin (k0_t2_loop i).trips) (c0_i32_147 : BitVec 32) : Fin 3 → Nat :=
  let c0_156 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let c2_i32_146 : BitVec 32 := 2#32
  let v321 : BitVec 32 := Scalar.subi v320 c2_i32_146
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  let v325 : BitVec 32 := v324
  let v342 : Index := Scalar.indexCast v325
  let c256_157 : Index := 256#32
  ![0, v342.toNat, 256]
def k0_off24 (i : grid0.Coords) (k0_t2 : Fin (k0_t2_loop i).trips) (c0_i32_147 : BitVec 32) : Fin 3 → Nat :=
  let c0_159 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let c2_i32_146 : BitVec 32 := 2#32
  let v321 : BitVec 32 := Scalar.subi v320 c2_i32_146
  let v322 : BitVec 32 := Scalar.subi v321 c0_i32_147
  let c0_i32_148 : BitVec 32 := 0#32
  let v323 : BitVec 32 := Scalar.maxsi v322 c0_i32_148
  let c256_i32_149 : BitVec 32 := 256#32
  let v324 : BitVec 32 := Scalar.muli v323 c256_i32_149
  let v325 : BitVec 32 := v324
  let v350 : Index := Scalar.indexCast v325
  let c384_160 : Index := 384#32
  ![0, v350.toNat, 384]
def k0_mult8 (i : grid0.Coords) (k0_t2 : Fin (k0_t2_loop i).trips) : BitVec 32 :=
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let c2_i32_146 : BitVec 32 := 2#32
  let v321 : BitVec 32 := Scalar.subi v320 c2_i32_146
  let c1_i32_162 : BitVec 32 := 1#32
  let v358 : BitVec 32 := Scalar.subi v321 c1_i32_162
  let c0_i32_163 : BitVec 32 := 0#32
  let v359 : BitVec 32 := Scalar.maxsi v358 c0_i32_163
  let c256_i32_164 : BitVec 32 := 256#32
  let v360 : BitVec 32 := Scalar.muli v359 c256_i32_164
  v360
def k0_off25 (i : grid0.Coords) (k0_t2 : Fin (k0_t2_loop i).trips) (c0_i32_177 : BitVec 32) : Fin 4 → Nat :=
  let c0_178 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let v394 : BitVec 32 := Scalar.subi v320 c0_i32_177
  let v395 : Index := Scalar.indexCast v394
  let c0_179 : Index := 0#32
  let c0_180 : Index := 0#32
  ![0, v395.toNat, 0, 0]
def k0_off26 (i : grid0.Coords) (k0_t2 : Fin (k0_t2_loop i).trips) (c0_i32_177 : BitVec 32) : Fin 4 → Nat :=
  let c0_182 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let v394 : BitVec 32 := Scalar.subi v320 c0_i32_177
  let v401 : Index := Scalar.indexCast v394
  let c64_183 : Index := 64#32
  let c0_184 : Index := 0#32
  ![0, v401.toNat, 64, 0]
def k0_off27 (i : grid0.Coords) (k0_t2 : Fin (k0_t2_loop i).trips) (c0_i32_177 : BitVec 32) : Fin 4 → Nat :=
  let c0_186 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let v394 : BitVec 32 := Scalar.subi v320 c0_i32_177
  let v407 : Index := Scalar.indexCast v394
  let c128_187 : Index := 128#32
  let c0_188 : Index := 0#32
  ![0, v407.toNat, 128, 0]
def k0_off28 (i : grid0.Coords) (k0_t2 : Fin (k0_t2_loop i).trips) (c0_i32_177 : BitVec 32) : Fin 4 → Nat :=
  let c0_190 : Index := 0#32
  let arg2 : BitVec 32 := BitVec.ofNat 32 (i 2).val
  let c2_i32 : BitVec 32 := 2#32
  let v3 : BitVec 32 := Scalar.muli arg2 c2_i32
  let c1_i32_144 : BitVec 32 := 1#32
  let v318 : BitVec 32 := Scalar.subi v3 c1_i32_144
  let c2_i32_145 : BitVec 32 := 2#32
  let c0_i32_128 : BitVec 32 := 0#32
  let c0_i32_122 : BitVec 32 := 0#32
  let v263 : BitVec 1 := Scalar.cmpi .sgt v3 c0_i32_122
  let v264 : BitVec 32 := Scalar.extui v263
  let c0_i32_123 : BitVec 32 := 0#32
  let v265 : BitVec 1 := Scalar.cmpi .slt v3 c0_i32_123
  let v266 : BitVec 32 := Scalar.extui v265
  let v267 : BitVec 32 := Scalar.subi v264 v266
  let c2_i32_121 : BitVec 32 := 2#32
  let c0_i32_124 : BitVec 32 := 0#32
  let v268 : BitVec 1 := Scalar.cmpi .sgt c2_i32_121 c0_i32_124
  let v269 : BitVec 32 := Scalar.extui v268
  let c0_i32_125 : BitVec 32 := 0#32
  let v270 : BitVec 1 := Scalar.cmpi .slt c2_i32_121 c0_i32_125
  let v271 : BitVec 32 := Scalar.extui v270
  let v272 : BitVec 32 := Scalar.subi v269 v271
  let v273 : BitVec 1 := Scalar.cmpi .ne v267 v272
  let v274 : BitVec 32 := Scalar.remsi v3 c2_i32_121
  let c0_i32_126 : BitVec 32 := 0#32
  let v275 : BitVec 1 := Scalar.cmpi .ne v274 c0_i32_126
  let v276 : BitVec 1 := Scalar.andi v273 v275
  let v262 : BitVec 32 := Scalar.divsi v3 c2_i32_121
  let c1_i32_127 : BitVec 32 := 1#32
  let v277 : BitVec 32 := Scalar.subi v262 c1_i32_127
  let v278 : BitVec 32 := Scalar.select v276 v277 v262
  let v279 : BitVec 32 := Scalar.subi v278 c0_i32_128
  let c1_i32_129 : BitVec 32 := 1#32
  let v281 : BitVec 32 := Scalar.divsi v279 c1_i32_129
  let v282 : BitVec 32 := Scalar.muli v281 c1_i32_129
  let v283 : BitVec 32 := Scalar.addi c0_i32_128 v282
  let c1_i32_131 : BitVec 32 := 1#32
  let arg8 : BitVec 32 := Scf.iv v283 c1_i32_131 k0_t2
  let v319 : BitVec 32 := Scalar.muli c2_i32_145 arg8
  let v320 : BitVec 32 := Scalar.subi v318 v319
  let v394 : BitVec 32 := Scalar.subi v320 c0_i32_177
  let v413 : Index := Scalar.indexCast v394
  let c192_191 : Index := 192#32
  let c0_192 : Index := 0#32
  ![0, v413.toNat, 192, 0]
def k0_mult9 (i : grid0.Coords) : BitVec 32 :=
  let arg2 : BitVec 32 := BitVec.ofNat 32 (i 2).val
  let c2_i32 : BitVec 32 := 2#32
  let v3 : BitVec 32 := Scalar.muli arg2 c2_i32
  let c2_i32_20 : BitVec 32 := 2#32
  let v40 : BitVec 32 := Scalar.addi v3 c2_i32_20
  let c1_i32 : BitVec 32 := 1#32
  let v41 : BitVec 32 := Scalar.subi v40 c1_i32
  let c256_i32 : BitVec 32 := 256#32
  let v42 : BitVec 32 := Scalar.muli v41 c256_i32
  v42
def k0_off29 (i : grid0.Coords) (c2_i32_20 : BitVec 32) : Fin 3 → Nat :=
  let c0_23 : Index := 0#32
  let arg2 : BitVec 32 := BitVec.ofNat 32 (i 2).val
  let c2_i32 : BitVec 32 := 2#32
  let v3 : BitVec 32 := Scalar.muli arg2 c2_i32
  let v40 : BitVec 32 := Scalar.addi v3 c2_i32_20
  let c1_i32 : BitVec 32 := 1#32
  let v41 : BitVec 32 := Scalar.subi v40 c1_i32
  let c256_i32 : BitVec 32 := 256#32
  let v42 : BitVec 32 := Scalar.muli v41 c256_i32
  let v43 : BitVec 32 := v42
  let v51 : Index := Scalar.indexCast v43
  let c0_24 : Index := 0#32
  ![0, v51.toNat, 0]
def k0_off30 (i : grid0.Coords) (c2_i32_20 : BitVec 32) : Fin 3 → Nat :=
  let c0_28 : Index := 0#32
  let arg2 : BitVec 32 := BitVec.ofNat 32 (i 2).val
  let c2_i32 : BitVec 32 := 2#32
  let v3 : BitVec 32 := Scalar.muli arg2 c2_i32
  let v40 : BitVec 32 := Scalar.addi v3 c2_i32_20
  let c1_i32 : BitVec 32 := 1#32
  let v41 : BitVec 32 := Scalar.subi v40 c1_i32
  let c256_i32 : BitVec 32 := 256#32
  let v42 : BitVec 32 := Scalar.muli v41 c256_i32
  let v43 : BitVec 32 := v42
  let v59 : Index := Scalar.indexCast v43
  let c128_29 : Index := 128#32
  ![0, v59.toNat, 128]
def k0_off31 (i : grid0.Coords) (c2_i32_20 : BitVec 32) : Fin 3 → Nat :=
  let c0_33 : Index := 0#32
  let arg2 : BitVec 32 := BitVec.ofNat 32 (i 2).val
  let c2_i32 : BitVec 32 := 2#32
  let v3 : BitVec 32 := Scalar.muli arg2 c2_i32
  let v40 : BitVec 32 := Scalar.addi v3 c2_i32_20
  let c1_i32 : BitVec 32 := 1#32
  let v41 : BitVec 32 := Scalar.subi v40 c1_i32
  let c256_i32 : BitVec 32 := 256#32
  let v42 : BitVec 32 := Scalar.muli v41 c256_i32
  let v43 : BitVec 32 := v42
  let v67 : Index := Scalar.indexCast v43
  let c256_34 : Index := 256#32
  ![0, v67.toNat, 256]
def k0_off32 (i : grid0.Coords) (c2_i32_20 : BitVec 32) : Fin 3 → Nat :=
  let c0_38 : Index := 0#32
  let arg2 : BitVec 32 := BitVec.ofNat 32 (i 2).val
  let c2_i32 : BitVec 32 := 2#32
  let v3 : BitVec 32 := Scalar.muli arg2 c2_i32
  let v40 : BitVec 32 := Scalar.addi v3 c2_i32_20
  let c1_i32 : BitVec 32 := 1#32
  let v41 : BitVec 32 := Scalar.subi v40 c1_i32
  let c256_i32 : BitVec 32 := 256#32
  let v42 : BitVec 32 := Scalar.muli v41 c256_i32
  let v43 : BitVec 32 := v42
  let v75 : Index := Scalar.indexCast v43
  let c384_39 : Index := 384#32
  ![0, v75.toNat, 384]
def k0_mult10 (i : grid0.Coords) : BitVec 32 :=
  let arg2 : BitVec 32 := BitVec.ofNat 32 (i 2).val
  let c2_i32 : BitVec 32 := 2#32
  let v3 : BitVec 32 := Scalar.muli arg2 c2_i32
  let c1_i32_43 : BitVec 32 := 1#32
  let v83 : BitVec 32 := Scalar.addi v3 c1_i32_43
  let c1_i32_44 : BitVec 32 := 1#32
  let v84 : BitVec 32 := Scalar.subi v83 c1_i32_44
  let c256_i32_45 : BitVec 32 := 256#32
  let v85 : BitVec 32 := Scalar.muli v84 c256_i32_45
  v85
def k0_off33 (i : grid0.Coords) (c1_i32_69 : BitVec 32) : Fin 4 → Nat :=
  let c0_70 : Index := 0#32
  let arg2 : BitVec 32 := BitVec.ofNat 32 (i 2).val
  let c2_i32 : BitVec 32 := 2#32
  let v3 : BitVec 32 := Scalar.muli arg2 c2_i32
  let v126 : BitVec 32 := Scalar.addi v3 c1_i32_69
  let v127 : Index := Scalar.indexCast v126
  let c0_71 : Index := 0#32
  let c0_72 : Index := 0#32
  ![0, v127.toNat, 0, 0]
def k0_off34 (i : grid0.Coords) (c1_i32_69 : BitVec 32) : Fin 4 → Nat :=
  let c0_74 : Index := 0#32
  let arg2 : BitVec 32 := BitVec.ofNat 32 (i 2).val
  let c2_i32 : BitVec 32 := 2#32
  let v3 : BitVec 32 := Scalar.muli arg2 c2_i32
  let v126 : BitVec 32 := Scalar.addi v3 c1_i32_69
  let v142 : Index := Scalar.indexCast v126
  let c64 : Index := 64#32
  let c0_75 : Index := 0#32
  ![0, v142.toNat, 64, 0]
def k0_off35 (i : grid0.Coords) (c1_i32_69 : BitVec 32) : Fin 4 → Nat :=
  let c0_77 : Index := 0#32
  let arg2 : BitVec 32 := BitVec.ofNat 32 (i 2).val
  let c2_i32 : BitVec 32 := 2#32
  let v3 : BitVec 32 := Scalar.muli arg2 c2_i32
  let v126 : BitVec 32 := Scalar.addi v3 c1_i32_69
  let v157 : Index := Scalar.indexCast v126
  let c128_78 : Index := 128#32
  let c0_79 : Index := 0#32
  ![0, v157.toNat, 128, 0]
def k0_off36 (i : grid0.Coords) (c1_i32_69 : BitVec 32) : Fin 4 → Nat :=
  let c0_81 : Index := 0#32
  let arg2 : BitVec 32 := BitVec.ofNat 32 (i 2).val
  let c2_i32 : BitVec 32 := 2#32
  let v3 : BitVec 32 := Scalar.muli arg2 c2_i32
  let v126 : BitVec 32 := Scalar.addi v3 c1_i32_69
  let v172 : Index := Scalar.indexCast v126
  let c192 : Index := 192#32
  let c0_82 : Index := 0#32
  ![0, v172.toNat, 192, 0]
def k0_mult11 (i : grid0.Coords) : BitVec 32 :=
  let arg2 : BitVec 32 := BitVec.ofNat 32 (i 2).val
  let c2_i32 : BitVec 32 := 2#32
  let v3 : BitVec 32 := Scalar.muli arg2 c2_i32
  let c1_i32_84 : BitVec 32 := 1#32
  let v187 : BitVec 32 := Scalar.subi v3 c1_i32_84
  let c0_i32_85 : BitVec 32 := 0#32
  let v188 : BitVec 32 := Scalar.subi v187 c0_i32_85
  let c0_i32_86 : BitVec 32 := 0#32
  let v189 : BitVec 32 := Scalar.maxsi v188 c0_i32_86
  let c256_i32_87 : BitVec 32 := 256#32
  let v190 : BitVec 32 := Scalar.muli v189 c256_i32_87
  v190
def k0_off37 (i : grid0.Coords) : Fin 3 → Nat :=
  let c0_88 : Index := 0#32
  let arg2 : BitVec 32 := BitVec.ofNat 32 (i 2).val
  let c2_i32 : BitVec 32 := 2#32
  let v3 : BitVec 32 := Scalar.muli arg2 c2_i32
  let c1_i32_84 : BitVec 32 := 1#32
  let v187 : BitVec 32 := Scalar.subi v3 c1_i32_84
  let c0_i32_85 : BitVec 32 := 0#32
  let v188 : BitVec 32 := Scalar.subi v187 c0_i32_85
  let c0_i32_86 : BitVec 32 := 0#32
  let v189 : BitVec 32 := Scalar.maxsi v188 c0_i32_86
  let c256_i32_87 : BitVec 32 := 256#32
  let v190 : BitVec 32 := Scalar.muli v189 c256_i32_87
  let v191 : BitVec 32 := v190
  let v192 : Index := Scalar.indexCast v191
  let c0_89 : Index := 0#32
  ![0, v192.toNat, 0]
def k0_off38 (i : grid0.Coords) : Fin 3 → Nat :=
  let c0_92 : Index := 0#32
  let arg2 : BitVec 32 := BitVec.ofNat 32 (i 2).val
  let c2_i32 : BitVec 32 := 2#32
  let v3 : BitVec 32 := Scalar.muli arg2 c2_i32
  let c1_i32_84 : BitVec 32 := 1#32
  let v187 : BitVec 32 := Scalar.subi v3 c1_i32_84
  let c0_i32_85 : BitVec 32 := 0#32
  let v188 : BitVec 32 := Scalar.subi v187 c0_i32_85
  let c0_i32_86 : BitVec 32 := 0#32
  let v189 : BitVec 32 := Scalar.maxsi v188 c0_i32_86
  let c256_i32_87 : BitVec 32 := 256#32
  let v190 : BitVec 32 := Scalar.muli v189 c256_i32_87
  let v191 : BitVec 32 := v190
  let v198 : Index := Scalar.indexCast v191
  let c128_93 : Index := 128#32
  ![0, v198.toNat, 128]
def k0_off39 (i : grid0.Coords) : Fin 3 → Nat :=
  let c0_96 : Index := 0#32
  let arg2 : BitVec 32 := BitVec.ofNat 32 (i 2).val
  let c2_i32 : BitVec 32 := 2#32
  let v3 : BitVec 32 := Scalar.muli arg2 c2_i32
  let c1_i32_84 : BitVec 32 := 1#32
  let v187 : BitVec 32 := Scalar.subi v3 c1_i32_84
  let c0_i32_85 : BitVec 32 := 0#32
  let v188 : BitVec 32 := Scalar.subi v187 c0_i32_85
  let c0_i32_86 : BitVec 32 := 0#32
  let v189 : BitVec 32 := Scalar.maxsi v188 c0_i32_86
  let c256_i32_87 : BitVec 32 := 256#32
  let v190 : BitVec 32 := Scalar.muli v189 c256_i32_87
  let v191 : BitVec 32 := v190
  let v204 : Index := Scalar.indexCast v191
  let c256_97 : Index := 256#32
  ![0, v204.toNat, 256]
def k0_off40 (i : grid0.Coords) : Fin 3 → Nat :=
  let c0_100 : Index := 0#32
  let arg2 : BitVec 32 := BitVec.ofNat 32 (i 2).val
  let c2_i32 : BitVec 32 := 2#32
  let v3 : BitVec 32 := Scalar.muli arg2 c2_i32
  let c1_i32_84 : BitVec 32 := 1#32
  let v187 : BitVec 32 := Scalar.subi v3 c1_i32_84
  let c0_i32_85 : BitVec 32 := 0#32
  let v188 : BitVec 32 := Scalar.subi v187 c0_i32_85
  let c0_i32_86 : BitVec 32 := 0#32
  let v189 : BitVec 32 := Scalar.maxsi v188 c0_i32_86
  let c256_i32_87 : BitVec 32 := 256#32
  let v190 : BitVec 32 := Scalar.muli v189 c256_i32_87
  let v191 : BitVec 32 := v190
  let v210 : Index := Scalar.indexCast v191
  let c384_101 : Index := 384#32
  ![0, v210.toNat, 384]
@[reducible] def k0_t3_loop (i : grid0.Coords) : Scf.Loop 32 :=
  let c0_i32_128 : BitVec 32 := 0#32
  let arg2 : BitVec 32 := BitVec.ofNat 32 (i 2).val
  let c2_i32 : BitVec 32 := 2#32
  let v3 : BitVec 32 := Scalar.muli arg2 c2_i32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_130 : BitVec 32 := 1#32
  ⟨c0_i32_128, v298, c1_i32_130⟩
def k0_mult12 (i : grid0.Coords) (k0_t3 : Fin (k0_t3_loop i).trips) : BitVec 32 :=
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c1_i32_130 : BitVec 32 := 1#32
  let arg8 : BitVec 32 := Scf.iv c0_i32_128 c1_i32_130 k0_t3
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  v339
def k0_off41 (i : grid0.Coords) (k0_t3 : Fin (k0_t3_loop i).trips) : Fin 3 → Nat :=
  let c0_150 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c1_i32_130 : BitVec 32 := 1#32
  let arg8 : BitVec 32 := Scf.iv c0_i32_128 c1_i32_130 k0_t3
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  let v340 : BitVec 32 := v339
  let v341 : Index := Scalar.indexCast v340
  let c0_151 : Index := 0#32
  ![0, v341.toNat, 0]
def k0_off42 (i : grid0.Coords) (k0_t3 : Fin (k0_t3_loop i).trips) : Fin 3 → Nat :=
  let c0_154 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c1_i32_130 : BitVec 32 := 1#32
  let arg8 : BitVec 32 := Scf.iv c0_i32_128 c1_i32_130 k0_t3
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  let v340 : BitVec 32 := v339
  let v347 : Index := Scalar.indexCast v340
  let c128_155 : Index := 128#32
  ![0, v347.toNat, 128]
def k0_off43 (i : grid0.Coords) (k0_t3 : Fin (k0_t3_loop i).trips) : Fin 3 → Nat :=
  let c0_158 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c1_i32_130 : BitVec 32 := 1#32
  let arg8 : BitVec 32 := Scf.iv c0_i32_128 c1_i32_130 k0_t3
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  let v340 : BitVec 32 := v339
  let v353 : Index := Scalar.indexCast v340
  let c256_159 : Index := 256#32
  ![0, v353.toNat, 256]
def k0_off44 (i : grid0.Coords) (k0_t3 : Fin (k0_t3_loop i).trips) : Fin 3 → Nat :=
  let c0_162 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c1_i32_130 : BitVec 32 := 1#32
  let arg8 : BitVec 32 := Scf.iv c0_i32_128 c1_i32_130 k0_t3
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  let v340 : BitVec 32 := v339
  let v359 : Index := Scalar.indexCast v340
  let c384_163 : Index := 384#32
  ![0, v359.toNat, 384]
def k0_off45 (i : grid0.Coords) (k0_t3 : Fin (k0_t3_loop i).trips) : Fin 4 → Nat :=
  let c0_167 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c1_i32_130 : BitVec 32 := 1#32
  let arg8 : BitVec 32 := Scf.iv c0_i32_128 c1_i32_130 k0_t3
  let v334 : BitVec 32 := Scalar.muli c1_i32_145 arg8
  let v335 : BitVec 32 := Scalar.subi v333 v334
  let c0_i32_166 : BitVec 32 := 0#32
  let v365 : BitVec 32 := Scalar.subi v335 c0_i32_166
  let v366 : Index := Scalar.indexCast v365
  let c0_168 : Index := 0#32
  let c0_169 : Index := 0#32
  ![0, v366.toNat, 0, 0]
def k0_off46 (i : grid0.Coords) (k0_t3 : Fin (k0_t3_loop i).trips) : Fin 4 → Nat :=
  let c0_171 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c1_i32_130 : BitVec 32 := 1#32
  let arg8 : BitVec 32 := Scf.iv c0_i32_128 c1_i32_130 k0_t3
  let v334 : BitVec 32 := Scalar.muli c1_i32_145 arg8
  let v335 : BitVec 32 := Scalar.subi v333 v334
  let c0_i32_166 : BitVec 32 := 0#32
  let v365 : BitVec 32 := Scalar.subi v335 c0_i32_166
  let v381 : Index := Scalar.indexCast v365
  let c64_172 : Index := 64#32
  let c0_173 : Index := 0#32
  ![0, v381.toNat, 64, 0]
def k0_off47 (i : grid0.Coords) (k0_t3 : Fin (k0_t3_loop i).trips) : Fin 4 → Nat :=
  let c0_175 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c1_i32_130 : BitVec 32 := 1#32
  let arg8 : BitVec 32 := Scf.iv c0_i32_128 c1_i32_130 k0_t3
  let v334 : BitVec 32 := Scalar.muli c1_i32_145 arg8
  let v335 : BitVec 32 := Scalar.subi v333 v334
  let c0_i32_166 : BitVec 32 := 0#32
  let v365 : BitVec 32 := Scalar.subi v335 c0_i32_166
  let v396 : Index := Scalar.indexCast v365
  let c128_176 : Index := 128#32
  let c0_177 : Index := 0#32
  ![0, v396.toNat, 128, 0]
def k0_off48 (i : grid0.Coords) (k0_t3 : Fin (k0_t3_loop i).trips) : Fin 4 → Nat :=
  let c0_179 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c1_i32_130 : BitVec 32 := 1#32
  let arg8 : BitVec 32 := Scf.iv c0_i32_128 c1_i32_130 k0_t3
  let v334 : BitVec 32 := Scalar.muli c1_i32_145 arg8
  let v335 : BitVec 32 := Scalar.subi v333 v334
  let c0_i32_166 : BitVec 32 := 0#32
  let v365 : BitVec 32 := Scalar.subi v335 c0_i32_166
  let v411 : Index := Scalar.indexCast v365
  let c192_180 : Index := 192#32
  let c0_181 : Index := 0#32
  ![0, v411.toNat, 192, 0]
@[reducible] def k0_t4_loop (i : grid0.Coords) : Scf.Loop 32 :=
  let c0_i32_128 : BitVec 32 := 0#32
  let arg2 : BitVec 32 := BitVec.ofNat 32 (i 2).val
  let c2_i32 : BitVec 32 := 2#32
  let v3 : BitVec 32 := Scalar.muli arg2 c2_i32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let v295 : BitVec 32 := Scalar.addi c0_i32_128 v294
  let c1_i32_131 : BitVec 32 := 1#32
  ⟨v298, v295, c1_i32_131⟩
def k0_mult13 (i : grid0.Coords) (k0_t4 : Fin (k0_t4_loop i).trips) : BitVec 32 :=
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_131 : BitVec 32 := 1#32
  let arg8 : BitVec 32 := Scf.iv v298 c1_i32_131 k0_t4
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  v339
def k0_off49 (i : grid0.Coords) (k0_t4 : Fin (k0_t4_loop i).trips) : Fin 3 → Nat :=
  let c0_150 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_131 : BitVec 32 := 1#32
  let arg8 : BitVec 32 := Scf.iv v298 c1_i32_131 k0_t4
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  let v340 : BitVec 32 := v339
  let v341 : Index := Scalar.indexCast v340
  let c0_151 : Index := 0#32
  ![0, v341.toNat, 0]
def k0_off50 (i : grid0.Coords) (k0_t4 : Fin (k0_t4_loop i).trips) : Fin 3 → Nat :=
  let c0_154 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_131 : BitVec 32 := 1#32
  let arg8 : BitVec 32 := Scf.iv v298 c1_i32_131 k0_t4
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  let v340 : BitVec 32 := v339
  let v347 : Index := Scalar.indexCast v340
  let c128_155 : Index := 128#32
  ![0, v347.toNat, 128]
def k0_off51 (i : grid0.Coords) (k0_t4 : Fin (k0_t4_loop i).trips) : Fin 3 → Nat :=
  let c0_158 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_131 : BitVec 32 := 1#32
  let arg8 : BitVec 32 := Scf.iv v298 c1_i32_131 k0_t4
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  let v340 : BitVec 32 := v339
  let v353 : Index := Scalar.indexCast v340
  let c256_159 : Index := 256#32
  ![0, v353.toNat, 256]
def k0_off52 (i : grid0.Coords) (k0_t4 : Fin (k0_t4_loop i).trips) : Fin 3 → Nat :=
  let c0_162 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_131 : BitVec 32 := 1#32
  let arg8 : BitVec 32 := Scf.iv v298 c1_i32_131 k0_t4
  let v334 : BitVec 32 := Scalar.muli c1_i32_145 arg8
  let v335 : BitVec 32 := Scalar.subi v333 v334
  let c1_i32_146 : BitVec 32 := 1#32
  let v336 : BitVec 32 := Scalar.subi v335 c1_i32_146
  let c0_i32_147 : BitVec 32 := 0#32
  let v337 : BitVec 32 := Scalar.subi v336 c0_i32_147
  let c0_i32_148 : BitVec 32 := 0#32
  let v338 : BitVec 32 := Scalar.maxsi v337 c0_i32_148
  let c256_i32_149 : BitVec 32 := 256#32
  let v339 : BitVec 32 := Scalar.muli v338 c256_i32_149
  let v340 : BitVec 32 := v339
  let v359 : Index := Scalar.indexCast v340
  let c384_163 : Index := 384#32
  ![0, v359.toNat, 384]
def k0_off53 (i : grid0.Coords) (k0_t4 : Fin (k0_t4_loop i).trips) : Fin 4 → Nat :=
  let c0_167 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_131 : BitVec 32 := 1#32
  let arg8 : BitVec 32 := Scf.iv v298 c1_i32_131 k0_t4
  let v334 : BitVec 32 := Scalar.muli c1_i32_145 arg8
  let v335 : BitVec 32 := Scalar.subi v333 v334
  let c0_i32_166 : BitVec 32 := 0#32
  let v365 : BitVec 32 := Scalar.subi v335 c0_i32_166
  let v366 : Index := Scalar.indexCast v365
  let c0_168 : Index := 0#32
  let c0_169 : Index := 0#32
  ![0, v366.toNat, 0, 0]
def k0_off54 (i : grid0.Coords) (k0_t4 : Fin (k0_t4_loop i).trips) : Fin 4 → Nat :=
  let c0_171 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_131 : BitVec 32 := 1#32
  let arg8 : BitVec 32 := Scf.iv v298 c1_i32_131 k0_t4
  let v334 : BitVec 32 := Scalar.muli c1_i32_145 arg8
  let v335 : BitVec 32 := Scalar.subi v333 v334
  let c0_i32_166 : BitVec 32 := 0#32
  let v365 : BitVec 32 := Scalar.subi v335 c0_i32_166
  let v381 : Index := Scalar.indexCast v365
  let c64_172 : Index := 64#32
  let c0_173 : Index := 0#32
  ![0, v381.toNat, 64, 0]
def k0_off55 (i : grid0.Coords) (k0_t4 : Fin (k0_t4_loop i).trips) : Fin 4 → Nat :=
  let c0_175 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_131 : BitVec 32 := 1#32
  let arg8 : BitVec 32 := Scf.iv v298 c1_i32_131 k0_t4
  let v334 : BitVec 32 := Scalar.muli c1_i32_145 arg8
  let v335 : BitVec 32 := Scalar.subi v333 v334
  let c0_i32_166 : BitVec 32 := 0#32
  let v365 : BitVec 32 := Scalar.subi v335 c0_i32_166
  let v396 : Index := Scalar.indexCast v365
  let c128_176 : Index := 128#32
  let c0_177 : Index := 0#32
  ![0, v396.toNat, 128, 0]
def k0_off56 (i : grid0.Coords) (k0_t4 : Fin (k0_t4_loop i).trips) : Fin 4 → Nat :=
  let c0_179 : Index := 0#32
  let arg2 : BitVec 32 := BitVec.ofNat 32 (i 2).val
  let c2_i32 : BitVec 32 := 2#32
  let v3 : BitVec 32 := Scalar.muli arg2 c2_i32
  let c1_i32_144 : BitVec 32 := 1#32
  let v333 : BitVec 32 := Scalar.subi v3 c1_i32_144
  let c1_i32_145 : BitVec 32 := 1#32
  let c0_i32_128 : BitVec 32 := 0#32
  let c0_i32_122 : BitVec 32 := 0#32
  let v278 : BitVec 1 := Scalar.cmpi .sgt v3 c0_i32_122
  let v279 : BitVec 32 := Scalar.extui v278
  let c0_i32_123 : BitVec 32 := 0#32
  let v280 : BitVec 1 := Scalar.cmpi .slt v3 c0_i32_123
  let v281 : BitVec 32 := Scalar.extui v280
  let v282 : BitVec 32 := Scalar.subi v279 v281
  let c1_i32_121 : BitVec 32 := 1#32
  let c0_i32_124 : BitVec 32 := 0#32
  let v283 : BitVec 1 := Scalar.cmpi .sgt c1_i32_121 c0_i32_124
  let v284 : BitVec 32 := Scalar.extui v283
  let c0_i32_125 : BitVec 32 := 0#32
  let v285 : BitVec 1 := Scalar.cmpi .slt c1_i32_121 c0_i32_125
  let v286 : BitVec 32 := Scalar.extui v285
  let v287 : BitVec 32 := Scalar.subi v284 v286
  let v288 : BitVec 1 := Scalar.cmpi .ne v282 v287
  let v289 : BitVec 32 := Scalar.remsi v3 c1_i32_121
  let c0_i32_126 : BitVec 32 := 0#32
  let v290 : BitVec 1 := Scalar.cmpi .ne v289 c0_i32_126
  let v291 : BitVec 1 := Scalar.andi v288 v290
  let v277 : BitVec 32 := Scalar.divsi v3 c1_i32_121
  let c1_i32_127 : BitVec 32 := 1#32
  let v292 : BitVec 32 := Scalar.subi v277 c1_i32_127
  let v293 : BitVec 32 := Scalar.select v291 v292 v277
  let v294 : BitVec 32 := Scalar.subi v293 c0_i32_128
  let c1_i32_129 : BitVec 32 := 1#32
  let v296 : BitVec 32 := Scalar.divsi v294 c1_i32_129
  let v297 : BitVec 32 := Scalar.muli v296 c1_i32_129
  let v298 : BitVec 32 := Scalar.addi c0_i32_128 v297
  let c1_i32_131 : BitVec 32 := 1#32
  let arg8 : BitVec 32 := Scf.iv v298 c1_i32_131 k0_t4
  let v334 : BitVec 32 := Scalar.muli c1_i32_145 arg8
  let v335 : BitVec 32 := Scalar.subi v333 v334
  let c0_i32_166 : BitVec 32 := 0#32
  let v365 : BitVec 32 := Scalar.subi v335 c0_i32_166
  let v411 : Index := Scalar.indexCast v365
  let c192_180 : Index := 192#32
  let c0_181 : Index := 0#32
  ![0, v411.toNat, 192, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "qscale" => some (((Real.sqrt 96)⁻¹ * (Real.log 2)⁻¹ : ℝ) : EReal)
  | _ => none
-- ==== ReferenceIdeal.lean ====
abbrev S8x4096x8x96 : Shape := ⟨4, ![8, 4096, 8, 96]⟩
abbrev S8x4096x8x64 : Shape := ⟨4, ![8, 4096, 8, 64]⟩
abbrev S96 : Shape := ⟨1, ![96]⟩
abbrev S8x8x4096x4096 : Shape := ⟨4, ![8, 8, 4096, 4096]⟩
abbrev S_ : Shape := ⟨0, ![]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩
abbrev S8x512x4096 : Shape := ⟨3, ![8, 512, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S96, .f32⟩
  | .hbm, ⟨4, _⟩ => ⟨S96, .f32⟩
  | .hbm, ⟨5, _⟩ => ⟨S8x8x4096x4096, .f32⟩
  | .hbm, ⟨6, _⟩ => ⟨S_, .f32⟩
  | .hbm, ⟨7, _⟩ => ⟨S_, .f32⟩
  | .hbm, ⟨8, _⟩ => ⟨S8x8x4096x4096, .f32⟩
  | .hbm, ⟨9, _⟩ => ⟨S8x8x4096x4096, .f32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S4096x4096, .i1⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i1⟩
  | .hbm, ⟨38, _⟩ => ⟨S4096x4096, .i32⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i1⟩
  | .hbm, ⟨43, _⟩ => ⟨S4096x4096, .i1⟩
  | .hbm, ⟨44, _⟩ => ⟨S_, .i32⟩
  | .hbm, ⟨45, _⟩ => ⟨S4096x4096, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S_, .f32⟩
  | .hbm, ⟨50, _⟩ => ⟨S_, .f32⟩
  | .hbm, ⟨51, _⟩ => ⟨S8x8x4096x4096, .i1⟩
  | .hbm, ⟨52, _⟩ => ⟨S8x8x4096x4096, .f32⟩
  | .hbm, ⟨53, _⟩ => ⟨S8x8x4096x4096, .f32⟩
  | .hbm, ⟨54, _⟩ => ⟨S_, .f32⟩
  | .hbm, ⟨55, _⟩ => ⟨S8x8x4096, .f32⟩
  | .hbm, ⟨56, _⟩ => ⟨S_, .f32⟩
  | .hbm, ⟨57, _⟩ => ⟨S8x8x4096, .f32⟩
  | .hbm, ⟨58, _⟩ => ⟨S8x8x4096, .f32⟩
  | .hbm, ⟨59, _⟩ => ⟨S8x8x4096x1, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S_, .f32⟩
  | .hbm, ⟨64, _⟩ => ⟨S8x8x4096, .f32⟩
  | .hbm, ⟨65, _⟩ => ⟨S8x8x4096x1, .f32⟩
  | .hbm, ⟨66, _⟩ => ⟨S8x8x4096x4096, .f32⟩
  | .hbm, ⟨67, _⟩ => ⟨S8x8x4096x4096, .f32⟩
  | .hbm, ⟨68, _⟩ => ⟨S8x8x64x4096, .f32⟩
  | .hbm, ⟨69, _⟩ => ⟨S8x4096x8x64, .f32⟩
  | .hbm, ⟨70, _⟩ => ⟨S8x4096x512, .f32⟩
  | .hbm, ⟨71, _⟩ => ⟨S8x512x4096, .f32⟩
  | .hbm, ⟨72, _⟩ => ⟨S8x512x4096, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v9 : Ref sig .tc := ⟨.hbm, 53, rfl⟩
abbrev main_cst_2 : Ref sig .tc := ⟨.hbm, 54, rfl⟩
abbrev main_v10 : Ref sig .tc := ⟨.hbm, 55, rfl⟩
abbrev main_cst_3 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_4 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩

abbrev nD : Nat := 1
abbrev τ : Topo := Topo.v7x

variable {F : FTy → Type} [FloatOps F]
-- ==== Kernel2.lean ====
abbrev S136 : Shape := ⟨1, ![136]⟩
abbrev S1 : Shape := ⟨1, ![1]⟩
abbrev S69632x1024 : Shape := ⟨2, ![69632, 1024]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩

abbrev nBuf : Space → Nat
  | .hbm => 8
  | .vmem => 10
  | .smem => 2
  | _ => 0

abbrev bufTy : (tb : Table) → Fin (tcTables nBuf tb) → BufTy
  | .hbm, ⟨0, _⟩ => ⟨S69632x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x1024x2816, .bf16⟩
  | .hbm, ⟨5, _⟩ => ⟨S8x1024x2816, .bf16⟩
  | .hbm, ⟨6, _⟩ => ⟨S8x2816x1024, .bf16⟩
  | .hbm, ⟨7, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S512x1024, .f32⟩
  | .local _ .vmem, ⟨9, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S136 : Shape := ⟨1, ![136]⟩
abbrev S1 : Shape := ⟨1, ![1]⟩
abbrev S69632x1024 : Shape := ⟨2, ![69632, 1024]⟩
abbrev S8x1024x2816 : Shape := ⟨3, ![8, 1024, 2816]⟩
abbrev S8x2816x1024 : Shape := ⟨3, ![8, 2816, 1024]⟩
abbrev S136x512x1024 : Shape := ⟨3, ![136, 512, 1024]⟩
abbrev S_ : Shape := ⟨0, ![]⟩
abbrev S1x1024x2816 : Shape := ⟨3, ![1, 1024, 2816]⟩
abbrev S1024x2816 : Shape := ⟨2, ![1024, 2816]⟩
abbrev S136x512x2816 : Shape := ⟨3, ![136, 512, 2816]⟩
abbrev S1x2816x1024 : Shape := ⟨3, ![1, 2816, 1024]⟩
abbrev S2816x1024 : Shape := ⟨2, ![2816, 1024]⟩
abbrev S136x1x1 : Shape := ⟨3, ![136, 1, 1]⟩

abbrev nBuf : Space → Nat
  | .hbm => 220
  | .vmem => 0
  | .smem => 0
  | _ => 0

abbrev hbmTy0_0 (i : Nat) : BufTy := match i % 128 with
  | 0 => ⟨S136, .i32⟩
  | 1 => ⟨S1, .i32⟩
  | 2 => ⟨S69632x1024, .f32⟩
  | 3 => ⟨S8x1024x2816, .f32⟩
  | 4 => ⟨S8x1024x2816, .f32⟩
  | 5 => ⟨S8x2816x1024, .f32⟩
  | 6 => ⟨S136x512x1024, .f32⟩
  | 7 => ⟨S_, .f32⟩
  | 8 => ⟨S136x512x1024, .f32⟩
  | 9 => ⟨S1x1024x2816, .f32⟩
  | 10 => ⟨S1024x2816, .f32⟩
  | 11 => ⟨S136x512x2816, .f32⟩
  | 12 => ⟨S136x512x2816, .f32⟩
  | 13 => ⟨S136x512x2816, .f32⟩
  | 14 => ⟨S_, .f32⟩
  | 15 => ⟨S136x512x2816, .f32⟩
  | 16 => ⟨S136x512x2816, .f32⟩
  | 17 => ⟨S_, .f32⟩
  | 18 => ⟨S136x512x2816, .f32⟩
  | 19 => ⟨S136x512x2816, .f32⟩
  | 20 => ⟨S136x512x2816, .f32⟩
  | 21 => ⟨S1x1024x2816, .f32⟩
  | 22 => ⟨S1024x2816, .f32⟩
  | 23 => ⟨S136x512x2816, .f32⟩
  | 24 => ⟨S136x512x2816, .f32⟩
  | 25 => ⟨S1x2816x1024, .f32⟩
  | 26 => ⟨S2816x1024, .f32⟩
  | 27 => ⟨S136x512x1024, .f32⟩
  | 28 => ⟨S_, .i32⟩
  | 29 => ⟨S136, .i32⟩
  | 30 => ⟨S136, .i1⟩
  | 31 => ⟨S136x1x1, .i1⟩
  | 32 => ⟨S136x512x1024, .i1⟩
  | 33 => ⟨S136x512x1024, .f32⟩
  | 34 => ⟨S1x1024x2816, .f32⟩
  | 35 => ⟨S1024x2816, .f32⟩
  | 36 => ⟨S136x512x2816, .f32⟩
  | 37 => ⟨S136x512x2816, .f32⟩
  | 38 => ⟨S136x512x2816, .f32⟩
  | 39 => ⟨S_, .f32⟩
  | 40 => ⟨S136x512x2816, .f32⟩
  | 41 => ⟨S136x512x2816, .f32⟩
  | 42 => ⟨S_, .f32⟩
  | 43 => ⟨S136x512x2816, .f32⟩
  | 44 => ⟨S136x512x2816, .f32⟩
  | 45 => ⟨S136x512x2816, .f32⟩
  | 46 => ⟨S1x1024x2816, .f32⟩
  | 47 => ⟨S1024x2816, .f32⟩
  | 48 => ⟨S136x512x2816, .f32⟩
  | 49 => ⟨S136x512x2816, .f32⟩
  | 50 => ⟨S1x2816x1024, .f32⟩
  | 51 => ⟨S2816x1024, .f32⟩
  | 52 => ⟨S136x512x1024, .f32⟩
  | 53 => ⟨S_, .i32⟩
  | 54 => ⟨S136, .i32⟩
  | 55 => ⟨S136, .i1⟩
  | 56 => ⟨S136x1x1, .i1⟩
  | 57 => ⟨S136x512x1024, .i1⟩
  | 58 => ⟨S136x512x1024, .f32⟩
  | 59 => ⟨S1x1024x2816, .f32⟩
  | 60 => ⟨S1024x2816, .f32⟩
  | 61 => ⟨S136x512x2816, .f32⟩
  | 62 => ⟨S136x512x2816, .f32⟩
  | 63 => ⟨S136x512x2816, .f32⟩
  | 64 => ⟨S_, .f32⟩
  | 65 => ⟨S136x512x2816, .f32⟩
  | 66 => ⟨S136x512x2816, .f32⟩
  | 67 => ⟨S_, .f32⟩
  | 68 => ⟨S136x512x2816, .f32⟩
  | 69 => ⟨S136x512x2816, .f32⟩
  | 70 => ⟨S136x512x2816, .f32⟩
  | 71 => ⟨S1x1024x2816, .f32⟩
  | 72 => ⟨S1024x2816, .f32⟩
  | 73 => ⟨S136x512x2816, .f32⟩
  | 74 => ⟨S136x512x2816, .f32⟩
  | 75 => ⟨S1x2816x1024, .f32⟩
  | 76 => ⟨S2816x1024, .f32⟩
  | 77 => ⟨S136x512x1024, .f32⟩
  | 78 => ⟨S_, .i32⟩
  | 79 => ⟨S136, .i32⟩
  | 80 => ⟨S136, .i1⟩
  | 81 => ⟨S136x1x1, .i1⟩
  | 82 => ⟨S136x512x1024, .i1⟩
  | 83 => ⟨S136x512x1024, .f32⟩
  | 84 => ⟨S1x1024x2816, .f32⟩
  | 85 => ⟨S1024x2816, .f32⟩
  | 86 => ⟨S136x512x2816, .f32⟩
  | 87 => ⟨S136x512x2816, .f32⟩
  | 88 => ⟨S136x512x2816, .f32⟩
  | 89 => ⟨S_, .f32⟩
  | 90 => ⟨S136x512x2816, .f32⟩
  | 91 => ⟨S136x512x2816, .f32⟩
  | 92 => ⟨S_, .f32⟩
  | 93 => ⟨S136x512x2816, .f32⟩
  | 94 => ⟨S136x512x2816, .f32⟩
  | 95 => ⟨S136x512x2816, .f32⟩
  | 96 => ⟨S1x1024x2816, .f32⟩
  | 97 => ⟨S1024x2816, .f32⟩
  | 98 => ⟨S136x512x2816, .f32⟩
  | 99 => ⟨S136x512x2816, .f32⟩
  | 100 => ⟨S1x2816x1024, .f32⟩
  | 101 => ⟨S2816x1024, .f32⟩
  | 102 => ⟨S136x512x1024, .f32⟩
  | 103 => ⟨S_, .i32⟩
  | 104 => ⟨S136, .i32⟩
  | 105 => ⟨S136, .i1⟩
  | 106 => ⟨S136x1x1, .i1⟩
  | 107 => ⟨S136x512x1024, .i1⟩
  | 108 => ⟨S136x512x1024, .f32⟩
  | 109 => ⟨S1x1024x2816, .f32⟩
  | 110 => ⟨S1024x2816, .f32⟩
  | 111 => ⟨S136x512x2816, .f32⟩
  | 112 => ⟨S136x512x2816, .f32⟩
  | 113 => ⟨S136x512x2816, .f32⟩
  | 114 => ⟨S_, .f32⟩
  | 115 => ⟨S136x512x2816, .f32⟩
  | 116 => ⟨S136x512x2816, .f32⟩
  | 117 => ⟨S_, .f32⟩
  | 118 => ⟨S136x512x2816, .f32⟩
  | 119 => ⟨S136x512x2816, .f32⟩
  | 120 => ⟨S136x512x2816, .f32⟩
  | 121 => ⟨S1x1024x2816, .f32⟩
  | 122 => ⟨S1024x2816, .f32⟩
  | 123 => ⟨S136x512x2816, .f32⟩
  | 124 => ⟨S136x512x2816, .f32⟩
  | 125 => ⟨S1x2816x1024, .f32⟩
  | 126 => ⟨S2816x1024, .f32⟩
  | 127 => ⟨S136x512x1024, .f32⟩
  | _ => ⟨S136, .i32⟩

abbrev hbmTy0_1 (i : Nat) : BufTy := match i % 128 with
  | 0 => ⟨S_, .i32⟩
  | 1 => ⟨S136, .i32⟩
  | 2 => ⟨S136, .i1⟩
  | 3 => ⟨S136x1x1, .i1⟩
  | 4 => ⟨S136x512x1024, .i1⟩
  | 5 => ⟨S136x512x1024, .f32⟩
  | 6 => ⟨S1x1024x2816, .f32⟩
  | 7 => ⟨S1024x2816, .f32⟩
  | 8 => ⟨S136x512x2816, .f32⟩
  | 9 => ⟨S136x512x2816, .f32⟩
  | 10 => ⟨S136x512x2816, .f32⟩
  | 11 => ⟨S_, .f32⟩
  | 12 => ⟨S136x512x2816, .f32⟩
  | 13 => ⟨S136x512x2816, .f32⟩
  | 14 => ⟨S_, .f32⟩
  | 15 => ⟨S136x512x2816, .f32⟩
  | 16 => ⟨S136x512x2816, .f32⟩
  | 17 => ⟨S136x512x2816, .f32⟩
  | 18 => ⟨S1x1024x2816, .f32⟩
  | 19 => ⟨S1024x2816, .f32⟩
  | 20 => ⟨S136x512x2816, .f32⟩
  | 21 => ⟨S136x512x2816, .f32⟩
  | 22 => ⟨S1x2816x1024, .f32⟩
  | 23 => ⟨S2816x1024, .f32⟩
  | 24 => ⟨S136x512x1024, .f32⟩
  | 25 => ⟨S_, .i32⟩
  | 26 => ⟨S136, .i32⟩
  | 27 => ⟨S136, .i1⟩
  | 28 => ⟨S136x1x1, .i1⟩
  | 29 => ⟨S136x512x1024, .i1⟩
  | 30 => ⟨S136x512x1024, .f32⟩
  | 31 => ⟨S1x1024x2816, .f32⟩
  | 32 => ⟨S1024x2816, .f32⟩
  | 33 => ⟨S136x512x2816, .f32⟩
  | 34 => ⟨S136x512x2816, .f32⟩
  | 35 => ⟨S136x512x2816, .f32⟩
  | 36 => ⟨S_, .f32⟩
  | 37 => ⟨S136x512x2816, .f32⟩
  | 38 => ⟨S136x512x2816, .f32⟩
  | 39 => ⟨S_, .f32⟩
  | 40 => ⟨S136x512x2816, .f32⟩
  | 41 => ⟨S136x512x2816, .f32⟩
  | 42 => ⟨S136x512x2816, .f32⟩
  | 43 => ⟨S1x1024x2816, .f32⟩
  | 44 => ⟨S1024x2816, .f32⟩
  | 45 => ⟨S136x512x2816, .f32⟩
  | 46 => ⟨S136x512x2816, .f32⟩
  | 47 => ⟨S1x2816x1024, .f32⟩
  | 48 => ⟨S2816x1024, .f32⟩
  | 49 => ⟨S136x512x1024, .f32⟩
  | 50 => ⟨S_, .i32⟩
  | 51 => ⟨S136, .i32⟩
  | 52 => ⟨S136, .i1⟩
  | 53 => ⟨S136x1x1, .i1⟩
  | 54 => ⟨S136x512x1024, .i1⟩
  | 55 => ⟨S136x512x1024, .f32⟩
  | 56 => ⟨S1x1024x2816, .f32⟩
  | 57 => ⟨S1024x2816, .f32⟩
  | 58 => ⟨S136x512x2816, .f32⟩
  | 59 => ⟨S136x512x2816, .f32⟩
  | 60 => ⟨S136x512x2816, .f32⟩
  | 61 => ⟨S_, .f32⟩
  | 62 => ⟨S136x512x2816, .f32⟩
  | 63 => ⟨S136x512x2816, .f32⟩
  | 64 => ⟨S_, .f32⟩
  | 65 => ⟨S136x512x2816, .f32⟩
  | 66 => ⟨S136x512x2816, .f32⟩
  | 67 => ⟨S136x512x2816, .f32⟩
  | 68 => ⟨S1x1024x2816, .f32⟩
  | 69 => ⟨S1024x2816, .f32⟩
  | 70 => ⟨S136x512x2816, .f32⟩
  | 71 => ⟨S136x512x2816, .f32⟩
  | 72 => ⟨S1x2816x1024, .f32⟩
  | 73 => ⟨S2816x1024, .f32⟩
  | 74 => ⟨S136x512x1024, .f32⟩
  | 75 => ⟨S_, .i32⟩
  | 76 => ⟨S136, .i32⟩
  | 77 => ⟨S136, .i1⟩
  | 78 => ⟨S136x1x1, .i1⟩
  | 79 => ⟨S136x512x1024, .i1⟩
  | 80 => ⟨S136x512x1024, .f32⟩
  | 81 => ⟨S136, .i32⟩
  | 82 => ⟨S_, .i32⟩
  | 83 => ⟨S136, .i32⟩
  | 84 => ⟨S136, .i1⟩
  | 85 => ⟨S136x1x1, .i1⟩
  | 86 => ⟨S_, .f32⟩
  | 87 => ⟨S_, .f32⟩
  | 88 => ⟨S136x512x1024, .i1⟩
  | 89 => ⟨S136x512x1024, .f32⟩
  | 90 => ⟨S136x512x1024, .f32⟩
  | 91 => ⟨S69632x1024, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call3_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call4_v0 : Ref sig .tc := ⟨.hbm, 62, rfl⟩
abbrev main_call4_v1 : Ref sig .tc := ⟨.hbm, 63, rfl⟩
abbrev main_call4_cst : Ref sig .tc := ⟨.hbm, 64, rfl⟩
abbrev main_call4_v2 : Ref sig .tc := ⟨.hbm, 65, rfl⟩
abbrev main_call4_v3 : Ref sig .tc := ⟨.hbm, 66, rfl⟩
abbrev main_call4_cst_0 : Ref sig .tc := ⟨.hbm, 67, rfl⟩
abbrev main_call4_v4 : Ref sig .tc := ⟨.hbm, 68, rfl⟩
abbrev main_call4_v5 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_1 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call5_v0 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call6_v0 : Ref sig .tc := ⟨.hbm, 87, rfl⟩
abbrev main_call6_v1 : Ref sig .tc := ⟨.hbm, 88, rfl⟩
abbrev main_call6_cst : Ref sig .tc := ⟨.hbm, 89, rfl⟩
abbrev main_call6_v2 : Ref sig .tc := ⟨.hbm, 90, rfl⟩
abbrev main_call6_v3 : Ref sig .tc := ⟨.hbm, 91, rfl⟩
abbrev main_call6_cst_0 : Ref sig .tc := ⟨.hbm, 92, rfl⟩
abbrev main_call6_v4 : Ref sig .tc := ⟨.hbm, 93, rfl⟩
abbrev main_call6_v5 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_2 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_call7_v0 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call8_v0 : Ref sig .tc := ⟨.hbm, 112, rfl⟩
abbrev main_call8_v1 : Ref sig .tc := ⟨.hbm, 113, rfl⟩
abbrev main_call8_cst : Ref sig .tc := ⟨.hbm, 114, rfl⟩
abbrev main_call8_v2 : Ref sig .tc := ⟨.hbm, 115, rfl⟩
abbrev main_call8_v3 : Ref sig .tc := ⟨.hbm, 116, rfl⟩
abbrev main_call8_cst_0 : Ref sig .tc := ⟨.hbm, 117, rfl⟩
abbrev main_call8_v4 : Ref sig .tc := ⟨.hbm, 118, rfl⟩
abbrev main_call8_v5 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_c_3 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_call9_v0 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_call10_v0 : Ref sig .tc := ⟨.hbm, 137, rfl⟩
abbrev main_call10_v1 : Ref sig .tc := ⟨.hbm, 138, rfl⟩
abbrev main_call10_cst : Ref sig .tc := ⟨.hbm, 139, rfl⟩
abbrev main_call10_v2 : Ref sig .tc := ⟨.hbm, 140, rfl⟩
abbrev main_call10_v3 : Ref sig .tc := ⟨.hbm, 141, rfl⟩
abbrev main_call10_cst_0 : Ref sig .tc := ⟨.hbm, 142, rfl⟩
abbrev main_call10_v4 : Ref sig .tc := ⟨.hbm, 143, rfl⟩
abbrev main_call10_v5 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_c_4 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_call11_v0 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_call12_v0 : Ref sig .tc := ⟨.hbm, 162, rfl⟩
abbrev main_call12_v1 : Ref sig .tc := ⟨.hbm, 163, rfl⟩
abbrev main_call12_cst : Ref sig .tc := ⟨.hbm, 164, rfl⟩
abbrev main_call12_v2 : Ref sig .tc := ⟨.hbm, 165, rfl⟩
abbrev main_call12_v3 : Ref sig .tc := ⟨.hbm, 166, rfl⟩
abbrev main_call12_cst_0 : Ref sig .tc := ⟨.hbm, 167, rfl⟩
abbrev main_call12_v4 : Ref sig .tc := ⟨.hbm, 168, rfl⟩
abbrev main_call12_v5 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_c_5 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_call13_v0 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_call14_v0 : Ref sig .tc := ⟨.hbm, 187, rfl⟩
abbrev main_call14_v1 : Ref sig .tc := ⟨.hbm, 188, rfl⟩
abbrev main_call14_cst : Ref sig .tc := ⟨.hbm, 189, rfl⟩
abbrev main_call14_v2 : Ref sig .tc := ⟨.hbm, 190, rfl⟩
abbrev main_call14_v3 : Ref sig .tc := ⟨.hbm, 191, rfl⟩
abbrev main_call14_cst_0 : Ref sig .tc := ⟨.hbm, 192, rfl⟩
abbrev main_call14_v4 : Ref sig .tc := ⟨.hbm, 193, rfl⟩
abbrev main_call14_v5 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_c_6 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_call15_v0 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_cst_7 : Ref sig .tc := ⟨.hbm, 214, rfl⟩
abbrev main_call16_v0 : Ref sig .tc := ⟨.hbm, 215, rfl⟩
abbrev main_call16_v1 : Ref sig .tc := ⟨.hbm, 216, rfl⟩
abbrev main_call16_v2 : Ref sig .tc := ⟨.hbm, 217, rfl⟩
abbrev main_v127 : Ref sig .tc := ⟨.hbm, 218, rfl⟩
abbrev main_v128 : Ref sig .tc := ⟨.hbm, 219, rfl⟩

abbrev nD : Nat := 1
abbrev τ : Topo := Topo.v7x

variable {F : FTy → Type} [FloatOps F]
-- ==== Kernel3.lean ====
abbrev S32768x1024 : Shape := ⟨2, ![32768, 1024]⟩
abbrev S8x6x1024 : Shape := ⟨3, ![8, 6, 1024]⟩
abbrev S1024x2816 : Shape := ⟨2, ![1024, 2816]⟩
abbrev S2816x1024 : Shape := ⟨2, ![2816, 1024]⟩
abbrev S512x1024 : Shape := ⟨2, ![512, 1024]⟩
abbrev S1x6x1024 : Shape := ⟨3, ![1, 6, 1024]⟩
abbrev S1x1x1024 : Shape := ⟨3, ![1, 1, 1024]⟩
abbrev S1x1024 : Shape := ⟨2, ![1, 1024]⟩
abbrev S1024x1280 : Shape := ⟨2, ![1024, 1280]⟩
abbrev S512x1280 : Shape := ⟨2, ![512, 1280]⟩
abbrev S1280x1024 : Shape := ⟨2, ![1280, 1024]⟩
abbrev S1024x1536 : Shape := ⟨2, ![1024, 1536]⟩
abbrev S512x1536 : Shape := ⟨2, ![512, 1536]⟩
abbrev S1536x1024 : Shape := ⟨2, ![1536, 1024]⟩

abbrev nBuf : Space → Nat
  | .hbm => 11
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x6x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S32768x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S8x6x1024 : Shape := ⟨3, ![8, 6, 1024]⟩
abbrev S1024x2816 : Shape := ⟨2, ![1024, 2816]⟩
abbrev S2816x1024 : Shape := ⟨2, ![2816, 1024]⟩
abbrev S32768x2816 : Shape := ⟨2, ![32768, 2816]⟩
abbrev S_ : Shape := ⟨0, ![]⟩
abbrev S8x4096x1024 : Shape := ⟨3, ![8, 4096, 1024]⟩
abbrev S8x1x1024 : Shape := ⟨3, ![8, 1, 1024]⟩
abbrev S8x1024 : Shape := ⟨2, ![8, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x6x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S32768x2816, .f32⟩
  | .hbm, ⟨7, _⟩ => ⟨S32768x2816, .f32⟩
  | .hbm, ⟨8, _⟩ => ⟨S32768x2816, .f32⟩
  | .hbm, ⟨9, _⟩ => ⟨S_, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x1024, .f32⟩
  | .hbm, ⟨19, _⟩ => ⟨S8x4096x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Kernel4.lean ====
abbrev S8x256x4096 : Shape := ⟨3, ![8, 256, 4096]⟩
abbrev S8x512x4096 : Shape := ⟨3, ![8, 512, 4096]⟩
abbrev S8x32x256x128 : Shape := ⟨4, ![8, 32, 256, 128]⟩
abbrev S32768x1024 : Shape := ⟨2, ![32768, 1024]⟩
abbrev S8x6x1024 : Shape := ⟨3, ![8, 6, 1024]⟩
abbrev S1024 : Shape := ⟨1, ![1024]⟩
abbrev S1024x1024 : Shape := ⟨2, ![1024, 1024]⟩
abbrev S1x1024 : Shape := ⟨2, ![1, 1024]⟩
abbrev S1x256x512 : Shape := ⟨3, ![1, 256, 512]⟩
abbrev S1x512x512 : Shape := ⟨3, ![1, 512, 512]⟩
abbrev S1x4x256x128 : Shape := ⟨4, ![1, 4, 256, 128]⟩
abbrev S512x1024 : Shape := ⟨2, ![512, 1024]⟩
abbrev S1x6x1024 : Shape := ⟨3, ![1, 6, 1024]⟩
abbrev S1x1x256x128 : Shape := ⟨4, ![1, 1, 256, 128]⟩
abbrev S256x128 : Shape := ⟨2, ![256, 128]⟩
abbrev S256x512 : Shape := ⟨2, ![256, 512]⟩
abbrev S512 : Shape := ⟨1, ![512]⟩
abbrev S1x512 : Shape := ⟨2, ![1, 512]⟩
abbrev S512x256 : Shape := ⟨2, ![512, 256]⟩
abbrev S1x256 : Shape := ⟨2, ![1, 256]⟩
abbrev S512x512 : Shape := ⟨2, ![512, 512]⟩
abbrev S1x1x1024 : Shape := ⟨3, ![1, 1, 1024]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S8x256x4096, .f32⟩
  | .hbm, ⟨1, _⟩ => ⟨S8x512x4096, .f32⟩
  | .hbm, ⟨2, _⟩ => ⟨S8x32x256x128, .f32⟩
  | .hbm, ⟨3, _⟩ => ⟨S32768x1024, .f32⟩
  | .hbm, ⟨4, _⟩ => ⟨S8x6x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8x256x4096, .bf16⟩
  | .hbm, ⟨9, _⟩ => ⟨S8x512x4096, .bf16⟩
  | .hbm, ⟨10, _⟩ => ⟨S8x32x256x128, .bf16⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S32768x1024, .f32⟩
  | .hbm, ⟨15, _⟩ => ⟨S32768x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x4x256x128, .bf16⟩
  | .local _ .vmem, ⟨5, _⟩ => ⟨S1x4x256x128, .bf16⟩
  | .local _ .vmem, ⟨6, _⟩ => ⟨S512x1024, .f32⟩
  | .local _ .vmem, ⟨7, _⟩ => ⟨S512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x256x4096 : Shape := ⟨3, ![8, 256, 4096]⟩
abbrev S8x512x4096 : Shape := ⟨3, ![8, 512, 4096]⟩
abbrev S8x32x256x128 : Shape := ⟨4, ![8, 32, 256, 128]⟩
abbrev S32768x1024 : Shape := ⟨2, ![32768, 1024]⟩
abbrev S8x6x1024 : Shape := ⟨3, ![8, 6, 1024]⟩
abbrev S1024 : Shape := ⟨1, ![1024]⟩
abbrev S1024x1024 : Shape := ⟨2, ![1024, 1024]⟩
abbrev S256 : Shape := ⟨1, ![256]⟩
abbrev S512 : Shape := ⟨1, ![512]⟩
abbrev S8x32x128x256 : Shape := ⟨4, ![8, 32, 128, 256]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S8x4096x512 : Shape := ⟨3, ![8, 4096, 512]⟩
abbrev S1x1x512 : Shape := ⟨3, ![1, 1, 512]⟩
abbrev S8x4096x1024 : Shape := ⟨3, ![8, 4096, 1024]⟩
abbrev S6x8x1024 : Shape := ⟨3, ![6, 8, 1024]⟩
abbrev S1x8x1024 : Shape := ⟨3, ![1, 8, 1024]⟩
abbrev S8x1024 : Shape := ⟨2, ![8, 1024]⟩
abbrev S8x1x1024 : Shape := ⟨3, ![8, 1, 1024]⟩
abbrev S1x1x1024 : Shape := ⟨3, ![1, 1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8x256x4096, .f32⟩
  | .hbm, ⟨1, _⟩ => ⟨S8x512x4096, .f32⟩
  | .hbm, ⟨2, _⟩ => ⟨S8x32x256x128, .f32⟩
  | .hbm, ⟨3, _⟩ => ⟨S32768x1024, .f32⟩
  | .hbm, ⟨4, _⟩ => ⟨S8x6x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S256, .f32⟩
  | .hbm, ⟨9, _⟩ => ⟨S512, .f32⟩
  | .hbm, ⟨10, _⟩ => ⟨S256, .f32⟩
  | .hbm, ⟨11, _⟩ => ⟨S8x32x128x256, .f32⟩
  | .hbm, ⟨12, _⟩ => ⟨S8x4096x256, .f32⟩
  | .hbm, ⟨13, _⟩ => ⟨S8x4096x256, .f32⟩
  | .hbm, ⟨14, _⟩ => ⟨S8x4096x256, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x256, .f32⟩
  | .hbm, ⟨26, _⟩ => ⟨S8x4096x256, .f32⟩
  | .hbm, ⟨27, _⟩ => ⟨S1x1x256, .f32⟩
  | .hbm, ⟨28, _⟩ => ⟨S8x4096x256, .f32⟩
  | .hbm, ⟨29, _⟩ => ⟨S8x4096x256, .f32⟩
  | .hbm, ⟨30, _⟩ => ⟨S8x4096x512, .f32⟩
  | .hbm, ⟨31, _⟩ => ⟨S8x4096x512, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096x512, .f32⟩
  | .hbm, ⟨43, _⟩ => ⟨S8x4096x512, .f32⟩
  | .hbm, ⟨44, _⟩ => ⟨S1x1x512, .f32⟩
  | .hbm, ⟨45, _⟩ => ⟨S8x4096x512, .f32⟩
  | .hbm, ⟨46, _⟩ => ⟨S8x4096x512, .f32⟩
  | .hbm, ⟨47, _⟩ => ⟨S8x4096x256, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x1, .f32⟩
  | .hbm, ⟨58, _⟩ => ⟨S8x4096x256, .f32⟩
  | .hbm, ⟨59, _⟩ => ⟨S8x4096x256, .f32⟩
  | .hbm, ⟨60, _⟩ => ⟨S1x1x256, .f32⟩
  | .hbm, ⟨61, _⟩ => ⟨S8x4096x256, .f32⟩
  | .hbm, ⟨62, _⟩ => ⟨S8x4096x256, .f32⟩
  | .hbm, ⟨63, _⟩ => ⟨S8x4096x1024, .f32⟩
  | .hbm, ⟨64, _⟩ => ⟨S6x8x1024, .f32⟩
  | .hbm, ⟨65, _⟩ => ⟨S1x8x1024, .f32⟩
  | .hbm, ⟨66, _⟩ => ⟨S8x1024, .f32⟩
  | .hbm, ⟨67, _⟩ => ⟨S1x8x1024, .f32⟩
  | .hbm, ⟨68, _⟩ => ⟨S8x1024, .f32⟩
  | .hbm, ⟨69, _⟩ => ⟨S1x8x1024, .f32⟩
  | .hbm, ⟨70, _⟩ => ⟨S8x1024, .f32⟩
  | .hbm, ⟨71, _⟩ => ⟨S1x8x1024, .f32⟩
  | .hbm, ⟨72, _⟩ => ⟨S8x1024, .f32⟩
  | .hbm, ⟨73, _⟩ => ⟨S1x8x1024, .f32⟩
  | .hbm, ⟨74, _⟩ => ⟨S8x1024, .f32⟩
  | .hbm, ⟨75, _⟩ => ⟨S1x8x1024, .f32⟩
  | .hbm, ⟨76, _⟩ => ⟨S8x1024, .f32⟩
  | .hbm, ⟨77, _⟩ => ⟨S8x1x1024, .f32⟩
  | .hbm, ⟨78, _⟩ => ⟨S8x1x1024, .f32⟩
  | .hbm, ⟨79, _⟩ => ⟨S8x1x1024, .f32⟩
  | .hbm, ⟨80, _⟩ => ⟨S8x1x1024, .f32⟩
  | .hbm, ⟨81, _⟩ => ⟨S8x1x1024, .f32⟩
  | .hbm, ⟨82, _⟩ => ⟨S8x1x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S8x4096x1024, .f32⟩
  | .hbm, ⟨89, _⟩ => ⟨S_, .f32⟩
  | .hbm, ⟨90, _⟩ => ⟨S8x4096, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S8x4096x1, .f32⟩
  | .hbm, ⟨99, _⟩ => ⟨S8x4096x1024, .f32⟩
  | .hbm, ⟨100, _⟩ => ⟨S8x4096x1024, .f32⟩
  | .hbm, ⟨101, _⟩ => ⟨S1x1x1024, .f32⟩
  | .hbm, ⟨102, _⟩ => ⟨S8x4096x1024, .f32⟩
  | .hbm, ⟨103, _⟩ => ⟨S8x4096x1024, .f32⟩
  | .hbm, ⟨104, _⟩ => ⟨S_, .f32⟩
  | .hbm, ⟨105, _⟩ => ⟨S8x1x1024, .f32⟩
  | .hbm, ⟨106, _⟩ => ⟨S8x1x1024, .f32⟩
  | .hbm, ⟨107, _⟩ => ⟨S8x4096x1024, .f32⟩
  | .hbm, ⟨108, _⟩ => ⟨S8x4096x1024, .f32⟩
  | .hbm, ⟨109, _⟩ => ⟨S8x4096x1024, .f32⟩
  | .hbm, ⟨110, _⟩ => ⟨S8x4096x1024, .f32⟩
  | .hbm, ⟨111, _⟩ => ⟨S32768x1024, .f32⟩
  | .hbm, ⟨112, _⟩ => ⟨S32768x1024, .f32⟩
  | .hbm, ⟨113, _⟩ => ⟨S32768x1024, .bf16⟩
  | _, _ => ⟨S8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩

abbrev nD : Nat := 1
abbrev τ : Topo := Topo.v7x

variable {F : FTy → Type} [FloatOps F]
-- ==== Proof.Mla.KernelIdeal.RunB.lean ====
module

public import proofs.«01_k».proof.Proof.Gen.KernelIdeal.Frame
public import proofs.«01_k».proof.Proof.Gen.KernelIdeal.Loops

/-! The body of the attention kernel, run once where the score bound holds. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Whether the score bound handed to the kernel allows the sweep without running maxima. -/
def bnd (x0 : Vec F S1 .f32) : BitVec 1 :=
  Scalar.cmpf .ole (x0 (Shape.Idx.first (by decide))) (FloatOps.ofBits .f32 1114636288#32)

/-- What the body compares is the bound's one element. -/
theorem bnd_read (arg3 : Memref sig .tc .smem S1 .f32) (harg3 : arg3.IsWhole) (x0 : Vec F S1 .f32)
    (h) :
    Scalar.cmpf .ole (View.readAt (Elt F) arg3.view (Rect.unit (s := S1) ![0] S1.size inb_S1_S1_0).toLoadRect (harg3.unread x0) (Shape.Idx.first h))
      (FloatOps.ofBits .f32 1114636288#32) = bnd x0 := by
  unfold bnd
  have h2 : View.readAt (Elt F) arg3.view (Rect.unit (s := S1) ![0] S1.size inb_S1_S1_0).toLoadRect (harg3.unread x0) (Shape.Idx.first h)
      = View.read (Elt F) arg3.view (harg3.unread x0) (Shape.Idx.first (by decide)) := by
    show View.read (Elt F) arg3.view (harg3.unread x0) _ = _
    congr 1
    funext k
    exact Fin.ext (by have := k.isLt; match k with | ⟨0, _⟩ => rfl)
  rw [h2, harg3.read_unread]

set_option maxHeartbeats 8000000 in
/-- The body where the bound holds: it leaves the buffers it reads as they were and four pieces in the buffer it writes. -/
def runB (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16) (hb : bnd x0 = 1#1) :
    { L : List (View.Piece (Elt F) S1x256x512 .bf16) // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0_mla_attn i arg3 harg3 arg4 harg4 arg5 harg5 arg6 harg6 arg7 harg7) K } := by
  refine ⟨?_, fun E K => ?run⟩
  case run =>
    simp only [cc0_mla_attn_eq_skeleton]; unfold cc0_mla_attn_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec
    have hr : Scalar.cmpf .ole (runB.sl.r c arg3 harg3 x0) (FloatOps.ofBits .f32 1114636288#32) = 1#1 := by
      rw [← hb]; delta runB.sl.r
      exact bnd_read arg3 harg3 x0 _
    have h1 : (Scalar.cmpi .ne (Scalar.extui (Scalar.cmpf .ole (runB.sl.r c arg3 harg3 x0) (FloatOps.ofBits .f32 1114636288#32))) 0#32 = 1#1) := by rw [hr]; decide
    have h2 : ¬(Scalar.cmpi .ne (Scalar.extui (Scalar.xori (Scalar.cmpf .ole (runB.sl.r c arg3 harg3 x0) (FloatOps.ofBits .f32 1114636288#32)) 1#1)) 0#32 = 1#1) := by rw [hr]; decide
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.Mla.KernelIdeal.RunU.lean ====
module

public import proofs.«01_k».proof.Proof.Gen.KernelIdeal.Frame
public import proofs.«01_k».proof.Proof.Gen.KernelIdeal.Loops
public import proofs.«01_k».proof.Proof.Mla.KernelIdeal.RunB

/-! The body of the attention kernel, run once where the score bound fails. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body where the bound fails: it leaves the buffers it reads as they were and four pieces in the buffer it writes. -/
def runU (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16) (hb : bnd x0 = 0#1) :
    { L : List (View.Piece (Elt F) S1x256x512 .bf16) // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0_mla_attn i arg3 harg3 arg4 harg4 arg5 harg5 arg6 harg6 arg7 harg7) K } := by
  refine ⟨?_, fun E K => ?run⟩
  case run =>
    simp only [cc0_mla_attn_eq_skeleton]; unfold cc0_mla_attn_skel
    simp only [k0_part25_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec
    have hr : Scalar.cmpf .ole (runU.sl.r c arg3 harg3 x0) (FloatOps.ofBits .f32 1114636288#32) = 0#1 := by
      rw [← hb]; delta runU.sl.r
      exact bnd_read arg3 harg3 x0 _
    have h1 : ¬(Scalar.cmpi .ne (Scalar.extui (Scalar.cmpf .ole (runU.sl.r c arg3 harg3 x0) (FloatOps.ofBits .f32 1114636288#32))) 0#32 = 1#1) := by rw [hr]; decide
    have h2 : (Scalar.cmpi .ne (Scalar.extui (Scalar.xori (Scalar.cmpf .ole (runU.sl.r c arg3 harg3 x0) (FloatOps.ofBits .f32 1114636288#32)) 1#1)) 0#32 = 1#1) := by rw [hr]; decide
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.Mla.KernelIdeal.Frame.lean ====
module

public import proofs.«01_k».proof.Proof.Gen.KernelIdeal.Frame
public import proofs.«01_k».proof.Proof.Gen.KernelIdeal.Loops
public import proofs.«01_k».proof.Proof.Mla.KernelIdeal.RunB
public import proofs.«01_k».proof.Proof.Mla.KernelIdeal.RunU
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.Claim

/-! The attention kernel's launch: what its body leaves at every point of the grid, and the frame. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem bit_ne {b : BitVec 1} (h : ¬ b = 1#1) : b = 0#1 := by
  revert h; revert b; decide

/-- The pieces written cover the buffer, in either case. -/
theorem coverB (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole) (x0 : Vec F S1 .f32) (x1 : Vec F S1x512x512 .bf16) (x2 : Vec F S1x4096x512 .bf16) (x3 : Vec F S1x16x256x256 .bf16) (hb : bnd x0 = 1#1) (y : S1x256x512.Idx) :
    ∃ pc ∈ (runB c i arg3 harg3 arg4 harg4 arg5 harg5 arg6 harg6 arg7 harg7 x0 x1 x2 x3 hb).1, y ∈ pc.1.set :=
  View.cover_of_tiled _ ![1, 64, 512] (by rfl) y
theorem coverU (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole) (x0 : Vec F S1 .f32) (x1 : Vec F S1x512x512 .bf16) (x2 : Vec F S1x4096x512 .bf16) (x3 : Vec F S1x16x256x256 .bf16) (hb : bnd x0 = 0#1) (y : S1x256x512.Idx) :
    ∃ pc ∈ (runU c i arg3 harg3 arg4 harg4 arg5 harg5 arg6 harg6 arg7 harg7 x0 x1 x2 x3 hb).1, y ∈ pc.1.set :=
  View.cover_of_tiled _ ![1, 64, 512] (by rfl) y

/-- What the body leaves in the buffer of its result, by the case of the score bound. -/
def out (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole) (x0 : Vec F S1 .f32) (x1 : Vec F S1x512x512 .bf16) (x2 : Vec F S1x4096x512 .bf16) (x3 : Vec F S1x16x256x256 .bf16) : Vec F S1x256x512 .bf16 :=
  if h : bnd x0 = 1#1 then View.canon (runB c i arg3 harg3 arg4 harg4 arg5 harg5 arg6 harg6 arg7 harg7 x0 x1 x2 x3 h).1
  else View.canon (runU c i arg3 harg3 arg4 harg4 arg5 harg5 arg6 harg6 arg7 harg7 x0 x1 x2 x3 (bit_ne h)).1

/-- The body on whole buffers. -/
theorem sound_kernel (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole) (x0 : Vec F S1 .f32) (x1 : Vec F S1x512x512 .bf16) (x2 : Vec F S1x4096x512 .bf16) (x3 : Vec F S1x16x256x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out c i arg3 harg3 arg4 harg4 arg5 harg5 arg6 harg6 arg7 harg7 x0 x1 x2 x3)) -∗ K ⟨⟩))
      ⊢ wp frame (wpE (defs₀ (F := F)) Variants.none c none) E (cc0_mla_attn i arg3 harg3 arg4 harg4 arg5 harg5 arg6 harg6 arg7 harg7) K := by
  by_cases h : bnd x0 = 1#1
  · iintro ⟨H0, H1, H2, H3, H4, Hk⟩
    iapply ((runB c i arg3 harg3 arg4 harg4 arg5 harg5 arg6 harg6 arg7 harg7 x0 x1 x2 x3 h).2 E K)
    isplitl [H0]; · iexact H0
    isplitl [H1]; · iexact H1
    isplitl [H2]; · iexact H2
    isplitl [H3]; · iexact H3
    isplitl [H4]; · iexact H4
    iintro ⟨H0, H1, H2, H3, ⟨%f, H4⟩⟩
    iapply Hk
    isplitl [H0]; · iexact H0
    isplitl [H1]; · iexact H1
    isplitl [H2]; · iexact H2
    isplitl [H3]; · iexact H3
    unfold owns
    iexists _; isplitr
    swap; · iexact H4
    ipureintro
    rw [out, dif_pos h]
    exact View.read_writes_eq_canon _ _ _ (coverB c i arg3 harg3 arg4 harg4 arg5 harg5 arg6 harg6 arg7 harg7 x0 x1 x2 x3 h)
  · iintro ⟨H0, H1, H2, H3, H4, Hk⟩
    iapply ((runU c i arg3 harg3 arg4 harg4 arg5 harg5 arg6 harg6 arg7 harg7 x0 x1 x2 x3 (bit_ne h)).2 E K)
    isplitl [H0]; · iexact H0
    isplitl [H1]; · iexact H1
    isplitl [H2]; · iexact H2
    isplitl [H3]; · iexact H3
    isplitl [H4]; · iexact H4
    iintro ⟨H0, H1, H2, H3, ⟨%f, H4⟩⟩
    iapply Hk
    isplitl [H0]; · iexact H0
    isplitl [H1]; · iexact H1
    isplitl [H2]; · iexact H2
    isplitl [H3]; · iexact H3
    unfold owns
    iexists _; isplitr
    swap; · iexact H4
    ipureintro
    rw [out, dif_neg h]
    exact View.read_writes_eq_canon _ _ _ (coverU c i arg3 harg3 arg4 harg4 arg5 harg5 arg6 harg6 arg7 harg7 x0 x1 x2 x3 (bit_ne h))

variable (m : (ℓ : Loc nD τ sig) → Buf (Elt F) ℓ) (ρ : Dev nD → PrngReg)

/-- What the body leaves at point `t`, from the blocks it is handed. -/
def outAt (c : Dev nD) (t : Fin cfg0.N) : Vec F S1x256x512 .bf16 :=
  out c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t) (iblk m c 3 t)

/-- What the launch is shown with: the arrays as the region finds them, each input's buffer left at its block, the
    result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch, every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Mla.KernelIdeal.Ops.lean ====
module

public import proofs.«01_k».proof.Proof.Gen.KernelIdeal.Frame
public import proofs.«01_k».proof.Proof.Gen.KernelIdeal.Loops

/-! The operations of one head of the attention kernel, named once. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The queries of one head, scaled. -/
def qOp (x : Vec F S1x512x128 .bf16) : FVec F S512x128 .bf16 := k0_pay35 x
/-- The scores of a block of keys. -/
def sOp (q : FVec F S512x128 .bf16) (kb : Vec F S1x256x128 .bf16) : FVec F S256x512 .f32 := k0_pay60 q kb
/-- Where the later of the two diagonal blocks is visible. -/
def mk1 : IVec S256x512 1 := k0_pay42 (k0_pay40 (iota .tc S256x512 32 [0] iota_S256x512_d0_w32)) (k0_pay41 (iota .tc S256x512 32 [1] iota_S256x512_d1_w32))
/-- Where the earlier of the two diagonal blocks is visible. -/
def mk0 : IVec S256x512 1 := k0_pay47 (iota .tc S256x512 32 [0] iota_S256x512_d0_w32) (iota .tc S256x512 32 [1] iota_S256x512_d1_w32)
/-- The masked scores of a diagonal block. -/
def smOp (mk : IVec S256x512 1) (q : FVec F S512x128 .bf16) (kb : Vec F S1x256x128 .bf16) : FVec F S256x512 .f32 :=
  k0_pay132 q mk (k0_pay131 kb)
/-- The weights of a block against a fixed reference. -/
def wOp (r : Elt F .f32) (s : FVec F S256x512 .f32) : FVec F S256x512 .bf16 := k0_pay62 s (k0_pay61 r)
/-- The accumulator after one more block. -/
def uOp (acc : FVec F S80x512 .f32) (p : FVec F S256x512 .bf16) (vb : Vec F S1x1x64x256 .bf16) : FVec F S80x512 .f32 :=
  k0_pay66 k0_pay1 p acc vb
/-- The largest score of a block, per query. -/
def xOp (s : FVec F S256x512 .f32) : FVec F S1x512 .f32 :=
  shapeCast S1x512 (multiReduction .maximumf [0] S512 s 0xFF800000#32 reduces_S256x512_S512 (.inl rfl) rfl) shapeCasts_S512_S1x512
/-- The running maximum. -/
def mOp (m x : FVec F S1x512 .f32) : FVec F S1x512 .f32 := k0_pay83 m x
/-- The accumulator after one more block, rescaled to the new running maximum. -/
def oOp (m : FVec F S1x512 .f32) (acc : FVec F S80x512 .f32) (s : FVec F S256x512 .f32) (x : FVec F S1x512 .f32)
    (vb : Vec F S1x1x64x256 .bf16) : FVec F S80x512 .f32 := k0_pay84 k0_pay1 m acc s x vb
/-- The accumulated values over the accumulated weights. -/
def fOp (acc : FVec F S80x512 .f32) : FVec F S1x64x512 .bf16 := k0_pay3 acc
/-- The empty accumulator. -/
def zOp : FVec F S80x512 .f32 := k0_pay39
/-- The running maximum before any block. -/
def eOp : FVec F S1x512 .f32 := k0_pay110
/-- A block of keys as loaded. -/
abbrev ldK (arg5 : Memref sig .tc .vmem S1x4096x512 .bf16) (X : BufTy.Contents (Elt F) arg5.view.ty) (o : Fin 3 → ℕ)
    (h : ∀ k, o k + S1x256x128.size k ≤ S1x4096x512.size k) : Vec F S1x256x128 .bf16 :=
  View.readAt (Elt F) arg5.view (Rect.unit (s := S1x4096x512) o S1x256x128.size h).toLoadRect X
/-- A block of values as loaded. -/
abbrev ldV (arg6 : Memref sig .tc .vmem S1x16x256x256 .bf16) (X : BufTy.Contents (Elt F) arg6.view.ty) (o : Fin 4 → ℕ)
    (h : ∀ k, o k + S1x1x64x256.size k ≤ S1x16x256x256.size k) : Vec F S1x1x64x256 .bf16 :=
  View.readAt (Elt F) arg6.view (Rect.unit (s := S1x16x256x256) o S1x1x64x256.size h).toLoadRect X
/-- The queries of one head as loaded. -/
abbrev ldQ (arg4 : Memref sig .tc .vmem S1x512x512 .bf16) (X : BufTy.Contents (Elt F) arg4.view.ty) (o : Fin 3 → ℕ)
    (h : ∀ k, o k + S1x512x128.size k ≤ S1x512x512.size k) : Vec F S1x512x128 .bf16 :=
  View.readAt (Elt F) arg4.view (Rect.unit (s := S1x512x512) o S1x512x128.size h).toLoadRect X

end Cert.KernelIdeal.Hand

end
-- ==== Proof.Mla.Soft.lean ====
module

public import Idealize.ShloMosaic.Lib.Pipeline.ValueKit

/-! Weighted sums over the extended reals: rescaling an exponential to another reference, and the
quotient of two weighted sums as a softmax. -/

@[expose] public section

set_option maxRecDepth 16384

noncomputable section

namespace Cert.Mla

open Idealize.ShloMosaic

/-- A finite sum of reals, in the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes inside a sum. -/
theorem mul_sum_nonneg {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

theorem sum_mul_nonneg {ι : Type} (s : Finset ι) (c : ℝ) (hc : 0 ≤ c) (f : ι → EReal) :
    (∑ i ∈ s, f i) * (c : EReal) = ∑ i ∈ s, f i * (c : EReal) := by
  rw [mul_comm, mul_sum_nonneg s c hc]
  exact Finset.sum_congr rfl fun i _ => mul_comm _ _

/-- A power of two at an extended real other than the top is a nonnegative real. -/
theorem exp2_real (x : EReal) (hx : x ≠ ⊤) : ∃ r : ℝ, 0 ≤ r ∧ Ideal.exp2 x = (r : EReal) := by
  induction x with
  | bot => exact ⟨0, le_rfl, by simp⟩
  | coe r => exact ⟨Real.rpow 2 r, Real.rpow_nonneg (by norm_num) r, rfl⟩
  | top => exact absurd rfl hx

/-- Moving a power of two from one reference to a larger one. -/
theorem exp2_shift (m m' y : EReal) (hy : y ≤ m) (hm : m ≤ m') (ht : m' ≠ ⊤) :
    Ideal.exp2 (m - m') * Ideal.exp2 (y - m) = Ideal.exp2 (y - m') := by
  induction y with
  | bot => simp
  | top => exact absurd (top_le_iff.1 (le_trans hy hm)) ht
  | coe y =>
    induction m with
    | bot => exact absurd (le_bot_iff.1 hy) (EReal.coe_ne_bot y)
    | top => exact absurd (top_le_iff.1 hm) ht
    | coe m =>
      induction m' with
      | bot => exact absurd (le_bot_iff.1 hm) (EReal.coe_ne_bot m)
      | top => exact absurd rfl ht
      | coe m' =>
        rw [← EReal.coe_sub, ← EReal.coe_sub, ← EReal.coe_sub, Ideal.exp2_coe, Ideal.exp2_coe, Ideal.exp2_coe,
          ← EReal.coe_mul]
        refine congrArg _ ?_
        show (2 : ℝ) ^ (m - m') * (2 : ℝ) ^ (y - m) = (2 : ℝ) ^ (y - m')
        rw [← Real.rpow_add (by norm_num)]
        congr 1; ring

/-- Rescaling an accumulator of weighted values to a larger reference. -/
theorem rescale {ι : Type} (s : Finset ι) (m m' : EReal) (V Y : ι → EReal) (hY : ∀ i ∈ s, Y i ≤ m)
    (hm : m ≤ m') (ht : m' ≠ ⊤) :
    Ideal.exp2 (m - m') * ∑ i ∈ s, V i * Ideal.exp2 (Y i - m) = ∑ i ∈ s, V i * Ideal.exp2 (Y i - m') := by
  have hd : m - m' ≠ ⊤ := by
    induction m with
    | bot => simp
    | top => exact absurd (top_le_iff.1 hm) ht
    | coe m =>
      induction m' with
      | bot => exact absurd (le_bot_iff.1 hm) (EReal.coe_ne_bot m)
      | top => exact absurd rfl ht
      | coe m' => rw [← EReal.coe_sub]; exact EReal.coe_ne_top _
  obtain ⟨r, hr, he⟩ := exp2_real _ hd
  rw [he, mul_sum_nonneg s r hr]
  refine Finset.sum_congr rfl fun i hi => ?_
  rw [← he, mul_left_comm, exp2_shift m m' (Y i) (hY i hi) hm ht]

/-- The quotient of two sums over the same weights, the weights being a positive multiple of
exponentials on the visible positions and zero elsewhere, is the sum weighted by the softmax. -/
theorem quotient_softmax {ι : Type} [Fintype ι] [DecidableEq ι] (s : Finset ι) (A : ι → Prop) [DecidablePred A]
    (hA : ∀ i, A i → i ∈ s) (i0 : ι) (h0 : A i0) (z : ι → ℝ) (C M : ℝ) (hC : 0 < C) (V : ι → EReal)
    (w e : ι → EReal) (hw : ∀ i, w i = if A i then ((C * Real.exp (z i) : ℝ) : EReal) else 0)
    (he : ∀ i, e i = if A i then ((Real.exp (z i - M) : ℝ) : EReal) else 0) :
    Ideal.div (∑ i ∈ s, V i * w i) (∑ i ∈ s, 1 * w i) = ∑ i, V i * Ideal.div (e i) (0 + ∑ j, e j) := by
  set g : ι → ℝ := fun i => if A i then Real.exp (z i) else 0 with hg
  have g0 : ∀ i, 0 ≤ g i := fun i => by simp only [hg]; split_ifs <;> positivity
  have hw' : ∀ i, w i = ((C * g i : ℝ) : EReal) := fun i => by
    rw [hw]; simp only [hg]; split_ifs <;> simp
  have he' : ∀ i, e i = ((Real.exp (-M) * g i : ℝ) : EReal) := fun i => by
    rw [he]; simp only [hg]; split_ifs
    · rw [← Real.exp_add]; congr 2; ring
    · simp
  set Z : ℝ := ∑ i, g i with hZ
  have Zpos : 0 < Z := by
    refine Finset.sum_pos' (fun i _ => g0 i) ⟨i0, Finset.mem_univ _, ?_⟩
    simp only [hg, if_pos h0]; positivity
  have hs : ∑ i ∈ s, g i = Z := by
    refine Finset.sum_subset (Finset.subset_univ _) fun i _ hi => ?_
    simp only [hg]; rw [if_neg (fun h => hi (hA i h))]
  have hden : ∑ i ∈ s, 1 * w i = ((C * Z : ℝ) : EReal) := by
    simp only [one_mul, hw']
    rw [← hs, Finset.mul_sum, coe_sum]
  have hden2 : 0 + ∑ j, e j = ((Real.exp (-M) * Z : ℝ) : EReal) := by
    simp only [zero_add, he']
    rw [hZ, Finset.mul_sum, coe_sum]
  have hE : 0 < Real.exp (-M) := Real.exp_pos _
  rw [hden, hden2, Ideal.div_coe (by positivity), sum_mul_nonneg s _ (by positivity)]
  have hl : ∀ i, V i * w i * ((1 / (C * Z) : ℝ) : EReal) = V i * ((g i / Z : ℝ) : EReal) := fun i => by
    rw [hw', mul_assoc, ← EReal.coe_mul]; congr 2; field_simp
  have hr : ∀ i, V i * Ideal.div (e i) ((Real.exp (-M) * Z : ℝ) : EReal) = V i * ((g i / Z : ℝ) : EReal) := fun i => by
    rw [Ideal.div_coe (by positivity), he', ← EReal.coe_mul]; congr 2; field_simp
  simp only [hl, hr]
  refine Finset.sum_subset (Finset.subset_univ _) fun i _ hi => ?_
  simp only [hg]; rw [if_neg (fun h => hi (hA i h))]; simp

end Cert.Mla

end
-- ==== Proof.Mla.KernelIdeal.Read.lean ====
module

public import proofs.«01_k».proof.Proof.Mla.KernelIdeal.Ops
public import proofs.«01_k».proof.Proof.Mla.Soft
public import Idealize.ShloMosaic.Lib.Pipeline.ValueKit

/-! The operations of one head of the attention kernel, read at an index over the extended reals. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The factor on the queries: one over the square root of 96, in base two. -/
def qs : ℝ := (Real.sqrt 96)⁻¹ * (Real.log 2)⁻¹

theorem qscale_eq : Named.named (F := Ideal) κ "qscale" (φ := .f32) 0x3E16C740#32 = ((qs : ℝ) : EReal) :=
  IdealRules.named_const.ideal_named_scalar _ _ _ _ rfl

theorem mask_eq : Named.named (F := Ideal) κ "mask" (φ := .f32) 0xF149F2CA#32 = (⊥ : EReal) :=
  IdealRules.named_const.ideal_named_scalar _ _ _ _ rfl

theorem ninf_eq : Ideal.ofBits .f32 0xFF800000#32 = (⊥ : EReal) := by
  simp [Ideal.ofBits, Ideal.ieee, -EReal.coe_mul]

theorem sOp_at (q : FVec Ideal S512x128 .bf16) (kb : Vec Ideal S1x256x128 .bf16) (r : Fin 256) (c : Fin 512) :
    sOp q kb (ix2 r c) = ∑ d : Fin 128, kb (ix3 0 r d) * q (ix2 c d) := by
  pointwise [sOp, k0_pay60]

theorem qOp_at (x : Vec Ideal S1x512x128 .bf16) (r : Fin 512) (d : Fin 128) :
    qOp x (ix2 r d) = x (ix3 0 r d) * ((qs : ℝ) : EReal) := by
  pointwise [qOp, k0_pay35]
  rw [qscale_eq]

theorem mk_word (a b : ℕ) (ha : a < 512) (hb : b < 512) :
    IntOp.cmpi .sle (IntOp.shrsi .vector (BitVec.ofNat 32 a) 6#32) (IntOp.shrsi .vector (BitVec.ofNat 32 b) 6#32)
      = if a / 64 ≤ b / 64 then 1#1 else 0#1 := by
  have h1 : ∀ a : ℕ, a < 512 → IntOp.shrsi .vector (BitVec.ofNat 32 a) 6#32 = BitVec.ofNat 32 (a / 64) := by
    intro a ha
    interval_cases a <;> rfl
  rw [h1 a ha, h1 b hb]
  have h2 : a / 64 < 8 := by omega
  have h3 : b / 64 < 8 := by omega
  generalize a / 64 = u at *
  generalize b / 64 = v at *
  interval_cases u <;> interval_cases v <;> rfl

theorem mk1_at (r : Fin 256) (c : Fin 512) :
    mk1 (ix2 r c) = if (r.val + 256) / 64 ≤ c.val / 64 then 1#1 else 0#1 := by
  pointwise [mk1, k0_pay42, k0_pay41, k0_pay40]
  rw [show IntOp.addi (BitVec.ofNat 32 r.val) 256#32 = BitVec.ofNat 32 (r.val + 256) from
    (BitVec.ofNat_add r.val 256).symm]
  exact mk_word _ _ (by omega) c.isLt

theorem mk0_at (r : Fin 256) (c : Fin 512) :
    mk0 (ix2 r c) = if r.val / 64 ≤ c.val / 64 then 1#1 else 0#1 := by
  pointwise [mk0, k0_pay47]
  rw [show IntOp.addi (BitVec.ofNat 32 r.val) 0#32 = BitVec.ofNat 32 (r.val + 0) from
    (BitVec.ofNat_add r.val 0).symm]
  exact mk_word _ _ (by omega) c.isLt

theorem smOp_at (mk : IVec S256x512 1) (q : FVec Ideal S512x128 .bf16) (kb : Vec Ideal S1x256x128 .bf16)
    (r : Fin 256) (c : Fin 512) (p : Prop) [Decidable p] (h : mk (ix2 r c) = if p then 1#1 else 0#1) :
    smOp mk q kb (ix2 r c) = if p then sOp q kb (ix2 r c) else (⊥ : EReal) := by
  rw [sOp_at]
  pointwise [smOp, k0_pay132, k0_pay131]
  rw [h, mask_eq]
  by_cases hp : p
  · rw [if_pos hp, if_pos hp]; rfl
  · rw [if_neg hp, if_neg hp]; rfl

theorem wOp_at (s : FVec Ideal S256x512 .f32) (x : EReal) (r : Fin 256) (c : Fin 512) :
    wOp (F := Ideal) x s (ix2 r c) = Ideal.exp2 (s (ix2 r c) - x) := by
  pointwise [wOp, k0_pay61, k0_pay62]
  rfl

/-- A row of a block of values over the rows of ones. -/
def vrow (vb : Vec Ideal S1x1x64x256 .bf16) (r : Fin 80) (y : Fin 256) : EReal :=
  if h : r.val < 64 then vb (ix4 0 0 ⟨r.val, h⟩ y) else 1

theorem uOp_at (acc : FVec Ideal S80x512 .f32) (p : FVec Ideal S256x512 .bf16) (vb : Vec Ideal S1x1x64x256 .bf16)
    (r : Fin 80) (c : Fin 512) :
    uOp acc p vb (ix2 r c) = acc (ix2 r c) + ∑ y : Fin 256, vrow vb r y * p (ix2 y c) := by
  pointwise [uOp, k0_pay66, k0_pay1]
  rfl

theorem xOp_at (s : FVec Ideal S256x512 .f32) (c : Fin 512) :
    xOp s (ix2 0 c) = Finset.univ.fold max (⊥ : EReal) fun y : Fin 256 => s (ix2 y c) := by
  pointwise [xOp]
  rw [ninf_eq]

theorem mOp_at (m x : FVec Ideal S1x512 .f32) (c : Fin 512) :
    mOp m x (ix2 0 c) = max (m (ix2 0 c)) (x (ix2 0 c)) := by
  pointwise [mOp, k0_pay83]

theorem oOp_at (m x : FVec Ideal S1x512 .f32) (s : FVec Ideal S256x512 .f32) (acc : FVec Ideal S80x512 .f32)
    (vb : Vec Ideal S1x1x64x256 .bf16) (r : Fin 80) (c : Fin 512) :
    oOp m acc s x vb (ix2 r c) = Ideal.exp2 (m (ix2 0 c) - mOp m x (ix2 0 c)) * acc (ix2 r c)
      + ∑ y : Fin 256, vrow vb r y * Ideal.exp2 (s (ix2 y c) - mOp m x (ix2 0 c)) := by
  rw [mOp_at]
  pointwise [oOp, k0_pay84, k0_pay1, k0_pay83]
  rfl

theorem fOp_at (acc : FVec Ideal S80x512 .f32) (r : Fin 64) (c : Fin 512) :
    fOp acc (ix3 0 r c) = Ideal.div (acc (ix2 ⟨r.val, by omega⟩ c)) (acc (ix2 64 c)) := by
  pointwise [fOp, k0_pay3]

theorem eOp_at (c : Fin 512) : eOp (F := Ideal) (ix2 0 c) = (⊥ : EReal) := by
  pointwise [eOp, k0_pay110]
  exact mask_eq

theorem zOp_at (r : Fin 80) (c : Fin 512) : zOp (F := Ideal) (ix2 r c) = (0 : EReal) := by
  pointwise [zOp, k0_pay39]

end Cert.KernelIdeal.Hand

end
-- ==== Proof.Mla.KernelIdeal.Head.lean ====
module

public import proofs.«01_k».proof.Proof.Mla.KernelIdeal.Read

/-! One head of the attention kernel: what the blocks it loads hold, and what one more block does to
its accumulator, over the extended reals. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Position `t`, lane `d` of the keys of head `h`. -/
def kx (x2 : Vec Ideal S1x4096x512 .bf16) (h : Fin 4) (t : ℕ) (d : Fin 128) : EReal :=
  x2 (ix3 0 ⟨t % 4096, Nat.mod_lt _ (by norm_num)⟩ ⟨128 * h.val + d.val, by omega⟩)

/-- Query `c`, lane `d` of head `h`. -/
def qx (x1 : Vec Ideal S1x512x512 .bf16) (h : Fin 4) (c : Fin 512) (d : Fin 128) : EReal :=
  x1 (ix3 0 c ⟨128 * h.val + d.val, by omega⟩)

/-- Row `r`, position `t` of the values of head `h`, over rows of ones. -/
def vx (x3 : Vec Ideal S1x16x256x256 .bf16) (h : Fin 4) (r : Fin 80) (t : ℕ) : EReal :=
  if hr : r.val < 64 then
    x3 (ix4 0 ⟨t / 256 % 16, Nat.mod_lt _ (by norm_num)⟩ ⟨64 * h.val + r.val, by omega⟩ ⟨t % 256, Nat.mod_lt _ (by norm_num)⟩)
  else 1

/-- The score of position `t` for query `c`. -/
def sc (x1 : Vec Ideal S1x512x512 .bf16) (x2 : Vec Ideal S1x4096x512 .bf16) (h : Fin 4) (c : Fin 512) (t : ℕ) : EReal :=
  ∑ d : Fin 128, kx x2 h t d * (qx x1 h c d * ((qs : ℝ) : EReal))

/-- The masked score, the queries being the block `a`. -/
def Yx (x1 : Vec Ideal S1x512x512 .bf16) (x2 : Vec Ideal S1x4096x512 .bf16) (a : ℕ) (h : Fin 4) (c : Fin 512) (t : ℕ) : EReal :=
  if t / 64 ≤ (512 * a + c.val) / 64 then sc x1 x2 h c t else ⊥

def IsK (x2 : Vec Ideal S1x4096x512 .bf16) (h : Fin 4) (j : ℕ) (kb : Vec Ideal S1x256x128 .bf16) : Prop :=
  ∀ (y : Fin 256) (d : Fin 128), kb (ix3 0 y d) = kx x2 h (256 * j + y.val) d

def IsV (x3 : Vec Ideal S1x16x256x256 .bf16) (h : Fin 4) (j : ℕ) (vb : Vec Ideal S1x1x64x256 .bf16) : Prop :=
  ∀ (r : Fin 80) (y : Fin 256), vrow vb r y = vx x3 h r (256 * j + y.val)

def IsQ (x1 : Vec Ideal S1x512x512 .bf16) (h : Fin 4) (q : FVec Ideal S512x128 .bf16) : Prop :=
  ∀ (c : Fin 512) (d : Fin 128), q (ix2 c d) = qx x1 h c d * ((qs : ℝ) : EReal)

theorem isK (x2 : Vec Ideal S1x4096x512 .bf16) (arg5 : Memref sig .tc .vmem S1x4096x512 .bf16) (harg5 : arg5.IsWhole)
    (h : Fin 4) (j : ℕ) (hj : j < 16) (o : Fin 3 → ℕ) (ho : o = ![0, 256 * j, 128 * h.val]) (hin) :
    IsK x2 h j (ldK arg5 (harg5.unread x2) o hin) := by
  intro y d
  subst ho
  show View.read (Elt Ideal) arg5.view (harg5.unread x2) _ = _
  rw [harg5.read_unread]
  refine congrArg x2 ?_
  funext k
  refine Fin.ext ?_
  match k with
  | ⟨0, _⟩ => rfl
  | ⟨1, _⟩ =>
    show 256 * j + 1 * y.val = (256 * j + y.val) % 4096
    have := y.isLt
    omega
  | ⟨2, _⟩ =>
    show 128 * h.val + 1 * d.val = 128 * h.val + d.val
    omega

theorem isV (x3 : Vec Ideal S1x16x256x256 .bf16) (arg6 : Memref sig .tc .vmem S1x16x256x256 .bf16) (harg6 : arg6.IsWhole)
    (h : Fin 4) (j : ℕ) (hj : j < 16) (o : Fin 4 → ℕ) (ho : o = ![0, j, 64 * h.val, 0]) (hin) :
    IsV x3 h j (ldV arg6 (harg6.unread x3) o hin) := by
  intro r y
  subst ho
  unfold vrow vx
  have := y.isLt
  by_cases hr : r.val < 64
  · rw [dif_pos hr, dif_pos hr]
    show View.read (Elt Ideal) arg6.view (harg6.unread x3) _ = _
    rw [harg6.read_unread]
    refine congrArg x3 ?_
    funext k
    refine Fin.ext ?_
    match k with
    | ⟨0, _⟩ => rfl
    | ⟨1, _⟩ =>
      show j + 0 * 1 = (256 * j + y.val) / 256 % 16
      omega
    | ⟨2, _⟩ =>
      show 64 * h.val + 1 * r.val = 64 * h.val + r.val
      omega
    | ⟨3, _⟩ =>
      show 0 + 1 * y.val = (256 * j + y.val) % 256
      omega
  · rw [dif_neg hr, dif_neg hr]

theorem isQ (x1 : Vec Ideal S1x512x512 .bf16) (arg4 : Memref sig .tc .vmem S1x512x512 .bf16) (harg4 : arg4.IsWhole)
    (h : Fin 4) (o : Fin 3 → ℕ) (ho : o = ![0, 0, 128 * h.val]) (hin) :
    IsQ x1 h (qOp (ldQ arg4 (harg4.unread x1) o hin)) := by
  intro c d
  subst ho
  rw [qOp_at]
  refine congrArg (· * _) ?_
  show View.read (Elt Ideal) arg4.view (harg4.unread x1) _ = _
  rw [harg4.read_unread]
  refine congrArg x1 ?_
  funext k
  refine Fin.ext ?_
  match k with
  | ⟨0, _⟩ => rfl
  | ⟨1, _⟩ =>
    show 0 + 1 * c.val = c.val
    omega
  | ⟨2, _⟩ =>
    show 128 * h.val + 1 * d.val = 128 * h.val + d.val
    omega

section
variable {x1 : Vec Ideal S1x512x512 .bf16} {x2 : Vec Ideal S1x4096x512 .bf16} {x3 : Vec Ideal S1x16x256x256 .bf16}
  {h : Fin 4} {q : FVec Ideal S512x128 .bf16} {kb : Vec Ideal S1x256x128 .bf16} {vb : Vec Ideal S1x1x64x256 .bf16} {j a : ℕ}

/-- A block of scores. -/
def IsS (x1 : Vec Ideal S1x512x512 .bf16) (x2 : Vec Ideal S1x4096x512 .bf16) (a : ℕ) (h : Fin 4) (j : ℕ)
    (s : FVec Ideal S256x512 .f32) : Prop :=
  ∀ (y : Fin 256) (c : Fin 512), s (ix2 y c) = Yx x1 x2 a h c (256 * j + y.val)

theorem sOp_sc (hq : IsQ x1 h q) (hk : IsK x2 h j kb) (y : Fin 256) (c : Fin 512) :
    sOp q kb (ix2 y c) = sc x1 x2 h c (256 * j + y.val) := by
  rw [sOp_at]
  exact Finset.sum_congr rfl fun d _ => by rw [hk, hq]

/-- A block before the queries' own is wholly visible. -/
theorem isS_full (hq : IsQ x1 h q) (hk : IsK x2 h j kb) (hj : j < 2 * a) : IsS x1 x2 a h j (sOp q kb) := by
  intro y c
  have := y.isLt
  rw [sOp_sc hq hk, Yx, if_pos (by omega)]

theorem isS_mk0 (hq : IsQ x1 h q) (hk : IsK x2 h (2 * a + 0) kb) : IsS x1 x2 a h (2 * a + 0) (smOp mk0 q kb) := by
  intro y c
  have := y.isLt
  rw [smOp_at _ _ _ _ _ _ (mk0_at y c), sOp_sc hq hk, Yx]
  exact if_congr (by omega) rfl rfl

theorem isS_mk1 (hq : IsQ x1 h q) (hk : IsK x2 h (2 * a + 1) kb) : IsS x1 x2 a h (2 * a + 1) (smOp mk1 q kb) := by
  intro y c
  have := y.isLt
  rw [smOp_at _ _ _ _ _ _ (mk1_at y c), sOp_sc hq hk, Yx]
  exact if_congr (by omega) rfl rfl

/-- What a block adds to row `r` of the accumulator, against the reference `m`. -/
def blkT (x1 : Vec Ideal S1x512x512 .bf16) (x2 : Vec Ideal S1x4096x512 .bf16) (x3 : Vec Ideal S1x16x256x256 .bf16)
    (a : ℕ) (h : Fin 4) (m : EReal) (r : Fin 80) (c : Fin 512) (j : ℕ) : EReal :=
  ∑ y : Fin 256, vx x3 h r (256 * j + y.val) * Ideal.exp2 (Yx x1 x2 a h c (256 * j + y.val) - m)

/-- A block of weights against a fixed reference. -/
def IsW (x1 : Vec Ideal S1x512x512 .bf16) (x2 : Vec Ideal S1x4096x512 .bf16) (a : ℕ) (h : Fin 4) (m : EReal) (j : ℕ)
    (p : FVec Ideal S256x512 .bf16) : Prop :=
  ∀ (y : Fin 256) (c : Fin 512), p (ix2 y c) = Ideal.exp2 (Yx x1 x2 a h c (256 * j + y.val) - m)

theorem isW {s : FVec Ideal S256x512 .f32} (m : EReal) (hs : IsS x1 x2 a h j s) :
    IsW x1 x2 a h m j (wOp (F := Ideal) m s) := by
  intro y c
  rw [wOp_at, hs]

/-- The accumulator over the blocks from `j` up to the queries' own. -/
def IsAcc (x1 : Vec Ideal S1x512x512 .bf16) (x2 : Vec Ideal S1x4096x512 .bf16) (x3 : Vec Ideal S1x16x256x256 .bf16)
    (a : ℕ) (h : Fin 4) (m : EReal) (j : ℕ) (acc : FVec Ideal S80x512 .f32) : Prop :=
  ∀ (r : Fin 80) (c : Fin 512), acc (ix2 r c) = ∑ b ∈ Finset.Ico j (2 * a + 2), blkT x1 x2 x3 a h m r c b

theorem isAcc_zero (m : EReal) : IsAcc x1 x2 x3 a h m (2 * a + 2) zOp := by
  intro r c
  rw [zOp_at, Finset.Ico_self, Finset.sum_empty]

theorem isAcc_step {m : EReal} {acc : FVec Ideal S80x512 .f32} {p : FVec Ideal S256x512 .bf16}
    (hacc : IsAcc x1 x2 x3 a h m (j + 1) acc) (hj : j < 2 * a + 2) (hp : IsW x1 x2 a h m j p) (hv : IsV x3 h j vb) :
    IsAcc x1 x2 x3 a h m j (uOp acc p vb) := by
  intro r c
  rw [uOp_at, hacc, Finset.sum_eq_sum_Ico_succ_bot hj, add_comm]
  refine congrArg (· + _) ?_
  exact Finset.sum_congr rfl fun y _ => by rw [hp, hv]

/-- The accumulator and the running maximum over the blocks from `j` up to the queries' own. -/
def IsOnl (x1 : Vec Ideal S1x512x512 .bf16) (x2 : Vec Ideal S1x4096x512 .bf16) (x3 : Vec Ideal S1x16x256x256 .bf16)
    (a : ℕ) (h : Fin 4) (j : ℕ) (m : FVec Ideal S1x512 .f32) (acc : FVec Ideal S80x512 .f32) : Prop :=
  ∀ c : Fin 512, m (ix2 0 c) ≠ (⊤ : EReal)
    ∧ (∀ b ∈ Finset.Ico j (2 * a + 2), ∀ y : Fin 256, Yx x1 x2 a h c (256 * b + y.val) ≤ m (ix2 0 c))
    ∧ ∀ r : Fin 80, acc (ix2 r c) = ∑ b ∈ Finset.Ico j (2 * a + 2), blkT x1 x2 x3 a h (m (ix2 0 c)) r c b

theorem isOnl_zero : IsOnl x1 x2 x3 a h (2 * a + 2) eOp zOp := by
  intro c
  refine ⟨?_, fun b hb => ?_, fun r => ?_⟩
  · rw [eOp_at]; exact bot_ne_top
  · rw [Finset.Ico_self] at hb; exact absurd hb (Finset.notMem_empty b)
  · rw [zOp_at, Finset.Ico_self, Finset.sum_empty]

theorem fold_max_ne_top {n : ℕ} (f : Fin n → EReal) (hf : ∀ y, f y ≠ ⊤) :
    Finset.univ.fold max (⊥ : EReal) f ≠ ⊤ := by
  refine ne_of_lt ?_
  rw [Finset.fold_max_lt]
  exact ⟨bot_lt_top, fun y _ => lt_top_iff_ne_top.2 (hf y)⟩

theorem le_fold_max {n : ℕ} (f : Fin n → EReal) (y : Fin n) : f y ≤ Finset.univ.fold max (⊥ : EReal) f := by
  rw [Finset.le_fold_max]
  exact Or.inr ⟨y, Finset.mem_univ y, le_rfl⟩

theorem isOnl_step {m : FVec Ideal S1x512 .f32} {acc : FVec Ideal S80x512 .f32} {s : FVec Ideal S256x512 .f32}
    (ht : ∀ (c : Fin 512) (t : ℕ), Yx x1 x2 a h c t ≠ ⊤)
    (hI : IsOnl x1 x2 x3 a h (j + 1) m acc) (hj : j < 2 * a + 2) (hs : IsS x1 x2 a h j s) (hv : IsV x3 h j vb) :
    IsOnl x1 x2 x3 a h j (mOp m (xOp s)) (oOp m acc s (xOp s) vb) := by
  intro c
  obtain ⟨h1, h2, h3⟩ := hI c
  have hx : mOp m (xOp s) (ix2 0 c) = max (m (ix2 0 c)) (Finset.univ.fold max (⊥ : EReal) fun y : Fin 256 => s (ix2 y c)) := by
    rw [mOp_at, xOp_at]
  have hm : m (ix2 0 c) ≤ mOp m (xOp s) (ix2 0 c) := by rw [hx]; exact le_max_left _ _
  have hM : mOp m (xOp s) (ix2 0 c) ≠ (⊤ : EReal) := by
    rw [hx]
    have hf := fold_max_ne_top (fun y : Fin 256 => s (ix2 y c)) fun y => by rw [hs]; exact ht c _
    exact ne_of_lt (max_lt (lt_top_iff_ne_top.2 h1) (lt_top_iff_ne_top.2 hf))
  refine ⟨hM, fun b hb y => ?_, fun r => ?_⟩
  · rw [Finset.mem_Ico] at hb
    by_cases hbj : b = j
    · subst hbj
      rw [← hs, hx]
      exact le_trans (le_fold_max (fun y : Fin 256 => s (ix2 y c)) y) (le_max_right _ _)
    · exact le_trans (h2 b (Finset.mem_Ico.2 ⟨by omega, hb.2⟩) y) hm
  · rw [oOp_at, h3, Finset.sum_eq_sum_Ico_succ_bot hj, add_comm]
    refine congrArg₂ (· + ·) ?_ ?_
    · exact Finset.sum_congr rfl fun y _ => by rw [hs, hv]
    · have hr := Cert.Mla.rescale (Finset.Ico (j + 1) (2 * a + 2) ×ˢ (Finset.univ : Finset (Fin 256))) (m (ix2 0 c))
        (mOp m (xOp s) (ix2 0 c)) (fun i => vx x3 h r (256 * i.1 + i.2.val))
        (fun i => Yx x1 x2 a h c (256 * i.1 + i.2.val)) (fun i hi => h2 i.1 (Finset.mem_product.1 hi).1 i.2) hm hM
      rw [Finset.sum_product, Finset.sum_product] at hr
      exact hr

end

end Cert.KernelIdeal.Hand

end
-- ==== Proof.Mla.KernelIdeal.Offs.lean ====
module

public import proofs.«01_k».proof.Proof.Gen.KernelIdeal.Frame
public import proofs.«01_k».proof.Proof.Gen.KernelIdeal.Loops

/-! Where the attention kernel reads its blocks, and how many trips its loops take. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem trips1 (i : grid0.Coords) : (k0_t1_loop i).trips = (i 2).val := by
  have hi : (i 2).val < 8 := (i 2).isLt
  delta k0_t1_loop
  generalize (i 2).val = a at *
  interval_cases a <;> decide

theorem trips2 (i : grid0.Coords) : (k0_t2_loop i).trips = 0 := by
  have hi : (i 2).val < 8 := (i 2).isLt
  delta k0_t2_loop
  generalize (i 2).val = a at *
  interval_cases a <;> decide

theorem trips3 (i : grid0.Coords) : (k0_t3_loop i).trips = 2 * (i 2).val := by
  have hi : (i 2).val < 8 := (i 2).isLt
  delta k0_t3_loop
  generalize (i 2).val = a at *
  interval_cases a <;> decide

theorem trips4 (i : grid0.Coords) : (k0_t4_loop i).trips = 0 := by
  have hi : (i 2).val < 8 := (i 2).isLt
  delta k0_t4_loop
  generalize (i 2).val = a at *
  interval_cases a <;> decide

theorem off1_2 (i : grid0.Coords) :
    k0_off1 i 2#32 = ![0, 256 * (2 * (i 2).val + 1), 0] := by
  have hi : (i 2).val < 8 := (i 2).isLt
  delta k0_off1
  dsimp only
  generalize (i 2).val = a at *
  interval_cases a <;> decide

theorem off29_2 (i : grid0.Coords) :
    k0_off29 i 2#32 = ![0, 256 * (2 * (i 2).val + 1), 0] := by
  have hi : (i 2).val < 8 := (i 2).isLt
  delta k0_off29
  dsimp only
  generalize (i 2).val = a at *
  interval_cases a <;> decide

theorem off1_1 (i : grid0.Coords) :
    k0_off1 i 1#32 = ![0, 256 * (2 * (i 2).val + 0), 0] := by
  have hi : (i 2).val < 8 := (i 2).isLt
  delta k0_off1
  dsimp only
  generalize (i 2).val = a at *
  interval_cases a <;> decide

theorem off29_1 (i : grid0.Coords) :
    k0_off29 i 1#32 = ![0, 256 * (2 * (i 2).val + 0), 0] := by
  have hi : (i 2).val < 8 := (i 2).isLt
  delta k0_off29
  dsimp only
  generalize (i 2).val = a at *
  interval_cases a <;> decide

theorem off9_0 (i : grid0.Coords) :
    k0_off9 i 0#32 = ![0, 256 * (2 * (i 2).val - 1), 0] := by
  have hi : (i 2).val < 8 := (i 2).isLt
  delta k0_off9
  dsimp only
  generalize (i 2).val = a at *
  interval_cases a <;> decide

theorem off13_0 (i : grid0.Coords) (k : Fin (k0_t1_loop i).trips) :
    k0_off13 i k 0#32 = ![0, 256 * (2 * (i 2).val - 3 - 2 * k.val), 0] := by
  have hi : (i 2).val < 8 := (i 2).isLt
  have hk := lt_of_lt_of_eq k.isLt (trips1 i)
  delta k0_off13
  obtain ⟨b, hb⟩ := k
  dsimp only at hk ⊢
  clear hb
  generalize (i 2).val = a at *
  interval_cases a <;> first | omega | (interval_cases b <;> decide)

theorem off5_0 (i : grid0.Coords) :
    k0_off5 i 0#32 = ![0, 2 * (i 2).val + 0, 0, 0] := by
  have hi : (i 2).val < 8 := (i 2).isLt
  delta k0_off5
  dsimp only
  generalize (i 2).val = a at *
  interval_cases a <;> decide

theorem off33_0 (i : grid0.Coords) :
    k0_off33 i 0#32 = ![0, 2 * (i 2).val + 0, 0, 0] := by
  have hi : (i 2).val < 8 := (i 2).isLt
  delta k0_off33
  dsimp only
  generalize (i 2).val = a at *
  interval_cases a <;> decide

theorem off17_0 (i : grid0.Coords) (k : Fin (k0_t1_loop i).trips) :
    k0_off17 i k 0#32 = ![0, 2 * (i 2).val - 1 - 2 * k.val, 0, 0] := by
  have hi : (i 2).val < 8 := (i 2).isLt
  have hk := lt_of_lt_of_eq k.isLt (trips1 i)
  delta k0_off17
  obtain ⟨b, hb⟩ := k
  dsimp only at hk ⊢
  clear hb
  generalize (i 2).val = a at *
  interval_cases a <;> first | omega | (interval_cases b <;> decide)

theorem off9_1 (i : grid0.Coords) :
    k0_off9 i 1#32 = ![0, 256 * (2 * (i 2).val - 2), 0] := by
  have hi : (i 2).val < 8 := (i 2).isLt
  delta k0_off9
  dsimp only
  generalize (i 2).val = a at *
  interval_cases a <;> decide

theorem off13_1 (i : grid0.Coords) (k : Fin (k0_t1_loop i).trips) :
    k0_off13 i k 1#32 = ![0, 256 * (2 * (i 2).val - 4 - 2 * k.val), 0] := by
  have hi : (i 2).val < 8 := (i 2).isLt
  have hk := lt_of_lt_of_eq k.isLt (trips1 i)
  delta k0_off13
  obtain ⟨b, hb⟩ := k
  dsimp only at hk ⊢
  clear hb
  generalize (i 2).val = a at *
  interval_cases a <;> first | omega | (interval_cases b <;> decide)

theorem off5_1 (i : grid0.Coords) :
    k0_off5 i 1#32 = ![0, 2 * (i 2).val + 1, 0, 0] := by
  have hi : (i 2).val < 8 := (i 2).isLt
  delta k0_off5
  dsimp only
  generalize (i 2).val = a at *
  interval_cases a <;> decide

theorem off33_1 (i : grid0.Coords) :
    k0_off33 i 1#32 = ![0, 2 * (i 2).val + 1, 0, 0] := by
  have hi : (i 2).val < 8 := (i 2).isLt
  delta k0_off33
  dsimp only
  generalize (i 2).val = a at *
  interval_cases a <;> decide

theorem off17_1 (i : grid0.Coords) (k : Fin (k0_t1_loop i).trips) :
    k0_off17 i k 1#32 = ![0, 2 * (i 2).val - 2 - 2 * k.val, 0, 0] := by
  have hi : (i 2).val < 8 := (i 2).isLt
  have hk := lt_of_lt_of_eq k.isLt (trips1 i)
  delta k0_off17
  obtain ⟨b, hb⟩ := k
  dsimp only at hk ⊢
  clear hb
  generalize (i 2).val = a at *
  interval_cases a <;> first | omega | (interval_cases b <;> decide)

theorem off37 (i : grid0.Coords) :
    k0_off37 i = ![0, 256 * (2 * (i 2).val - 1), 0] := by
  have hi : (i 2).val < 8 := (i 2).isLt
  delta k0_off37
  dsimp only
  generalize (i 2).val = a at *
  interval_cases a <;> decide

theorem off41 (i : grid0.Coords) (k : Fin (k0_t3_loop i).trips) :
    k0_off41 i k = ![0, 256 * (2 * (i 2).val - 2 - k.val), 0] := by
  have hi : (i 2).val < 8 := (i 2).isLt
  have hk := lt_of_lt_of_eq k.isLt (trips3 i)
  delta k0_off41
  obtain ⟨b, hb⟩ := k
  dsimp only at hk ⊢
  clear hb
  generalize (i 2).val = a at *
  interval_cases a <;> first | omega | (interval_cases b <;> decide)

theorem off45 (i : grid0.Coords) (k : Fin (k0_t3_loop i).trips) :
    k0_off45 i k = ![0, 2 * (i 2).val - 1 - k.val, 0, 0] := by
  have hi : (i 2).val < 8 := (i 2).isLt
  have hk := lt_of_lt_of_eq k.isLt (trips3 i)
  delta k0_off45
  obtain ⟨b, hb⟩ := k
  dsimp only at hk ⊢
  clear hb
  generalize (i 2).val = a at *
  interval_cases a <;> first | omega | (interval_cases b <;> decide)

theorem off2_2 (i : grid0.Coords) :
    k0_off2 i 2#32 = ![0, 256 * (2 * (i 2).val + 1), 128] := by
  have hi : (i 2).val < 8 := (i 2).isLt
  delta k0_off2
  dsimp only
  generalize (i 2).val = a at *
  interval_cases a <;> decide

theorem off30_2 (i : grid0.Coords) :
    k0_off30 i 2#32 = ![0, 256 * (2 * (i 2).val + 1), 128] := by
  have hi : (i 2).val < 8 := (i 2).isLt
  delta k0_off30
  dsimp only
  generalize (i 2).val = a at *
  interval_cases a <;> decide

theorem off2_1 (i : grid0.Coords) :
    k0_off2 i 1#32 = ![0, 256 * (2 * (i 2).val + 0), 128] := by
  have hi : (i 2).val < 8 := (i 2).isLt
  delta k0_off2
  dsimp only
  generalize (i 2).val = a at *
  interval_cases a <;> decide

theorem off30_1 (i : grid0.Coords) :
    k0_off30 i 1#32 = ![0, 256 * (2 * (i 2).val + 0), 128] := by
  have hi : (i 2).val < 8 := (i 2).isLt
  delta k0_off30
  dsimp only
  generalize (i 2).val = a at *
  interval_cases a <;> decide

theorem off10_0 (i : grid0.Coords) :
    k0_off10 i 0#32 = ![0, 256 * (2 * (i 2).val - 1), 128] := by
  have hi : (i 2).val < 8 := (i 2).isLt
  delta k0_off10
  dsimp only
  generalize (i 2).val = a at *
  interval_cases a <;> decide

theorem off14_0 (i : grid0.Coords) (k : Fin (k0_t1_loop i).trips) :
    k0_off14 i k 0#32 = ![0, 256 * (2 * (i 2).val - 3 - 2 * k.val), 128] := by
  have hi : (i 2).val < 8 := (i 2).isLt
  have hk := lt_of_lt_of_eq k.isLt (trips1 i)
  delta k0_off14
  obtain ⟨b, hb⟩ := k
  dsimp only at hk ⊢
  clear hb
  generalize (i 2).val = a at *
  interval_cases a <;> first | omega | (interval_cases b <;> decide)

theorem off6_0 (i : grid0.Coords) :
    k0_off6 i 0#32 = ![0, 2 * (i 2).val + 0, 64, 0] := by
  have hi : (i 2).val < 8 := (i 2).isLt
  delta k0_off6
  dsimp only
  generalize (i 2).val = a at *
  interval_cases a <;> decide

theorem off34_0 (i : grid0.Coords) :
    k0_off34 i 0#32 = ![0, 2 * (i 2).val + 0, 64, 0] := by
  have hi : (i 2).val < 8 := (i 2).isLt
  delta k0_off34
  dsimp only
  generalize (i 2).val = a at *
  interval_cases a <;> decide

theorem off18_0 (i : grid0.Coords) (k : Fin (k0_t1_loop i).trips) :
    k0_off18 i k 0#32 = ![0, 2 * (i 2).val - 1 - 2 * k.val, 64, 0] := by
  have hi : (i 2).val < 8 := (i 2).isLt
  have hk := lt_of_lt_of_eq k.isLt (trips1 i)
  delta k0_off18
  obtain ⟨b, hb⟩ := k
  dsimp only at hk ⊢
  clear hb
  generalize (i 2).val = a at *
  interval_cases a <;> first | omega | (interval_cases b <;> decide)

theorem off10_1 (i : grid0.Coords) :
    k0_off10 i 1#32 = ![0, 256 * (2 * (i 2).val - 2), 128] := by
  have hi : (i 2).val < 8 := (i 2).isLt
  delta k0_off10
  dsimp only
  generalize (i 2).val = a at *
  interval_cases a <;> decide

theorem off14_1 (i : grid0.Coords) (k : Fin (k0_t1_loop i).trips) :
    k0_off14 i k 1#32 = ![0, 256 * (2 * (i 2).val - 4 - 2 * k.val), 128] := by
  have hi : (i 2).val < 8 := (i 2).isLt
  have hk := lt_of_lt_of_eq k.isLt (trips1 i)
  delta k0_off14
  obtain ⟨b, hb⟩ := k
  dsimp only at hk ⊢
  clear hb
  generalize (i 2).val = a at *
  interval_cases a <;> first | omega | (interval_cases b <;> decide)

theorem off6_1 (i : grid0.Coords) :
    k0_off6 i 1#32 = ![0, 2 * (i 2).val + 1, 64, 0] := by
  have hi : (i 2).val < 8 := (i 2).isLt
  delta k0_off6
  dsimp only
  generalize (i 2).val = a at *
  interval_cases a <;> decide

theorem off34_1 (i : grid0.Coords) :
    k0_off34 i 1#32 = ![0, 2 * (i 2).val + 1, 64, 0] := by
  have hi : (i 2).val < 8 := (i 2).isLt
  delta k0_off34
  dsimp only
  generalize (i 2).val = a at *
  interval_cases a <;> decide

theorem off18_1 (i : grid0.Coords) (k : Fin (k0_t1_loop i).trips) :
    k0_off18 i k 1#32 = ![0, 2 * (i 2).val - 2 - 2 * k.val, 64, 0] := by
  have hi : (i 2).val < 8 := (i 2).isLt
  have hk := lt_of_lt_of_eq k.isLt (trips1 i)
  delta k0_off18
  obtain ⟨b, hb⟩ := k
  dsimp only at hk ⊢
  clear hb
  generalize (i 2).val = a at *
  interval_cases a <;> first | omega | (interval_cases b <;> decide)

theorem off38 (i : grid0.Coords) :
    k0_off38 i = ![0, 256 * (2 * (i 2).val - 1), 128] := by
  have hi : (i 2).val < 8 := (i 2).isLt
  delta k0_off38
  dsimp only
  generalize (i 2).val = a at *
  interval_cases a <;> decide

theorem off42 (i : grid0.Coords) (k : Fin (k0_t3_loop i).trips) :
    k0_off42 i k = ![0, 256 * (2 * (i 2).val - 2 - k.val), 128] := by
  have hi : (i 2).val < 8 := (i 2).isLt
  have hk := lt_of_lt_of_eq k.isLt (trips3 i)
  delta k0_off42
  obtain ⟨b, hb⟩ := k
  dsimp only at hk ⊢
  clear hb
  generalize (i 2).val = a at *
  interval_cases a <;> first | omega | (interval_cases b <;> decide)

theorem off46 (i : grid0.Coords) (k : Fin (k0_t3_loop i).trips) :
    k0_off46 i k = ![0, 2 * (i 2).val - 1 - k.val, 64, 0] := by
  have hi : (i 2).val < 8 := (i 2).isLt
  have hk := lt_of_lt_of_eq k.isLt (trips3 i)
  delta k0_off46
  obtain ⟨b, hb⟩ := k
  dsimp only at hk ⊢
  clear hb
  generalize (i 2).val = a at *
  interval_cases a <;> first | omega | (interval_cases b <;> decide)

theorem off3_2 (i : grid0.Coords) :
    k0_off3 i 2#32 = ![0, 256 * (2 * (i 2).val + 1), 256] := by
  have hi : (i 2).val < 8 := (i 2).isLt
  delta k0_off3
  dsimp only
  generalize (i 2).val = a at *
  interval_cases a <;> decide

theorem off31_2 (i : grid0.Coords) :
    k0_off31 i 2#32 = ![0, 256 * (2 * (i 2).val + 1), 256] := by
  have hi : (i 2).val < 8 := (i 2).isLt
  delta k0_off31
  dsimp only
  generalize (i 2).val = a at *
  interval_cases a <;> decide

theorem off3_1 (i : grid0.Coords) :
    k0_off3 i 1#32 = ![0, 256 * (2 * (i 2).val + 0), 256] := by
  have hi : (i 2).val < 8 := (i 2).isLt
  delta k0_off3
  dsimp only
  generalize (i 2).val = a at *
  interval_cases a <;> decide

theorem off31_1 (i : grid0.Coords) :
    k0_off31 i 1#32 = ![0, 256 * (2 * (i 2).val + 0), 256] := by
  have hi : (i 2).val < 8 := (i 2).isLt
  delta k0_off31
  dsimp only
  generalize (i 2).val = a at *
  interval_cases a <;> decide

theorem off11_0 (i : grid0.Coords) :
    k0_off11 i 0#32 = ![0, 256 * (2 * (i 2).val - 1), 256] := by
  have hi : (i 2).val < 8 := (i 2).isLt
  delta k0_off11
  dsimp only
  generalize (i 2).val = a at *
  interval_cases a <;> decide

theorem off15_0 (i : grid0.Coords) (k : Fin (k0_t1_loop i).trips) :
    k0_off15 i k 0#32 = ![0, 256 * (2 * (i 2).val - 3 - 2 * k.val), 256] := by
  have hi : (i 2).val < 8 := (i 2).isLt
  have hk := lt_of_lt_of_eq k.isLt (trips1 i)
  delta k0_off15
  obtain ⟨b, hb⟩ := k
  dsimp only at hk ⊢
  clear hb
  generalize (i 2).val = a at *
  interval_cases a <;> first | omega | (interval_cases b <;> decide)

theorem off7_0 (i : grid0.Coords) :
    k0_off7 i 0#32 = ![0, 2 * (i 2).val + 0, 128, 0] := by
  have hi : (i 2).val < 8 := (i 2).isLt
  delta k0_off7
  dsimp only
  generalize (i 2).val = a at *
  interval_cases a <;> decide

theorem off35_0 (i : grid0.Coords) :
    k0_off35 i 0#32 = ![0, 2 * (i 2).val + 0, 128, 0] := by
  have hi : (i 2).val < 8 := (i 2).isLt
  delta k0_off35
  dsimp only
  generalize (i 2).val = a at *
  interval_cases a <;> decide

theorem off19_0 (i : grid0.Coords) (k : Fin (k0_t1_loop i).trips) :
    k0_off19 i k 0#32 = ![0, 2 * (i 2).val - 1 - 2 * k.val, 128, 0] := by
  have hi : (i 2).val < 8 := (i 2).isLt
  have hk := lt_of_lt_of_eq k.isLt (trips1 i)
  delta k0_off19
  obtain ⟨b, hb⟩ := k
  dsimp only at hk ⊢
  clear hb
  generalize (i 2).val = a at *
  interval_cases a <;> first | omega | (interval_cases b <;> decide)

theorem off11_1 (i : grid0.Coords) :
    k0_off11 i 1#32 = ![0, 256 * (2 * (i 2).val - 2), 256] := by
  have hi : (i 2).val < 8 := (i 2).isLt
  delta k0_off11
  dsimp only
  generalize (i 2).val = a at *
  interval_cases a <;> decide

theorem off15_1 (i : grid0.Coords) (k : Fin (k0_t1_loop i).trips) :
    k0_off15 i k 1#32 = ![0, 256 * (2 * (i 2).val - 4 - 2 * k.val), 256] := by
  have hi : (i 2).val < 8 := (i 2).isLt
  have hk := lt_of_lt_of_eq k.isLt (trips1 i)
  delta k0_off15
  obtain ⟨b, hb⟩ := k
  dsimp only at hk ⊢
  clear hb
  generalize (i 2).val = a at *
  interval_cases a <;> first | omega | (interval_cases b <;> decide)

theorem off7_1 (i : grid0.Coords) :
    k0_off7 i 1#32 = ![0, 2 * (i 2).val + 1, 128, 0] := by
  have hi : (i 2).val < 8 := (i 2).isLt
  delta k0_off7
  dsimp only
  generalize (i 2).val = a at *
  interval_cases a <;> decide

theorem off35_1 (i : grid0.Coords) :
    k0_off35 i 1#32 = ![0, 2 * (i 2).val + 1, 128, 0] := by
  have hi : (i 2).val < 8 := (i 2).isLt
  delta k0_off35
  dsimp only
  generalize (i 2).val = a at *
  interval_cases a <;> decide

theorem off19_1 (i : grid0.Coords) (k : Fin (k0_t1_loop i).trips) :
    k0_off19 i k 1#32 = ![0, 2 * (i 2).val - 2 - 2 * k.val, 128, 0] := by
  have hi : (i 2).val < 8 := (i 2).isLt
  have hk := lt_of_lt_of_eq k.isLt (trips1 i)
  delta k0_off19
  obtain ⟨b, hb⟩ := k
  dsimp only at hk ⊢
  clear hb
  generalize (i 2).val = a at *
  interval_cases a <;> first | omega | (interval_cases b <;> decide)

theorem off39 (i : grid0.Coords) :
    k0_off39 i = ![0, 256 * (2 * (i 2).val - 1), 256] := by
  have hi : (i 2).val < 8 := (i 2).isLt
  delta k0_off39
  dsimp only
  generalize (i 2).val = a at *
  interval_cases a <;> decide

theorem off43 (i : grid0.Coords) (k : Fin (k0_t3_loop i).trips) :
    k0_off43 i k = ![0, 256 * (2 * (i 2).val - 2 - k.val), 256] := by
  have hi : (i 2).val < 8 := (i 2).isLt
  have hk := lt_of_lt_of_eq k.isLt (trips3 i)
  delta k0_off43
  obtain ⟨b, hb⟩ := k
  dsimp only at hk ⊢
  clear hb
  generalize (i 2).val = a at *
  interval_cases a <;> first | omega | (interval_cases b <;> decide)

theorem off47 (i : grid0.Coords) (k : Fin (k0_t3_loop i).trips) :
    k0_off47 i k = ![0, 2 * (i 2).val - 1 - k.val, 128, 0] := by
  have hi : (i 2).val < 8 := (i 2).isLt
  have hk := lt_of_lt_of_eq k.isLt (trips3 i)
  delta k0_off47
  obtain ⟨b, hb⟩ := k
  dsimp only at hk ⊢
  clear hb
  generalize (i 2).val = a at *
  interval_cases a <;> first | omega | (interval_cases b <;> decide)

theorem off4_2 (i : grid0.Coords) :
    k0_off4 i 2#32 = ![0, 256 * (2 * (i 2).val + 1), 384] := by
  have hi : (i 2).val < 8 := (i 2).isLt
  delta k0_off4
  dsimp only
  generalize (i 2).val = a at *
  interval_cases a <;> decide

theorem off32_2 (i : grid0.Coords) :
    k0_off32 i 2#32 = ![0, 256 * (2 * (i 2).val + 1), 384] := by
  have hi : (i 2).val < 8 := (i 2).isLt
  delta k0_off32
  dsimp only
  generalize (i 2).val = a at *
  interval_cases a <;> decide

theorem off4_1 (i : grid0.Coords) :
    k0_off4 i 1#32 = ![0, 256 * (2 * (i 2).val + 0), 384] := by
  have hi : (i 2).val < 8 := (i 2).isLt
  delta k0_off4
  dsimp only
  generalize (i 2).val = a at *
  interval_cases a <;> decide

theorem off32_1 (i : grid0.Coords) :
    k0_off32 i 1#32 = ![0, 256 * (2 * (i 2).val + 0), 384] := by
  have hi : (i 2).val < 8 := (i 2).isLt
  delta k0_off32
  dsimp only
  generalize (i 2).val = a at *
  interval_cases a <;> decide

theorem off12_0 (i : grid0.Coords) :
    k0_off12 i 0#32 = ![0, 256 * (2 * (i 2).val - 1), 384] := by
  have hi : (i 2).val < 8 := (i 2).isLt
  delta k0_off12
  dsimp only
  generalize (i 2).val = a at *
  interval_cases a <;> decide

theorem off16_0 (i : grid0.Coords) (k : Fin (k0_t1_loop i).trips) :
    k0_off16 i k 0#32 = ![0, 256 * (2 * (i 2).val - 3 - 2 * k.val), 384] := by
  have hi : (i 2).val < 8 := (i 2).isLt
  have hk := lt_of_lt_of_eq k.isLt (trips1 i)
  delta k0_off16
  obtain ⟨b, hb⟩ := k
  dsimp only at hk ⊢
  clear hb
  generalize (i 2).val = a at *
  interval_cases a <;> first | omega | (interval_cases b <;> decide)

theorem off8_0 (i : grid0.Coords) :
    k0_off8 i 0#32 = ![0, 2 * (i 2).val + 0, 192, 0] := by
  have hi : (i 2).val < 8 := (i 2).isLt
  delta k0_off8
  dsimp only
  generalize (i 2).val = a at *
  interval_cases a <;> decide

theorem off36_0 (i : grid0.Coords) :
    k0_off36 i 0#32 = ![0, 2 * (i 2).val + 0, 192, 0] := by
  have hi : (i 2).val < 8 := (i 2).isLt
  delta k0_off36
  dsimp only
  generalize (i 2).val = a at *
  interval_cases a <;> decide

theorem off20_0 (i : grid0.Coords) (k : Fin (k0_t1_loop i).trips) :
    k0_off20 i k 0#32 = ![0, 2 * (i 2).val - 1 - 2 * k.val, 192, 0] := by
  have hi : (i 2).val < 8 := (i 2).isLt
  have hk := lt_of_lt_of_eq k.isLt (trips1 i)
  delta k0_off20
  obtain ⟨b, hb⟩ := k
  dsimp only at hk ⊢
  clear hb
  generalize (i 2).val = a at *
  interval_cases a <;> first | omega | (interval_cases b <;> decide)

theorem off12_1 (i : grid0.Coords) :
    k0_off12 i 1#32 = ![0, 256 * (2 * (i 2).val - 2), 384] := by
  have hi : (i 2).val < 8 := (i 2).isLt
  delta k0_off12
  dsimp only
  generalize (i 2).val = a at *
  interval_cases a <;> decide

theorem off16_1 (i : grid0.Coords) (k : Fin (k0_t1_loop i).trips) :
    k0_off16 i k 1#32 = ![0, 256 * (2 * (i 2).val - 4 - 2 * k.val), 384] := by
  have hi : (i 2).val < 8 := (i 2).isLt
  have hk := lt_of_lt_of_eq k.isLt (trips1 i)
  delta k0_off16
  obtain ⟨b, hb⟩ := k
  dsimp only at hk ⊢
  clear hb
  generalize (i 2).val = a at *
  interval_cases a <;> first | omega | (interval_cases b <;> decide)

theorem off8_1 (i : grid0.Coords) :
    k0_off8 i 1#32 = ![0, 2 * (i 2).val + 1, 192, 0] := by
  have hi : (i 2).val < 8 := (i 2).isLt
  delta k0_off8
  dsimp only
  generalize (i 2).val = a at *
  interval_cases a <;> decide

theorem off36_1 (i : grid0.Coords) :
    k0_off36 i 1#32 = ![0, 2 * (i 2).val + 1, 192, 0] := by
  have hi : (i 2).val < 8 := (i 2).isLt
  delta k0_off36
  dsimp only
  generalize (i 2).val = a at *
  interval_cases a <;> decide

theorem off20_1 (i : grid0.Coords) (k : Fin (k0_t1_loop i).trips) :
    k0_off20 i k 1#32 = ![0, 2 * (i 2).val - 2 - 2 * k.val, 192, 0] := by
  have hi : (i 2).val < 8 := (i 2).isLt
  have hk := lt_of_lt_of_eq k.isLt (trips1 i)
  delta k0_off20
  obtain ⟨b, hb⟩ := k
  dsimp only at hk ⊢
  clear hb
  generalize (i 2).val = a at *
  interval_cases a <;> first | omega | (interval_cases b <;> decide)

theorem off40 (i : grid0.Coords) :
    k0_off40 i = ![0, 256 * (2 * (i 2).val - 1), 384] := by
  have hi : (i 2).val < 8 := (i 2).isLt
  delta k0_off40
  dsimp only
  generalize (i 2).val = a at *
  interval_cases a <;> decide

theorem off44 (i : grid0.Coords) (k : Fin (k0_t3_loop i).trips) :
    k0_off44 i k = ![0, 256 * (2 * (i 2).val - 2 - k.val), 384] := by
  have hi : (i 2).val < 8 := (i 2).isLt
  have hk := lt_of_lt_of_eq k.isLt (trips3 i)
  delta k0_off44
  obtain ⟨b, hb⟩ := k
  dsimp only at hk ⊢
  clear hb
  generalize (i 2).val = a at *
  interval_cases a <;> first | omega | (interval_cases b <;> decide)

theorem off48 (i : grid0.Coords) (k : Fin (k0_t3_loop i).trips) :
    k0_off48 i k = ![0, 2 * (i 2).val - 1 - k.val, 192, 0] := by
  have hi : (i 2).val < 8 := (i 2).isLt
  have hk := lt_of_lt_of_eq k.isLt (trips3 i)
  delta k0_off48
  obtain ⟨b, hb⟩ := k
  dsimp only at hk ⊢
  clear hb
  generalize (i 2).val = a at *
  interval_cases a <;> first | omega | (interval_cases b <;> decide)

end Cert.KernelIdeal.Hand

end
-- ==== Proof.Mla.KernelIdeal.Trip.lean ====
module

public import proofs.«01_k».proof.Proof.Mla.KernelIdeal.Ops

/-! What one trip of each loop of the attention kernel computes. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

set_option maxHeartbeats 4000000 in
/-- One trip of the loop over pairs of earlier blocks. -/
theorem trip1 (𝒱 : Variants) (c : Dev nD) (bd : Option 𝒱.V) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole) (v3 : BitVec 32) (v16 : FVec F S512x128 .bf16) (v22 : FVec F S512x128 .bf16) (v28 : FVec F S512x128 .bf16) (v34 : FVec F S512x128 .bf16) (v35 : Elt F .f32) (v128 : FVec F S256x512 .bf16) (v138 : FVec F S256x512 .bf16) (v157 : FVec F S80x512 .f32) (v163 : FVec F S80x512 .f32) (v176 : FVec F S256x512 .bf16) (v184 : FVec F S256x512 .bf16) (v192 : FVec F S256x512 .bf16) (v200 : FVec F S256x512 .bf16) (v212 : FVec F S256x512 .bf16) (v220 : FVec F S256x512 .bf16) (v228 : FVec F S256x512 .bf16) (v236 : FVec F S256x512 .bf16) (v237 : BitVec 32) (v243 : FVec F S80x512 .f32) (v249 : FVec F S80x512 .f32) (X_arg5 : BufTy.Contents (Elt F) arg5.view.ty) (X_arg6 : BufTy.Contents (Elt F) arg6.view.ty) (k : Fin (k0_t1_loop i).trips) (acc : FVec F S80x512 .f32 × FVec F S80x512 .f32 × FVec F S80x512 .f32 × FVec F S80x512 .f32 × FVec F S256x512 .bf16 × FVec F S256x512 .bf16 × FVec F S256x512 .bf16 × FVec F S256x512 .bf16 × FVec F S256x512 .bf16 × FVec F S256x512 .bf16 × FVec F S256x512 .bf16 × FVec F S256x512 .bf16) :
    tripR_k0_t1 (F := F) 𝒱 c bd i arg3 harg3 arg4 harg4 arg5 harg5 arg6 harg6 arg7 harg7 k0_pay1 v3 v16 v22 v28 v34 v35 v128 v138 v157 v163 v176 v184 v192 v200 v212 v220 v228 v236 v237 v243 v249 X_arg5 X_arg6 k acc =
      (uOp (uOp acc.1 acc.2.2.2.2.1 (ldV arg6 X_arg6 (k0_off17 i k 0#32) (k0_off17_inb i k 0))) acc.2.2.2.2.2.2.2.2.1 (ldV arg6 X_arg6 (k0_off17 i k 1#32) (k0_off17_inb i k 1)),
       uOp (uOp acc.2.1 acc.2.2.2.2.2.1 (ldV arg6 X_arg6 (k0_off18 i k 0#32) (k0_off18_inb i k 0))) acc.2.2.2.2.2.2.2.2.2.1 (ldV arg6 X_arg6 (k0_off18 i k 1#32) (k0_off18_inb i k 1)),
       uOp (uOp acc.2.2.1 acc.2.2.2.2.2.2.1 (ldV arg6 X_arg6 (k0_off19 i k 0#32) (k0_off19_inb i k 0))) acc.2.2.2.2.2.2.2.2.2.2.1 (ldV arg6 X_arg6 (k0_off19 i k 1#32) (k0_off19_inb i k 1)),
       uOp (uOp acc.2.2.2.1 acc.2.2.2.2.2.2.2.1 (ldV arg6 X_arg6 (k0_off20 i k 0#32) (k0_off20_inb i k 0))) acc.2.2.2.2.2.2.2.2.2.2.2 (ldV arg6 X_arg6 (k0_off20 i k 1#32) (k0_off20_inb i k 1)),
       wOp v35 (sOp v16 (ldK arg5 X_arg5 (k0_off13 i k 0#32) (k0_off13_inb i k 0))),
       wOp v35 (sOp v22 (ldK arg5 X_arg5 (k0_off14 i k 0#32) (k0_off14_inb i k 0))),
       wOp v35 (sOp v28 (ldK arg5 X_arg5 (k0_off15 i k 0#32) (k0_off15_inb i k 0))),
       wOp v35 (sOp v34 (ldK arg5 X_arg5 (k0_off16 i k 0#32) (k0_off16_inb i k 0))),
       wOp v35 (sOp v16 (ldK arg5 X_arg5 (k0_off13 i k 1#32) (k0_off13_inb i k 1))),
       wOp v35 (sOp v22 (ldK arg5 X_arg5 (k0_off14 i k 1#32) (k0_off14_inb i k 1))),
       wOp v35 (sOp v28 (ldK arg5 X_arg5 (k0_off15 i k 1#32) (k0_off15_inb i k 1))),
       wOp v35 (sOp v34 (ldK arg5 X_arg5 (k0_off16 i k 1#32) (k0_off16_inb i k 1)))) := by
  delta tripR_k0_t1 trip_k0_t1
  rfl

set_option maxHeartbeats 4000000 in
/-- One trip of the loop with running maxima. -/
theorem trip3 (𝒱 : Variants) (c : Dev nD) (bd : Option 𝒱.V) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole) (v0 : IVec S256x512 32) (v1 : IVec S256x512 32) (v3 : BitVec 32) (v16 : FVec F S512x128 .bf16) (v22 : FVec F S512x128 .bf16) (v28 : FVec F S512x128 .bf16) (v34 : FVec F S512x128 .bf16) (c0_i32_128 : BitVec 32) (X_arg5 : BufTy.Contents (Elt F) arg5.view.ty) (X_arg6 : BufTy.Contents (Elt F) arg6.view.ty) (k : Fin (k0_t3_loop i).trips) (acc : FVec F S1x512 .f32 × FVec F S80x512 .f32 × FVec F S1x512 .f32 × FVec F S80x512 .f32 × FVec F S1x512 .f32 × FVec F S80x512 .f32 × FVec F S1x512 .f32 × FVec F S80x512 .f32 × FVec F S256x512 .f32 × FVec F S1x512 .f32 × FVec F S256x512 .f32 × FVec F S1x512 .f32 × FVec F S256x512 .f32 × FVec F S1x512 .f32 × FVec F S256x512 .f32 × FVec F S1x512 .f32) :
    tripR_k0_t3 (F := F) 𝒱 c bd i arg3 harg3 arg4 harg4 arg5 harg5 arg6 harg6 arg7 harg7 v0 v1 k0_pay1 v3 v16 v22 v28 v34 c0_i32_128 X_arg5 X_arg6 k acc =
      (mOp acc.1 acc.2.2.2.2.2.2.2.2.2.1,
       oOp acc.1 acc.2.1 acc.2.2.2.2.2.2.2.2.1 acc.2.2.2.2.2.2.2.2.2.1 (ldV arg6 X_arg6 (k0_off45 i k) (k0_off45_inb i k)),
       mOp acc.2.2.1 acc.2.2.2.2.2.2.2.2.2.2.2.1,
       oOp acc.2.2.1 acc.2.2.2.1 acc.2.2.2.2.2.2.2.2.2.2.1 acc.2.2.2.2.2.2.2.2.2.2.2.1 (ldV arg6 X_arg6 (k0_off46 i k) (k0_off46_inb i k)),
       mOp acc.2.2.2.2.1 acc.2.2.2.2.2.2.2.2.2.2.2.2.2.1,
       oOp acc.2.2.2.2.1 acc.2.2.2.2.2.1 acc.2.2.2.2.2.2.2.2.2.2.2.2.1 acc.2.2.2.2.2.2.2.2.2.2.2.2.2.1 (ldV arg6 X_arg6 (k0_off47 i k) (k0_off47_inb i k)),
       mOp acc.2.2.2.2.2.2.1 acc.2.2.2.2.2.2.2.2.2.2.2.2.2.2.2,
       oOp acc.2.2.2.2.2.2.1 acc.2.2.2.2.2.2.2.1 acc.2.2.2.2.2.2.2.2.2.2.2.2.2.2.1 acc.2.2.2.2.2.2.2.2.2.2.2.2.2.2.2 (ldV arg6 X_arg6 (k0_off48 i k) (k0_off48_inb i k)),
       sOp v16 (ldK arg5 X_arg5 (k0_off41 i k) (k0_off41_inb i k)),
       xOp (sOp v16 (ldK arg5 X_arg5 (k0_off41 i k) (k0_off41_inb i k))),
       sOp v22 (ldK arg5 X_arg5 (k0_off42 i k) (k0_off42_inb i k)),
       xOp (sOp v22 (ldK arg5 X_arg5 (k0_off42 i k) (k0_off42_inb i k))),
       sOp v28 (ldK arg5 X_arg5 (k0_off43 i k) (k0_off43_inb i k)),
       xOp (sOp v28 (ldK arg5 X_arg5 (k0_off43 i k) (k0_off43_inb i k))),
       sOp v34 (ldK arg5 X_arg5 (k0_off44 i k) (k0_off44_inb i k)),
       xOp (sOp v34 (ldK arg5 X_arg5 (k0_off44 i k) (k0_off44_inb i k)))) := by
  delta tripR_k0_t3 trip_k0_t3
  rfl

end Cert.KernelIdeal.Hand

end
-- ==== Proof.Mla.KernelIdeal.Val.lean ====
module

public import proofs.«01_k».proof.Proof.Mla.KernelIdeal.Trip
public import proofs.«01_k».proof.Proof.Mla.KernelIdeal.RunB
public import proofs.«01_k».proof.Proof.Mla.KernelIdeal.RunU

/-! What the two runs of the attention kernel leave, in the operations of one head. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The bound, as the body loads it. -/
abbrev ldR (arg3 : Memref sig .tc .smem S1 .f32) (harg3 : arg3.IsWhole) (x0 : Vec F S1 .f32) : Elt F .f32 :=
  (View.readAt (Elt F) arg3.view (Rect.unit (s := S1) ![0] S1.size inb_S1_S1_0).toLoadRect (harg3.unread x0) (Shape.Idx.first (by decide)))

/-- What the loop over pairs starts from. -/
def initB (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16) (r : Elt F .f32) : FVec F S80x512 .f32 × FVec F S80x512 .f32 × FVec F S80x512 .f32 × FVec F S80x512 .f32 × FVec F S256x512 .bf16 × FVec F S256x512 .bf16 × FVec F S256x512 .bf16 × FVec F S256x512 .bf16 × FVec F S256x512 .bf16 × FVec F S256x512 .bf16 × FVec F S256x512 .bf16 × FVec F S256x512 .bf16 :=
      (uOp (uOp zOp (wOp r (smOp mk1 (qOp (ldQ arg4 (harg4.unread x1) ![0, 0, 0] inb_S1x512x512_S1x512x128_0_0_0)) (ldK arg5 (harg5.unread x2) (k0_off1 i 2#32) (k0_off1_inb i 1)))) (ldV arg6 (harg6.unread x3) (k0_off5 i 1#32) (k0_off5_inb i 1))) (wOp r (smOp mk0 (qOp (ldQ arg4 (harg4.unread x1) ![0, 0, 0] inb_S1x512x512_S1x512x128_0_0_0)) (ldK arg5 (harg5.unread x2) (k0_off1 i 1#32) (k0_off1_inb i 0)))) (ldV arg6 (harg6.unread x3) (k0_off5 i 0#32) (k0_off5_inb i 0)),
        uOp (uOp zOp (wOp r (smOp mk1 (qOp (ldQ arg4 (harg4.unread x1) ![0, 0, 128] inb_S1x512x512_S1x512x128_0_0_128)) (ldK arg5 (harg5.unread x2) (k0_off2 i 2#32) (k0_off2_inb i 1)))) (ldV arg6 (harg6.unread x3) (k0_off6 i 1#32) (k0_off6_inb i 1))) (wOp r (smOp mk0 (qOp (ldQ arg4 (harg4.unread x1) ![0, 0, 128] inb_S1x512x512_S1x512x128_0_0_128)) (ldK arg5 (harg5.unread x2) (k0_off2 i 1#32) (k0_off2_inb i 0)))) (ldV arg6 (harg6.unread x3) (k0_off6 i 0#32) (k0_off6_inb i 0)),
        uOp (uOp zOp (wOp r (smOp mk1 (qOp (ldQ arg4 (harg4.unread x1) ![0, 0, 256] inb_S1x512x512_S1x512x128_0_0_256)) (ldK arg5 (harg5.unread x2) (k0_off3 i 2#32) (k0_off3_inb i 1)))) (ldV arg6 (harg6.unread x3) (k0_off7 i 1#32) (k0_off7_inb i 1))) (wOp r (smOp mk0 (qOp (ldQ arg4 (harg4.unread x1) ![0, 0, 256] inb_S1x512x512_S1x512x128_0_0_256)) (ldK arg5 (harg5.unread x2) (k0_off3 i 1#32) (k0_off3_inb i 0)))) (ldV arg6 (harg6.unread x3) (k0_off7 i 0#32) (k0_off7_inb i 0)),
        uOp (uOp zOp (wOp r (smOp mk1 (qOp (ldQ arg4 (harg4.unread x1) ![0, 0, 384] inb_S1x512x512_S1x512x128_0_0_384)) (ldK arg5 (harg5.unread x2) (k0_off4 i 2#32) (k0_off4_inb i 1)))) (ldV arg6 (harg6.unread x3) (k0_off8 i 1#32) (k0_off8_inb i 1))) (wOp r (smOp mk0 (qOp (ldQ arg4 (harg4.unread x1) ![0, 0, 384] inb_S1x512x512_S1x512x128_0_0_384)) (ldK arg5 (harg5.unread x2) (k0_off4 i 1#32) (k0_off4_inb i 0)))) (ldV arg6 (harg6.unread x3) (k0_off8 i 0#32) (k0_off8_inb i 0)),
        wOp r (sOp (qOp (ldQ arg4 (harg4.unread x1) ![0, 0, 0] inb_S1x512x512_S1x512x128_0_0_0)) (ldK arg5 (harg5.unread x2) (k0_off9 i 0#32) (k0_off9_inb i 0))),
        wOp r (sOp (qOp (ldQ arg4 (harg4.unread x1) ![0, 0, 128] inb_S1x512x512_S1x512x128_0_0_128)) (ldK arg5 (harg5.unread x2) (k0_off10 i 0#32) (k0_off10_inb i 0))),
        wOp r (sOp (qOp (ldQ arg4 (harg4.unread x1) ![0, 0, 256] inb_S1x512x512_S1x512x128_0_0_256)) (ldK arg5 (harg5.unread x2) (k0_off11 i 0#32) (k0_off11_inb i 0))),
        wOp r (sOp (qOp (ldQ arg4 (harg4.unread x1) ![0, 0, 384] inb_S1x512x512_S1x512x128_0_0_384)) (ldK arg5 (harg5.unread x2) (k0_off12 i 0#32) (k0_off12_inb i 0))),
        wOp r (sOp (qOp (ldQ arg4 (harg4.unread x1) ![0, 0, 0] inb_S1x512x512_S1x512x128_0_0_0)) (ldK arg5 (harg5.unread x2) (k0_off9 i 1#32) (k0_off9_inb i 1))),
        wOp r (sOp (qOp (ldQ arg4 (harg4.unread x1) ![0, 0, 128] inb_S1x512x512_S1x512x128_0_0_128)) (ldK arg5 (harg5.unread x2) (k0_off10 i 1#32) (k0_off10_inb i 1))),
        wOp r (sOp (qOp (ldQ arg4 (harg4.unread x1) ![0, 0, 256] inb_S1x512x512_S1x512x128_0_0_256)) (ldK arg5 (harg5.unread x2) (k0_off11 i 1#32) (k0_off11_inb i 1))),
        wOp r (sOp (qOp (ldQ arg4 (harg4.unread x1) ![0, 0, 384] inb_S1x512x512_S1x512x128_0_0_384)) (ldK arg5 (harg5.unread x2) (k0_off12 i 1#32) (k0_off12_inb i 1))))

/-- What the loop over pairs ends with. -/
def midB (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16)  : FVec F S80x512 .f32 × FVec F S80x512 .f32 × FVec F S80x512 .f32 × FVec F S80x512 .f32 × FVec F S256x512 .bf16 × FVec F S256x512 .bf16 × FVec F S256x512 .bf16 × FVec F S256x512 .bf16 × FVec F S256x512 .bf16 × FVec F S256x512 .bf16 × FVec F S256x512 .bf16 × FVec F S256x512 .bf16 :=
  st_k0_t1 (F := F) Variants.none c none i arg3 harg3 arg4 harg4 arg5 harg5 arg6 harg6 arg7 harg7 k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) (ldR arg3 harg3 x0) (wOp (ldR arg3 harg3 x0) (smOp mk0 (qOp (ldQ arg4 (harg4.unread x1) ![0, 0, 256] inb_S1x512x512_S1x512x128_0_0_256)) (ldK arg5 (harg5.unread x2) (k0_off3 i 1#32) (k0_off3_inb i 0)))) (wOp (ldR arg3 harg3 x0) (smOp mk0 (qOp (ldQ arg4 (harg4.unread x1) ![0, 0, 384] inb_S1x512x512_S1x512x128_0_0_384)) (ldK arg5 (harg5.unread x2) (k0_off4 i 1#32) (k0_off4_inb i 0)))) (uOp zOp (wOp (ldR arg3 harg3 x0) (smOp mk1 (qOp (ldQ arg4 (harg4.unread x1) ![0, 0, 256] inb_S1x512x512_S1x512x128_0_0_256)) (ldK arg5 (harg5.unread x2) (k0_off3 i 2#32) (k0_off3_inb i 1)))) (ldV arg6 (harg6.unread x3) (k0_off7 i 1#32) (k0_off7_inb i 1))) (uOp zOp (wOp (ldR arg3 harg3 x0) (smOp mk1 (qOp (ldQ arg4 (harg4.unread x1) ![0, 0, 384] inb_S1x512x512_S1x512x128_0_0_384)) (ldK arg5 (harg5.unread x2) (k0_off4 i 2#32) (k0_off4_inb i 1)))) (ldV arg6 (harg6.unread x3) (k0_off8 i 1#32) (k0_off8_inb i 1))) (wOp (ldR arg3 harg3 x0) (sOp (qOp (ldQ arg4 (harg4.unread x1) ![0, 0, 0] inb_S1x512x512_S1x512x128_0_0_0)) (ldK arg5 (harg5.unread x2) (k0_off9 i 0#32) (k0_off9_inb i 0)))) (wOp (ldR arg3 harg3 x0) (sOp (qOp (ldQ arg4 (harg4.unread x1) ![0, 0, 128] inb_S1x512x512_S1x512x128_0_0_128)) (ldK arg5 (harg5.unread x2) (k0_off10 i 0#32) (k0_off10_inb i 0)))) (wOp (ldR arg3 harg3 x0) (sOp (qOp (ldQ arg4 (harg4.unread x1) ![0, 0, 256] inb_S1x512x512_S1x512x128_0_0_256)) (ldK arg5 (harg5.unread x2) (k0_off11 i 0#32) (k0_off11_inb i 0)))) (wOp (ldR arg3 harg3 x0) (sOp (qOp (ldQ arg4 (harg4.unread x1) ![0, 0, 384] inb_S1x512x512_S1x512x128_0_0_384)) (ldK arg5 (harg5.unread x2) (k0_off12 i 0#32) (k0_off12_inb i 0)))) (wOp (ldR arg3 harg3 x0) (sOp (qOp (ldQ arg4 (harg4.unread x1) ![0, 0, 0] inb_S1x512x512_S1x512x128_0_0_0)) (ldK arg5 (harg5.unread x2) (k0_off9 i 1#32) (k0_off9_inb i 1)))) (wOp (ldR arg3 harg3 x0) (sOp (qOp (ldQ arg4 (harg4.unread x1) ![0, 0, 128] inb_S1x512x512_S1x512x128_0_0_128)) (ldK arg5 (harg5.unread x2) (k0_off10 i 1#32) (k0_off10_inb i 1)))) (wOp (ldR arg3 harg3 x0) (sOp (qOp (ldQ arg4 (harg4.unread x1) ![0, 0, 256] inb_S1x512x512_S1x512x128_0_0_256)) (ldK arg5 (harg5.unread x2) (k0_off11 i 1#32) (k0_off11_inb i 1)))) (wOp (ldR arg3 harg3 x0) (sOp (qOp (ldQ arg4 (harg4.unread x1) ![0, 0, 384] inb_S1x512x512_S1x512x128_0_0_384)) (ldK arg5 (harg5.unread x2) (k0_off12 i 1#32) (k0_off12_inb i 1)))) (Scalar.addi (Scalar.muli (BitVec.ofNat 32 (i 2).val) 2#32) 0#32) (initB i arg3 harg3 arg4 harg4 arg5 harg5 arg6 harg6 arg7 harg7 x0 x1 x2 x3 (ldR arg3 harg3 x0)).1 (initB i arg3 harg3 arg4 harg4 arg5 harg5 arg6 harg6 arg7 harg7 x0 x1 x2 x3 (ldR arg3 harg3 x0)).2.1 (harg5.unread x2) (harg6.unread x3) (initB i arg3 harg3 arg4 harg4 arg5 harg5 arg6 harg6 arg7 harg7 x0 x1 x2 x3 (ldR arg3 harg3 x0)) (k0_t1_loop i).trips

/-- What the loops of the run with the bound end with. -/
def finB (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16)  : FVec F S80x512 .f32 × FVec F S80x512 .f32 × FVec F S80x512 .f32 × FVec F S80x512 .f32 × FVec F S256x512 .bf16 × FVec F S256x512 .bf16 × FVec F S256x512 .bf16 × FVec F S256x512 .bf16 × FVec F S256x512 .bf16 × FVec F S256x512 .bf16 × FVec F S256x512 .bf16 × FVec F S256x512 .bf16 :=
  st_k0_t2 (F := F) Variants.none c none i arg3 harg3 arg4 harg4 arg5 harg5 arg6 harg6 arg7 harg7 k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) (ldR arg3 harg3 x0) (wOp (ldR arg3 harg3 x0) (smOp mk0 (qOp (ldQ arg4 (harg4.unread x1) ![0, 0, 256] inb_S1x512x512_S1x512x128_0_0_256)) (ldK arg5 (harg5.unread x2) (k0_off3 i 1#32) (k0_off3_inb i 0)))) (wOp (ldR arg3 harg3 x0) (smOp mk0 (qOp (ldQ arg4 (harg4.unread x1) ![0, 0, 384] inb_S1x512x512_S1x512x128_0_0_384)) (ldK arg5 (harg5.unread x2) (k0_off4 i 1#32) (k0_off4_inb i 0)))) (uOp zOp (wOp (ldR arg3 harg3 x0) (smOp mk1 (qOp (ldQ arg4 (harg4.unread x1) ![0, 0, 256] inb_S1x512x512_S1x512x128_0_0_256)) (ldK arg5 (harg5.unread x2) (k0_off3 i 2#32) (k0_off3_inb i 1)))) (ldV arg6 (harg6.unread x3) (k0_off7 i 1#32) (k0_off7_inb i 1))) (uOp zOp (wOp (ldR arg3 harg3 x0) (smOp mk1 (qOp (ldQ arg4 (harg4.unread x1) ![0, 0, 384] inb_S1x512x512_S1x512x128_0_0_384)) (ldK arg5 (harg5.unread x2) (k0_off4 i 2#32) (k0_off4_inb i 1)))) (ldV arg6 (harg6.unread x3) (k0_off8 i 1#32) (k0_off8_inb i 1))) (wOp (ldR arg3 harg3 x0) (sOp (qOp (ldQ arg4 (harg4.unread x1) ![0, 0, 0] inb_S1x512x512_S1x512x128_0_0_0)) (ldK arg5 (harg5.unread x2) (k0_off9 i 0#32) (k0_off9_inb i 0)))) (wOp (ldR arg3 harg3 x0) (sOp (qOp (ldQ arg4 (harg4.unread x1) ![0, 0, 128] inb_S1x512x512_S1x512x128_0_0_128)) (ldK arg5 (harg5.unread x2) (k0_off10 i 0#32) (k0_off10_inb i 0)))) (wOp (ldR arg3 harg3 x0) (sOp (qOp (ldQ arg4 (harg4.unread x1) ![0, 0, 256] inb_S1x512x512_S1x512x128_0_0_256)) (ldK arg5 (harg5.unread x2) (k0_off11 i 0#32) (k0_off11_inb i 0)))) (wOp (ldR arg3 harg3 x0) (sOp (qOp (ldQ arg4 (harg4.unread x1) ![0, 0, 384] inb_S1x512x512_S1x512x128_0_0_384)) (ldK arg5 (harg5.unread x2) (k0_off12 i 0#32) (k0_off12_inb i 0)))) (wOp (ldR arg3 harg3 x0) (sOp (qOp (ldQ arg4 (harg4.unread x1) ![0, 0, 0] inb_S1x512x512_S1x512x128_0_0_0)) (ldK arg5 (harg5.unread x2) (k0_off9 i 1#32) (k0_off9_inb i 1)))) (wOp (ldR arg3 harg3 x0) (sOp (qOp (ldQ arg4 (harg4.unread x1) ![0, 0, 128] inb_S1x512x512_S1x512x128_0_0_128)) (ldK arg5 (harg5.unread x2) (k0_off10 i 1#32) (k0_off10_inb i 1)))) (wOp (ldR arg3 harg3 x0) (sOp (qOp (ldQ arg4 (harg4.unread x1) ![0, 0, 256] inb_S1x512x512_S1x512x128_0_0_256)) (ldK arg5 (harg5.unread x2) (k0_off11 i 1#32) (k0_off11_inb i 1)))) (wOp (ldR arg3 harg3 x0) (sOp (qOp (ldQ arg4 (harg4.unread x1) ![0, 0, 384] inb_S1x512x512_S1x512x128_0_0_384)) (ldK arg5 (harg5.unread x2) (k0_off12 i 1#32) (k0_off12_inb i 1)))) (Scalar.addi (Scalar.muli (BitVec.ofNat 32 (i 2).val) 2#32) 0#32) (initB i arg3 harg3 arg4 harg4 arg5 harg5 arg6 harg6 arg7 harg7 x0 x1 x2 x3 (ldR arg3 harg3 x0)).1 (initB i arg3 harg3 arg4 harg4 arg5 harg5 arg6 harg6 arg7 harg7 x0 x1 x2 x3 (ldR arg3 harg3 x0)).2.1 (k0_t2_loop i).lb (harg5.unread x2) (harg6.unread x3) (midB c i arg3 harg3 arg4 harg4 arg5 harg5 arg6 harg6 arg7 harg7 x0 x1 x2 x3) (k0_t2_loop i).trips

set_option maxHeartbeats 8000000 in
/-- The pieces the run with the bound leaves. -/
theorem runB_val (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16) (hb : bnd x0 = 1#1)  :
    (runB c i arg3 harg3 arg4 harg4 arg5 harg5 arg6 harg6 arg7 harg7 x0 x1 x2 x3 hb).1 =
      [⟨Rect.unit (s := S1x256x512) ![0, 192, 0] S1x64x512.size inb_S1x256x512_S1x64x512_0_192_0, fOp (finB c i arg3 harg3 arg4 harg4 arg5 harg5 arg6 harg6 arg7 harg7 x0 x1 x2 x3).2.2.2.1⟩,
       ⟨Rect.unit (s := S1x256x512) ![0, 128, 0] S1x64x512.size inb_S1x256x512_S1x64x512_0_128_0, fOp (finB c i arg3 harg3 arg4 harg4 arg5 harg5 arg6 harg6 arg7 harg7 x0 x1 x2 x3).2.2.1⟩,
       ⟨Rect.unit (s := S1x256x512) ![0, 64, 0] S1x64x512.size inb_S1x256x512_S1x64x512_0_64_0, fOp (finB c i arg3 harg3 arg4 harg4 arg5 harg5 arg6 harg6 arg7 harg7 x0 x1 x2 x3).2.1⟩,
       ⟨Rect.unit (s := S1x256x512) ![0, 0, 0] S1x64x512.size inb_S1x256x512_S1x64x512_0_0_0, fOp (finB c i arg3 harg3 arg4 harg4 arg5 harg5 arg6 harg6 arg7 harg7 x0 x1 x2 x3).1⟩] := by
  delta runB
  rfl

/-- What the loop with running maxima starts from. -/
def initU (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16)  : FVec F S1x512 .f32 × FVec F S80x512 .f32 × FVec F S1x512 .f32 × FVec F S80x512 .f32 × FVec F S1x512 .f32 × FVec F S80x512 .f32 × FVec F S1x512 .f32 × FVec F S80x512 .f32 × FVec F S256x512 .f32 × FVec F S1x512 .f32 × FVec F S256x512 .f32 × FVec F S1x512 .f32 × FVec F S256x512 .f32 × FVec F S1x512 .f32 × FVec F S256x512 .f32 × FVec F S1x512 .f32 :=
      (mOp (mOp eOp (xOp (smOp mk1 (qOp (ldQ arg4 (harg4.unread x1) ![0, 0, 0] inb_S1x512x512_S1x512x128_0_0_0)) (ldK arg5 (harg5.unread x2) (k0_off29 i 2#32) (k0_off29_inb i 1))))) (xOp (smOp mk0 (qOp (ldQ arg4 (harg4.unread x1) ![0, 0, 0] inb_S1x512x512_S1x512x128_0_0_0)) (ldK arg5 (harg5.unread x2) (k0_off29 i 1#32) (k0_off29_inb i 0)))),
        oOp (mOp eOp (xOp (smOp mk1 (qOp (ldQ arg4 (harg4.unread x1) ![0, 0, 0] inb_S1x512x512_S1x512x128_0_0_0)) (ldK arg5 (harg5.unread x2) (k0_off29 i 2#32) (k0_off29_inb i 1))))) (oOp eOp zOp (smOp mk1 (qOp (ldQ arg4 (harg4.unread x1) ![0, 0, 0] inb_S1x512x512_S1x512x128_0_0_0)) (ldK arg5 (harg5.unread x2) (k0_off29 i 2#32) (k0_off29_inb i 1))) (xOp (smOp mk1 (qOp (ldQ arg4 (harg4.unread x1) ![0, 0, 0] inb_S1x512x512_S1x512x128_0_0_0)) (ldK arg5 (harg5.unread x2) (k0_off29 i 2#32) (k0_off29_inb i 1)))) (ldV arg6 (harg6.unread x3) (k0_off33 i 1#32) (k0_off33_inb i 1))) (smOp mk0 (qOp (ldQ arg4 (harg4.unread x1) ![0, 0, 0] inb_S1x512x512_S1x512x128_0_0_0)) (ldK arg5 (harg5.unread x2) (k0_off29 i 1#32) (k0_off29_inb i 0))) (xOp (smOp mk0 (qOp (ldQ arg4 (harg4.unread x1) ![0, 0, 0] inb_S1x512x512_S1x512x128_0_0_0)) (ldK arg5 (harg5.unread x2) (k0_off29 i 1#32) (k0_off29_inb i 0)))) (ldV arg6 (harg6.unread x3) (k0_off33 i 0#32) (k0_off33_inb i 0)),
        mOp (mOp eOp (xOp (smOp mk1 (qOp (ldQ arg4 (harg4.unread x1) ![0, 0, 128] inb_S1x512x512_S1x512x128_0_0_128)) (ldK arg5 (harg5.unread x2) (k0_off30 i 2#32) (k0_off30_inb i 1))))) (xOp (smOp mk0 (qOp (ldQ arg4 (harg4.unread x1) ![0, 0, 128] inb_S1x512x512_S1x512x128_0_0_128)) (ldK arg5 (harg5.unread x2) (k0_off30 i 1#32) (k0_off30_inb i 0)))),
        oOp (mOp eOp (xOp (smOp mk1 (qOp (ldQ arg4 (harg4.unread x1) ![0, 0, 128] inb_S1x512x512_S1x512x128_0_0_128)) (ldK arg5 (harg5.unread x2) (k0_off30 i 2#32) (k0_off30_inb i 1))))) (oOp eOp zOp (smOp mk1 (qOp (ldQ arg4 (harg4.unread x1) ![0, 0, 128] inb_S1x512x512_S1x512x128_0_0_128)) (ldK arg5 (harg5.unread x2) (k0_off30 i 2#32) (k0_off30_inb i 1))) (xOp (smOp mk1 (qOp (ldQ arg4 (harg4.unread x1) ![0, 0, 128] inb_S1x512x512_S1x512x128_0_0_128)) (ldK arg5 (harg5.unread x2) (k0_off30 i 2#32) (k0_off30_inb i 1)))) (ldV arg6 (harg6.unread x3) (k0_off34 i 1#32) (k0_off34_inb i 1))) (smOp mk0 (qOp (ldQ arg4 (harg4.unread x1) ![0, 0, 128] inb_S1x512x512_S1x512x128_0_0_128)) (ldK arg5 (harg5.unread x2) (k0_off30 i 1#32) (k0_off30_inb i 0))) (xOp (smOp mk0 (qOp (ldQ arg4 (harg4.unread x1) ![0, 0, 128] inb_S1x512x512_S1x512x128_0_0_128)) (ldK arg5 (harg5.unread x2) (k0_off30 i 1#32) (k0_off30_inb i 0)))) (ldV arg6 (harg6.unread x3) (k0_off34 i 0#32) (k0_off34_inb i 0)),
        mOp (mOp eOp (xOp (smOp mk1 (qOp (ldQ arg4 (harg4.unread x1) ![0, 0, 256] inb_S1x512x512_S1x512x128_0_0_256)) (ldK arg5 (harg5.unread x2) (k0_off31 i 2#32) (k0_off31_inb i 1))))) (xOp (smOp mk0 (qOp (ldQ arg4 (harg4.unread x1) ![0, 0, 256] inb_S1x512x512_S1x512x128_0_0_256)) (ldK arg5 (harg5.unread x2) (k0_off31 i 1#32) (k0_off31_inb i 0)))),
        oOp (mOp eOp (xOp (smOp mk1 (qOp (ldQ arg4 (harg4.unread x1) ![0, 0, 256] inb_S1x512x512_S1x512x128_0_0_256)) (ldK arg5 (harg5.unread x2) (k0_off31 i 2#32) (k0_off31_inb i 1))))) (oOp eOp zOp (smOp mk1 (qOp (ldQ arg4 (harg4.unread x1) ![0, 0, 256] inb_S1x512x512_S1x512x128_0_0_256)) (ldK arg5 (harg5.unread x2) (k0_off31 i 2#32) (k0_off31_inb i 1))) (xOp (smOp mk1 (qOp (ldQ arg4 (harg4.unread x1) ![0, 0, 256] inb_S1x512x512_S1x512x128_0_0_256)) (ldK arg5 (harg5.unread x2) (k0_off31 i 2#32) (k0_off31_inb i 1)))) (ldV arg6 (harg6.unread x3) (k0_off35 i 1#32) (k0_off35_inb i 1))) (smOp mk0 (qOp (ldQ arg4 (harg4.unread x1) ![0, 0, 256] inb_S1x512x512_S1x512x128_0_0_256)) (ldK arg5 (harg5.unread x2) (k0_off31 i 1#32) (k0_off31_inb i 0))) (xOp (smOp mk0 (qOp (ldQ arg4 (harg4.unread x1) ![0, 0, 256] inb_S1x512x512_S1x512x128_0_0_256)) (ldK arg5 (harg5.unread x2) (k0_off31 i 1#32) (k0_off31_inb i 0)))) (ldV arg6 (harg6.unread x3) (k0_off35 i 0#32) (k0_off35_inb i 0)),
        mOp (mOp eOp (xOp (smOp mk1 (qOp (ldQ arg4 (harg4.unread x1) ![0, 0, 384] inb_S1x512x512_S1x512x128_0_0_384)) (ldK arg5 (harg5.unread x2) (k0_off32 i 2#32) (k0_off32_inb i 1))))) (xOp (smOp mk0 (qOp (ldQ arg4 (harg4.unread x1) ![0, 0, 384] inb_S1x512x512_S1x512x128_0_0_384)) (ldK arg5 (harg5.unread x2) (k0_off32 i 1#32) (k0_off32_inb i 0)))),
        oOp (mOp eOp (xOp (smOp mk1 (qOp (ldQ arg4 (harg4.unread x1) ![0, 0, 384] inb_S1x512x512_S1x512x128_0_0_384)) (ldK arg5 (harg5.unread x2) (k0_off32 i 2#32) (k0_off32_inb i 1))))) (oOp eOp zOp (smOp mk1 (qOp (ldQ arg4 (harg4.unread x1) ![0, 0, 384] inb_S1x512x512_S1x512x128_0_0_384)) (ldK arg5 (harg5.unread x2) (k0_off32 i 2#32) (k0_off32_inb i 1))) (xOp (smOp mk1 (qOp (ldQ arg4 (harg4.unread x1) ![0, 0, 384] inb_S1x512x512_S1x512x128_0_0_384)) (ldK arg5 (harg5.unread x2) (k0_off32 i 2#32) (k0_off32_inb i 1)))) (ldV arg6 (harg6.unread x3) (k0_off36 i 1#32) (k0_off36_inb i 1))) (smOp mk0 (qOp (ldQ arg4 (harg4.unread x1) ![0, 0, 384] inb_S1x512x512_S1x512x128_0_0_384)) (ldK arg5 (harg5.unread x2) (k0_off32 i 1#32) (k0_off32_inb i 0))) (xOp (smOp mk0 (qOp (ldQ arg4 (harg4.unread x1) ![0, 0, 384] inb_S1x512x512_S1x512x128_0_0_384)) (ldK arg5 (harg5.unread x2) (k0_off32 i 1#32) (k0_off32_inb i 0)))) (ldV arg6 (harg6.unread x3) (k0_off36 i 0#32) (k0_off36_inb i 0)),
        sOp (qOp (ldQ arg4 (harg4.unread x1) ![0, 0, 0] inb_S1x512x512_S1x512x128_0_0_0)) (ldK arg5 (harg5.unread x2) (k0_off37 i) (k0_off37_inb i)),
        xOp (sOp (qOp (ldQ arg4 (harg4.unread x1) ![0, 0, 0] inb_S1x512x512_S1x512x128_0_0_0)) (ldK arg5 (harg5.unread x2) (k0_off37 i) (k0_off37_inb i))),
        sOp (qOp (ldQ arg4 (harg4.unread x1) ![0, 0, 128] inb_S1x512x512_S1x512x128_0_0_128)) (ldK arg5 (harg5.unread x2) (k0_off38 i) (k0_off38_inb i)),
        xOp (sOp (qOp (ldQ arg4 (harg4.unread x1) ![0, 0, 128] inb_S1x512x512_S1x512x128_0_0_128)) (ldK arg5 (harg5.unread x2) (k0_off38 i) (k0_off38_inb i))),
        sOp (qOp (ldQ arg4 (harg4.unread x1) ![0, 0, 256] inb_S1x512x512_S1x512x128_0_0_256)) (ldK arg5 (harg5.unread x2) (k0_off39 i) (k0_off39_inb i)),
        xOp (sOp (qOp (ldQ arg4 (harg4.unread x1) ![0, 0, 256] inb_S1x512x512_S1x512x128_0_0_256)) (ldK arg5 (harg5.unread x2) (k0_off39 i) (k0_off39_inb i))),
        sOp (qOp (ldQ arg4 (harg4.unread x1) ![0, 0, 384] inb_S1x512x512_S1x512x128_0_0_384)) (ldK arg5 (harg5.unread x2) (k0_off40 i) (k0_off40_inb i)),
        xOp (sOp (qOp (ldQ arg4 (harg4.unread x1) ![0, 0, 384] inb_S1x512x512_S1x512x128_0_0_384)) (ldK arg5 (harg5.unread x2) (k0_off40 i) (k0_off40_inb i))))

/-- What the loop with running maxima ends with. -/
def midU (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16)  : FVec F S1x512 .f32 × FVec F S80x512 .f32 × FVec F S1x512 .f32 × FVec F S80x512 .f32 × FVec F S1x512 .f32 × FVec F S80x512 .f32 × FVec F S1x512 .f32 × FVec F S80x512 .f32 × FVec F S256x512 .f32 × FVec F S1x512 .f32 × FVec F S256x512 .f32 × FVec F S1x512 .f32 × FVec F S256x512 .f32 × FVec F S1x512 .f32 × FVec F S256x512 .f32 × FVec F S1x512 .f32 :=
  st_k0_t3 (F := F) Variants.none c none i arg3 harg3 arg4 harg4 arg5 harg5 arg6 harg6 arg7 harg7 (iota .tc S256x512 32 [0] iota_S256x512_d0_w32) (iota .tc S256x512 32 [1] iota_S256x512_d1_w32) k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) 0#32 (harg5.unread x2) (harg6.unread x3) (initU i arg3 harg3 arg4 harg4 arg5 harg5 arg6 harg6 arg7 harg7 x0 x1 x2 x3) (k0_t3_loop i).trips

/-- What the loops of the run without the bound end with. -/
def finU (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16)  : FVec F S1x512 .f32 × FVec F S80x512 .f32 × FVec F S1x512 .f32 × FVec F S80x512 .f32 × FVec F S1x512 .f32 × FVec F S80x512 .f32 × FVec F S1x512 .f32 × FVec F S80x512 .f32 × FVec F S256x512 .f32 × FVec F S1x512 .f32 × FVec F S256x512 .f32 × FVec F S1x512 .f32 × FVec F S256x512 .f32 × FVec F S1x512 .f32 × FVec F S256x512 .f32 × FVec F S1x512 .f32 :=
  st_k0_t4 (F := F) Variants.none c none i arg3 harg3 arg4 harg4 arg5 harg5 arg6 harg6 arg7 harg7 (iota .tc S256x512 32 [0] iota_S256x512_d0_w32) (iota .tc S256x512 32 [1] iota_S256x512_d1_w32) k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) (k0_t4_loop i).lb (harg5.unread x2) (harg6.unread x3) (midU c i arg3 harg3 arg4 harg4 arg5 harg5 arg6 harg6 arg7 harg7 x0 x1 x2 x3) (k0_t4_loop i).trips

set_option maxHeartbeats 8000000 in
/-- The pieces the run without the bound leaves. -/
theorem runU_val (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec F S1 .f32) (x1 : Vec F S1x512x512 .bf16) (x2 : Vec F S1x4096x512 .bf16) (x3 : Vec F S1x16x256x256 .bf16) (hb : bnd x0 = 0#1)  :
    (runU c i arg3 harg3 arg4 harg4 arg5 harg5 arg6 harg6 arg7 harg7 x0 x1 x2 x3 hb).1 =
      [⟨Rect.unit (s := S1x256x512) ![0, 192, 0] S1x64x512.size inb_S1x256x512_S1x64x512_0_192_0, fOp (finU c i arg3 harg3 arg4 harg4 arg5 harg5 arg6 harg6 arg7 harg7 x0 x1 x2 x3).2.2.2.2.2.2.2.1⟩,
       ⟨Rect.unit (s := S1x256x512) ![0, 128, 0] S1x64x512.size inb_S1x256x512_S1x64x512_0_128_0, fOp (finU c i arg3 harg3 arg4 harg4 arg5 harg5 arg6 harg6 arg7 harg7 x0 x1 x2 x3).2.2.2.2.2.1⟩,
       ⟨Rect.unit (s := S1x256x512) ![0, 64, 0] S1x64x512.size inb_S1x256x512_S1x64x512_0_64_0, fOp (finU c i arg3 harg3 arg4 harg4 arg5 harg5 arg6 harg6 arg7 harg7 x0 x1 x2 x3).2.2.2.1⟩,
       ⟨Rect.unit (s := S1x256x512) ![0, 0, 0] S1x64x512.size inb_S1x256x512_S1x64x512_0_0_0, fOp (finU c i arg3 harg3 arg4 harg4 arg5 harg5 arg6 harg6 arg7 harg7 x0 x1 x2 x3).2.1⟩] := by
  delta runU
  rfl

end Cert.KernelIdeal.Hand

end
-- ==== Proof.Mla.KernelIdeal.Sweep.lean ====
module

public import proofs.«01_k».proof.Proof.Mla.KernelIdeal.Head
public import proofs.«01_k».proof.Proof.Mla.KernelIdeal.Offs
public import proofs.«01_k».proof.Proof.Mla.KernelIdeal.Val

/-! The loops of the attention kernel, over the extended reals: what their accumulators hold at the end. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

attribute [local irreducible] mOp oOp sOp xOp uOp wOp smOp zOp eOp qOp mk0 mk1

section
variable {x1 : Vec Ideal S1x512x512 .bf16} {x2 : Vec Ideal S1x4096x512 .bf16} {x3 : Vec Ideal S1x16x256x256 .bf16}
  {h : Fin 4} {q : FVec Ideal S512x128 .bf16} {a n : ℕ}

/-- One head before trip `n` of the loop over pairs of blocks. -/
def HB (x1 : Vec Ideal S1x512x512 .bf16) (x2 : Vec Ideal S1x4096x512 .bf16) (x3 : Vec Ideal S1x16x256x256 .bf16)
    (a : ℕ) (m : EReal) (h : Fin 4) (n : ℕ) (acc : FVec Ideal S80x512 .f32) (p0 p1 : FVec Ideal S256x512 .bf16) : Prop :=
  IsAcc x1 x2 x3 a h m (2 * a - 2 * n) acc
    ∧ (n < a → IsW x1 x2 a h m (2 * a - 1 - 2 * n) p0 ∧ IsW x1 x2 a h m (2 * a - 2 - 2 * n) p1)

theorem HB_step {m : EReal} {acc : FVec Ideal S80x512 .f32} {p0 p1 : FVec Ideal S256x512 .bf16}
    {vb0 vb1 : Vec Ideal S1x1x64x256 .bf16} {kb0 kb1 : Vec Ideal S1x256x128 .bf16} (hn : n < a)
    (hI : HB x1 x2 x3 a m h n acc p0 p1) (hq : IsQ x1 h q)
    (hv0 : IsV x3 h (2 * a - 1 - 2 * n) vb0) (hv1 : IsV x3 h (2 * a - 2 - 2 * n) vb1)
    (hk0 : IsK x2 h (2 * a - 3 - 2 * n) kb0) (hk1 : IsK x2 h (2 * a - 4 - 2 * n) kb1) :
    HB x1 x2 x3 a m h (n + 1) (uOp (uOp acc p0 vb0) p1 vb1) (wOp (F := Ideal) m (sOp q kb0)) (wOp (F := Ideal) m (sOp q kb1)) := by
  obtain ⟨hacc, hw⟩ := hI
  obtain ⟨hw0, hw1⟩ := hw hn
  constructor
  · rw [show 2 * a - 2 * n = 2 * a - 1 - 2 * n + 1 by omega] at hacc
    have h1 := isAcc_step hacc (by omega) hw0 hv0
    rw [show 2 * a - 1 - 2 * n = 2 * a - 2 - 2 * n + 1 by omega] at h1
    have h2 := isAcc_step h1 (by omega) hw1 hv1
    rw [show 2 * a - 2 * (n + 1) = 2 * a - 2 - 2 * n by omega]
    exact h2
  · intro hn1
    rw [show 2 * a - 1 - 2 * (n + 1) = 2 * a - 3 - 2 * n by omega, show 2 * a - 2 - 2 * (n + 1) = 2 * a - 4 - 2 * n by omega]
    exact ⟨isW m (isS_full hq hk0 (by omega)), isW m (isS_full hq hk1 (by omega))⟩

theorem HB_init {m : EReal} {vb0 vb1 : Vec Ideal S1x1x64x256 .bf16} {kd0 kd1 kb0 kb1 : Vec Ideal S1x256x128 .bf16}
    (hq : IsQ x1 h q) (hv1 : IsV x3 h (2 * a + 1) vb1) (hv0 : IsV x3 h (2 * a + 0) vb0)
    (hd1 : IsK x2 h (2 * a + 1) kd1) (hd0 : IsK x2 h (2 * a + 0) kd0)
    (hk0 : IsK x2 h (2 * a - 1) kb0) (hk1 : IsK x2 h (2 * a - 2) kb1) :
    HB x1 x2 x3 a m h 0 (uOp (uOp zOp (wOp (F := Ideal) m (smOp mk1 q kd1)) vb1) (wOp (F := Ideal) m (smOp mk0 q kd0)) vb0)
      (wOp (F := Ideal) m (sOp q kb0)) (wOp (F := Ideal) m (sOp q kb1)) := by
  constructor
  · have h1 := isAcc_step (j := 2 * a + 1) (isAcc_zero (x1 := x1) (x2 := x2) (x3 := x3) (h := h) (a := a) m) (by omega)
      (isW m (isS_mk1 hq hd1)) hv1
    exact isAcc_step (j := 2 * a + 0) h1 (by omega) (isW m (isS_mk0 hq hd0)) hv0
  · intro ha
    exact ⟨isW m (isS_full hq hk0 (by omega)), isW m (isS_full hq hk1 (by omega))⟩

/-- One head before trip `n` of the loop with running maxima. -/
def HU (x1 : Vec Ideal S1x512x512 .bf16) (x2 : Vec Ideal S1x4096x512 .bf16) (x3 : Vec Ideal S1x16x256x256 .bf16)
    (a : ℕ) (h : Fin 4) (n : ℕ) (m : FVec Ideal S1x512 .f32) (acc : FVec Ideal S80x512 .f32) (s : FVec Ideal S256x512 .f32)
    (x : FVec Ideal S1x512 .f32) : Prop :=
  IsOnl x1 x2 x3 a h (2 * a - n) m acc ∧ x = xOp s ∧ (n < 2 * a → IsS x1 x2 a h (2 * a - 1 - n) s)

theorem HU_step {m x : FVec Ideal S1x512 .f32} {acc : FVec Ideal S80x512 .f32} {s : FVec Ideal S256x512 .f32}
    {vb : Vec Ideal S1x1x64x256 .bf16} {kb : Vec Ideal S1x256x128 .bf16} (hn : n < 2 * a)
    (ht : ∀ (c : Fin 512) (t : ℕ), Yx x1 x2 a h c t ≠ ⊤)
    (hI : HU x1 x2 x3 a h n m acc s x) (hq : IsQ x1 h q)
    (hv : IsV x3 h (2 * a - 1 - n) vb) (hk : IsK x2 h (2 * a - 2 - n) kb) :
    HU x1 x2 x3 a h (n + 1) (mOp m x) (oOp m acc s x vb) (sOp q kb) (xOp (sOp q kb)) := by
  obtain ⟨hI, rfl, hs⟩ := hI
  refine ⟨?_, rfl, fun hn1 => ?_⟩
  · rw [show 2 * a - n = 2 * a - 1 - n + 1 by omega] at hI
    rw [show 2 * a - (n + 1) = 2 * a - 1 - n by omega]
    exact isOnl_step ht hI (by omega) (hs hn) hv
  · rw [show 2 * a - 1 - (n + 1) = 2 * a - 2 - n by omega]
    exact isS_full hq hk (by omega)

theorem HU_init {vb0 vb1 : Vec Ideal S1x1x64x256 .bf16} {kd0 kd1 kb : Vec Ideal S1x256x128 .bf16}
    (ht : ∀ (c : Fin 512) (t : ℕ), Yx x1 x2 a h c t ≠ ⊤)
    (hq : IsQ x1 h q) (hv1 : IsV x3 h (2 * a + 1) vb1) (hv0 : IsV x3 h (2 * a + 0) vb0)
    (hd1 : IsK x2 h (2 * a + 1) kd1) (hd0 : IsK x2 h (2 * a + 0) kd0) (hk : IsK x2 h (2 * a - 1) kb) :
    HU x1 x2 x3 a h 0 (mOp (mOp eOp (xOp (smOp mk1 q kd1))) (xOp (smOp mk0 q kd0)))
      (oOp (mOp eOp (xOp (smOp mk1 q kd1))) (oOp eOp zOp (smOp mk1 q kd1) (xOp (smOp mk1 q kd1)) vb1) (smOp mk0 q kd0)
        (xOp (smOp mk0 q kd0)) vb0) (sOp q kb) (xOp (sOp q kb)) := by
  refine ⟨?_, rfl, fun ha => isS_full hq hk (by omega)⟩
  have h1 := isOnl_step (j := 2 * a + 1) ht (isOnl_zero (x1 := x1) (x2 := x2) (x3 := x3) (h := h) (a := a)) (by omega)
    (isS_mk1 hq hd1) hv1
  exact isOnl_step (j := 2 * a + 0) ht h1 (by omega) (isS_mk0 hq hd0) hv0

end

/-- All four heads before trip `n` of the loop over pairs of blocks. -/
def InvB (x1 : Vec Ideal S1x512x512 .bf16) (x2 : Vec Ideal S1x4096x512 .bf16) (x3 : Vec Ideal S1x16x256x256 .bf16) (a : ℕ) (m : EReal) (n : ℕ) (S : FVec Ideal S80x512 .f32 × FVec Ideal S80x512 .f32 × FVec Ideal S80x512 .f32 × FVec Ideal S80x512 .f32 × FVec Ideal S256x512 .bf16 × FVec Ideal S256x512 .bf16 × FVec Ideal S256x512 .bf16 × FVec Ideal S256x512 .bf16 × FVec Ideal S256x512 .bf16 × FVec Ideal S256x512 .bf16 × FVec Ideal S256x512 .bf16 × FVec Ideal S256x512 .bf16) : Prop :=
  HB x1 x2 x3 a m 0 n S.1 S.2.2.2.2.1 S.2.2.2.2.2.2.2.2.1
    ∧ HB x1 x2 x3 a m 1 n S.2.1 S.2.2.2.2.2.1 S.2.2.2.2.2.2.2.2.2.1
    ∧ HB x1 x2 x3 a m 2 n S.2.2.1 S.2.2.2.2.2.2.1 S.2.2.2.2.2.2.2.2.2.2.1
    ∧ HB x1 x2 x3 a m 3 n S.2.2.2.1 S.2.2.2.2.2.2.2.1 S.2.2.2.2.2.2.2.2.2.2.2

/-- All four heads before trip `n` of the loop with running maxima. -/
def InvU (x1 : Vec Ideal S1x512x512 .bf16) (x2 : Vec Ideal S1x4096x512 .bf16) (x3 : Vec Ideal S1x16x256x256 .bf16) (a n : ℕ) (S : FVec Ideal S1x512 .f32 × FVec Ideal S80x512 .f32 × FVec Ideal S1x512 .f32 × FVec Ideal S80x512 .f32 × FVec Ideal S1x512 .f32 × FVec Ideal S80x512 .f32 × FVec Ideal S1x512 .f32 × FVec Ideal S80x512 .f32 × FVec Ideal S256x512 .f32 × FVec Ideal S1x512 .f32 × FVec Ideal S256x512 .f32 × FVec Ideal S1x512 .f32 × FVec Ideal S256x512 .f32 × FVec Ideal S1x512 .f32 × FVec Ideal S256x512 .f32 × FVec Ideal S1x512 .f32) : Prop :=
  HU x1 x2 x3 a 0 n S.1 S.2.1 S.2.2.2.2.2.2.2.2.1 S.2.2.2.2.2.2.2.2.2.1
    ∧ HU x1 x2 x3 a 1 n S.2.2.1 S.2.2.2.1 S.2.2.2.2.2.2.2.2.2.2.1 S.2.2.2.2.2.2.2.2.2.2.2.1
    ∧ HU x1 x2 x3 a 2 n S.2.2.2.2.1 S.2.2.2.2.2.1 S.2.2.2.2.2.2.2.2.2.2.2.2.1 S.2.2.2.2.2.2.2.2.2.2.2.2.2.1
    ∧ HU x1 x2 x3 a 3 n S.2.2.2.2.2.2.1 S.2.2.2.2.2.2.2.1 S.2.2.2.2.2.2.2.2.2.2.2.2.2.2.1 S.2.2.2.2.2.2.2.2.2.2.2.2.2.2.2

set_option maxHeartbeats 4000000 in
theorem initB_inv (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec Ideal S1 .f32) (x1 : Vec Ideal S1x512x512 .bf16) (x2 : Vec Ideal S1x4096x512 .bf16) (x3 : Vec Ideal S1x16x256x256 .bf16) :
    InvB x1 x2 x3 (i 2).val (ldR (F := Ideal) arg3 harg3 x0) 0 (initB i arg3 harg3 arg4 harg4 arg5 harg5 arg6 harg6 arg7 harg7 x0 x1 x2 x3 (ldR (F := Ideal) arg3 harg3 x0)) := by
  have hi : (i 2).val < 8 := (i 2).isLt
  exact ⟨HB_init (isQ x1 arg4 harg4 0 ![0, 0, 0] rfl inb_S1x512x512_S1x512x128_0_0_0) (isV x3 arg6 harg6 0 (2 * (i 2).val + 1) (by omega) _ (off5_1 i) _) (isV x3 arg6 harg6 0 (2 * (i 2).val + 0) (by omega) _ (off5_0 i) _) (isK x2 arg5 harg5 0 (2 * (i 2).val + 1) (by omega) _ (off1_2 i) _) (isK x2 arg5 harg5 0 (2 * (i 2).val + 0) (by omega) _ (off1_1 i) _) (isK x2 arg5 harg5 0 (2 * (i 2).val - 1) (by omega) _ (off9_0 i) _) (isK x2 arg5 harg5 0 (2 * (i 2).val - 2) (by omega) _ (off9_1 i) _),
    HB_init (isQ x1 arg4 harg4 1 ![0, 0, 128] rfl inb_S1x512x512_S1x512x128_0_0_128) (isV x3 arg6 harg6 1 (2 * (i 2).val + 1) (by omega) _ (off6_1 i) _) (isV x3 arg6 harg6 1 (2 * (i 2).val + 0) (by omega) _ (off6_0 i) _) (isK x2 arg5 harg5 1 (2 * (i 2).val + 1) (by omega) _ (off2_2 i) _) (isK x2 arg5 harg5 1 (2 * (i 2).val + 0) (by omega) _ (off2_1 i) _) (isK x2 arg5 harg5 1 (2 * (i 2).val - 1) (by omega) _ (off10_0 i) _) (isK x2 arg5 harg5 1 (2 * (i 2).val - 2) (by omega) _ (off10_1 i) _),
    HB_init (isQ x1 arg4 harg4 2 ![0, 0, 256] rfl inb_S1x512x512_S1x512x128_0_0_256) (isV x3 arg6 harg6 2 (2 * (i 2).val + 1) (by omega) _ (off7_1 i) _) (isV x3 arg6 harg6 2 (2 * (i 2).val + 0) (by omega) _ (off7_0 i) _) (isK x2 arg5 harg5 2 (2 * (i 2).val + 1) (by omega) _ (off3_2 i) _) (isK x2 arg5 harg5 2 (2 * (i 2).val + 0) (by omega) _ (off3_1 i) _) (isK x2 arg5 harg5 2 (2 * (i 2).val - 1) (by omega) _ (off11_0 i) _) (isK x2 arg5 harg5 2 (2 * (i 2).val - 2) (by omega) _ (off11_1 i) _),
    HB_init (isQ x1 arg4 harg4 3 ![0, 0, 384] rfl inb_S1x512x512_S1x512x128_0_0_384) (isV x3 arg6 harg6 3 (2 * (i 2).val + 1) (by omega) _ (off8_1 i) _) (isV x3 arg6 harg6 3 (2 * (i 2).val + 0) (by omega) _ (off8_0 i) _) (isK x2 arg5 harg5 3 (2 * (i 2).val + 1) (by omega) _ (off4_2 i) _) (isK x2 arg5 harg5 3 (2 * (i 2).val + 0) (by omega) _ (off4_1 i) _) (isK x2 arg5 harg5 3 (2 * (i 2).val - 1) (by omega) _ (off12_0 i) _) (isK x2 arg5 harg5 3 (2 * (i 2).val - 2) (by omega) _ (off12_1 i) _)⟩

set_option maxHeartbeats 4000000 in
theorem loopB_inv (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec Ideal S1 .f32) (x1 : Vec Ideal S1x512x512 .bf16) (x2 : Vec Ideal S1x4096x512 .bf16) (x3 : Vec Ideal S1x16x256x256 .bf16) (n : ℕ) (hn : n ≤ (i 2).val) :
    InvB x1 x2 x3 (i 2).val (ldR (F := Ideal) arg3 harg3 x0) n (st_k0_t1 (F := Ideal) Variants.none c none i arg3 harg3 arg4 harg4 arg5 harg5 arg6 harg6 arg7 harg7 k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) (ldR arg3 harg3 x0) (wOp (ldR arg3 harg3 x0) (smOp mk0 (qOp (ldQ arg4 (harg4.unread x1) ![0, 0, 256] inb_S1x512x512_S1x512x128_0_0_256)) (ldK arg5 (harg5.unread x2) (k0_off3 i 1#32) (k0_off3_inb i 0)))) (wOp (ldR arg3 harg3 x0) (smOp mk0 (qOp (ldQ arg4 (harg4.unread x1) ![0, 0, 384] inb_S1x512x512_S1x512x128_0_0_384)) (ldK arg5 (harg5.unread x2) (k0_off4 i 1#32) (k0_off4_inb i 0)))) (uOp zOp (wOp (ldR arg3 harg3 x0) (smOp mk1 (qOp (ldQ arg4 (harg4.unread x1) ![0, 0, 256] inb_S1x512x512_S1x512x128_0_0_256)) (ldK arg5 (harg5.unread x2) (k0_off3 i 2#32) (k0_off3_inb i 1)))) (ldV arg6 (harg6.unread x3) (k0_off7 i 1#32) (k0_off7_inb i 1))) (uOp zOp (wOp (ldR arg3 harg3 x0) (smOp mk1 (qOp (ldQ arg4 (harg4.unread x1) ![0, 0, 384] inb_S1x512x512_S1x512x128_0_0_384)) (ldK arg5 (harg5.unread x2) (k0_off4 i 2#32) (k0_off4_inb i 1)))) (ldV arg6 (harg6.unread x3) (k0_off8 i 1#32) (k0_off8_inb i 1))) (wOp (ldR arg3 harg3 x0) (sOp (qOp (ldQ arg4 (harg4.unread x1) ![0, 0, 0] inb_S1x512x512_S1x512x128_0_0_0)) (ldK arg5 (harg5.unread x2) (k0_off9 i 0#32) (k0_off9_inb i 0)))) (wOp (ldR arg3 harg3 x0) (sOp (qOp (ldQ arg4 (harg4.unread x1) ![0, 0, 128] inb_S1x512x512_S1x512x128_0_0_128)) (ldK arg5 (harg5.unread x2) (k0_off10 i 0#32) (k0_off10_inb i 0)))) (wOp (ldR arg3 harg3 x0) (sOp (qOp (ldQ arg4 (harg4.unread x1) ![0, 0, 256] inb_S1x512x512_S1x512x128_0_0_256)) (ldK arg5 (harg5.unread x2) (k0_off11 i 0#32) (k0_off11_inb i 0)))) (wOp (ldR arg3 harg3 x0) (sOp (qOp (ldQ arg4 (harg4.unread x1) ![0, 0, 384] inb_S1x512x512_S1x512x128_0_0_384)) (ldK arg5 (harg5.unread x2) (k0_off12 i 0#32) (k0_off12_inb i 0)))) (wOp (ldR arg3 harg3 x0) (sOp (qOp (ldQ arg4 (harg4.unread x1) ![0, 0, 0] inb_S1x512x512_S1x512x128_0_0_0)) (ldK arg5 (harg5.unread x2) (k0_off9 i 1#32) (k0_off9_inb i 1)))) (wOp (ldR arg3 harg3 x0) (sOp (qOp (ldQ arg4 (harg4.unread x1) ![0, 0, 128] inb_S1x512x512_S1x512x128_0_0_128)) (ldK arg5 (harg5.unread x2) (k0_off10 i 1#32) (k0_off10_inb i 1)))) (wOp (ldR arg3 harg3 x0) (sOp (qOp (ldQ arg4 (harg4.unread x1) ![0, 0, 256] inb_S1x512x512_S1x512x128_0_0_256)) (ldK arg5 (harg5.unread x2) (k0_off11 i 1#32) (k0_off11_inb i 1)))) (wOp (ldR arg3 harg3 x0) (sOp (qOp (ldQ arg4 (harg4.unread x1) ![0, 0, 384] inb_S1x512x512_S1x512x128_0_0_384)) (ldK arg5 (harg5.unread x2) (k0_off12 i 1#32) (k0_off12_inb i 1)))) (Scalar.addi (Scalar.muli (BitVec.ofNat 32 (i 2).val) 2#32) 0#32) (initB i arg3 harg3 arg4 harg4 arg5 harg5 arg6 harg6 arg7 harg7 x0 x1 x2 x3 (ldR arg3 harg3 x0)).1 (initB i arg3 harg3 arg4 harg4 arg5 harg5 arg6 harg6 arg7 harg7 x0 x1 x2 x3 (ldR arg3 harg3 x0)).2.1 (harg5.unread x2) (harg6.unread x3) (initB i arg3 harg3 arg4 harg4 arg5 harg5 arg6 harg6 arg7 harg7 x0 x1 x2 x3 (ldR arg3 harg3 x0)) n) := by
  have hi : (i 2).val < 8 := (i 2).isLt
  induction n with
  | zero => exact initB_inv c i arg3 harg3 arg4 harg4 arg5 harg5 arg6 harg6 arg7 harg7 x0 x1 x2 x3
  | succ n ih =>
    have ih' := ih (by omega)
    have hk : n < (k0_t1_loop i).trips := by rw [trips1]; omega
    have e := st_k0_t1_succ (F := Ideal) Variants.none c none i arg3 harg3 arg4 harg4 arg5 harg5 arg6 harg6 arg7 harg7 k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) (ldR arg3 harg3 x0) (wOp (ldR arg3 harg3 x0) (smOp mk0 (qOp (ldQ arg4 (harg4.unread x1) ![0, 0, 256] inb_S1x512x512_S1x512x128_0_0_256)) (ldK arg5 (harg5.unread x2) (k0_off3 i 1#32) (k0_off3_inb i 0)))) (wOp (ldR arg3 harg3 x0) (smOp mk0 (qOp (ldQ arg4 (harg4.unread x1) ![0, 0, 384] inb_S1x512x512_S1x512x128_0_0_384)) (ldK arg5 (harg5.unread x2) (k0_off4 i 1#32) (k0_off4_inb i 0)))) (uOp zOp (wOp (ldR arg3 harg3 x0) (smOp mk1 (qOp (ldQ arg4 (harg4.unread x1) ![0, 0, 256] inb_S1x512x512_S1x512x128_0_0_256)) (ldK arg5 (harg5.unread x2) (k0_off3 i 2#32) (k0_off3_inb i 1)))) (ldV arg6 (harg6.unread x3) (k0_off7 i 1#32) (k0_off7_inb i 1))) (uOp zOp (wOp (ldR arg3 harg3 x0) (smOp mk1 (qOp (ldQ arg4 (harg4.unread x1) ![0, 0, 384] inb_S1x512x512_S1x512x128_0_0_384)) (ldK arg5 (harg5.unread x2) (k0_off4 i 2#32) (k0_off4_inb i 1)))) (ldV arg6 (harg6.unread x3) (k0_off8 i 1#32) (k0_off8_inb i 1))) (wOp (ldR arg3 harg3 x0) (sOp (qOp (ldQ arg4 (harg4.unread x1) ![0, 0, 0] inb_S1x512x512_S1x512x128_0_0_0)) (ldK arg5 (harg5.unread x2) (k0_off9 i 0#32) (k0_off9_inb i 0)))) (wOp (ldR arg3 harg3 x0) (sOp (qOp (ldQ arg4 (harg4.unread x1) ![0, 0, 128] inb_S1x512x512_S1x512x128_0_0_128)) (ldK arg5 (harg5.unread x2) (k0_off10 i 0#32) (k0_off10_inb i 0)))) (wOp (ldR arg3 harg3 x0) (sOp (qOp (ldQ arg4 (harg4.unread x1) ![0, 0, 256] inb_S1x512x512_S1x512x128_0_0_256)) (ldK arg5 (harg5.unread x2) (k0_off11 i 0#32) (k0_off11_inb i 0)))) (wOp (ldR arg3 harg3 x0) (sOp (qOp (ldQ arg4 (harg4.unread x1) ![0, 0, 384] inb_S1x512x512_S1x512x128_0_0_384)) (ldK arg5 (harg5.unread x2) (k0_off12 i 0#32) (k0_off12_inb i 0)))) (wOp (ldR arg3 harg3 x0) (sOp (qOp (ldQ arg4 (harg4.unread x1) ![0, 0, 0] inb_S1x512x512_S1x512x128_0_0_0)) (ldK arg5 (harg5.unread x2) (k0_off9 i 1#32) (k0_off9_inb i 1)))) (wOp (ldR arg3 harg3 x0) (sOp (qOp (ldQ arg4 (harg4.unread x1) ![0, 0, 128] inb_S1x512x512_S1x512x128_0_0_128)) (ldK arg5 (harg5.unread x2) (k0_off10 i 1#32) (k0_off10_inb i 1)))) (wOp (ldR arg3 harg3 x0) (sOp (qOp (ldQ arg4 (harg4.unread x1) ![0, 0, 256] inb_S1x512x512_S1x512x128_0_0_256)) (ldK arg5 (harg5.unread x2) (k0_off11 i 1#32) (k0_off11_inb i 1)))) (wOp (ldR arg3 harg3 x0) (sOp (qOp (ldQ arg4 (harg4.unread x1) ![0, 0, 384] inb_S1x512x512_S1x512x128_0_0_384)) (ldK arg5 (harg5.unread x2) (k0_off12 i 1#32) (k0_off12_inb i 1)))) (Scalar.addi (Scalar.muli (BitVec.ofNat 32 (i 2).val) 2#32) 0#32) (initB i arg3 harg3 arg4 harg4 arg5 harg5 arg6 harg6 arg7 harg7 x0 x1 x2 x3 (ldR arg3 harg3 x0)).1 (initB i arg3 harg3 arg4 harg4 arg5 harg5 arg6 harg6 arg7 harg7 x0 x1 x2 x3 (ldR arg3 harg3 x0)).2.1 (harg5.unread x2) (harg6.unread x3) (initB i arg3 harg3 arg4 harg4 arg5 harg5 arg6 harg6 arg7 harg7 x0 x1 x2 x3 (ldR arg3 harg3 x0)) ⟨n, hk⟩
    rw [trip1] at e
    have e' : (st_k0_t1 (F := Ideal) Variants.none c none i arg3 harg3 arg4 harg4 arg5 harg5 arg6 harg6 arg7 harg7 k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) (ldR arg3 harg3 x0) (wOp (ldR arg3 harg3 x0) (smOp mk0 (qOp (ldQ arg4 (harg4.unread x1) ![0, 0, 256] inb_S1x512x512_S1x512x128_0_0_256)) (ldK arg5 (harg5.unread x2) (k0_off3 i 1#32) (k0_off3_inb i 0)))) (wOp (ldR arg3 harg3 x0) (smOp mk0 (qOp (ldQ arg4 (harg4.unread x1) ![0, 0, 384] inb_S1x512x512_S1x512x128_0_0_384)) (ldK arg5 (harg5.unread x2) (k0_off4 i 1#32) (k0_off4_inb i 0)))) (uOp zOp (wOp (ldR arg3 harg3 x0) (smOp mk1 (qOp (ldQ arg4 (harg4.unread x1) ![0, 0, 256] inb_S1x512x512_S1x512x128_0_0_256)) (ldK arg5 (harg5.unread x2) (k0_off3 i 2#32) (k0_off3_inb i 1)))) (ldV arg6 (harg6.unread x3) (k0_off7 i 1#32) (k0_off7_inb i 1))) (uOp zOp (wOp (ldR arg3 harg3 x0) (smOp mk1 (qOp (ldQ arg4 (harg4.unread x1) ![0, 0, 384] inb_S1x512x512_S1x512x128_0_0_384)) (ldK arg5 (harg5.unread x2) (k0_off4 i 2#32) (k0_off4_inb i 1)))) (ldV arg6 (harg6.unread x3) (k0_off8 i 1#32) (k0_off8_inb i 1))) (wOp (ldR arg3 harg3 x0) (sOp (qOp (ldQ arg4 (harg4.unread x1) ![0, 0, 0] inb_S1x512x512_S1x512x128_0_0_0)) (ldK arg5 (harg5.unread x2) (k0_off9 i 0#32) (k0_off9_inb i 0)))) (wOp (ldR arg3 harg3 x0) (sOp (qOp (ldQ arg4 (harg4.unread x1) ![0, 0, 128] inb_S1x512x512_S1x512x128_0_0_128)) (ldK arg5 (harg5.unread x2) (k0_off10 i 0#32) (k0_off10_inb i 0)))) (wOp (ldR arg3 harg3 x0) (sOp (qOp (ldQ arg4 (harg4.unread x1) ![0, 0, 256] inb_S1x512x512_S1x512x128_0_0_256)) (ldK arg5 (harg5.unread x2) (k0_off11 i 0#32) (k0_off11_inb i 0)))) (wOp (ldR arg3 harg3 x0) (sOp (qOp (ldQ arg4 (harg4.unread x1) ![0, 0, 384] inb_S1x512x512_S1x512x128_0_0_384)) (ldK arg5 (harg5.unread x2) (k0_off12 i 0#32) (k0_off12_inb i 0)))) (wOp (ldR arg3 harg3 x0) (sOp (qOp (ldQ arg4 (harg4.unread x1) ![0, 0, 0] inb_S1x512x512_S1x512x128_0_0_0)) (ldK arg5 (harg5.unread x2) (k0_off9 i 1#32) (k0_off9_inb i 1)))) (wOp (ldR arg3 harg3 x0) (sOp (qOp (ldQ arg4 (harg4.unread x1) ![0, 0, 128] inb_S1x512x512_S1x512x128_0_0_128)) (ldK arg5 (harg5.unread x2) (k0_off10 i 1#32) (k0_off10_inb i 1)))) (wOp (ldR arg3 harg3 x0) (sOp (qOp (ldQ arg4 (harg4.unread x1) ![0, 0, 256] inb_S1x512x512_S1x512x128_0_0_256)) (ldK arg5 (harg5.unread x2) (k0_off11 i 1#32) (k0_off11_inb i 1)))) (wOp (ldR arg3 harg3 x0) (sOp (qOp (ldQ arg4 (harg4.unread x1) ![0, 0, 384] inb_S1x512x512_S1x512x128_0_0_384)) (ldK arg5 (harg5.unread x2) (k0_off12 i 1#32) (k0_off12_inb i 1)))) (Scalar.addi (Scalar.muli (BitVec.ofNat 32 (i 2).val) 2#32) 0#32) (initB i arg3 harg3 arg4 harg4 arg5 harg5 arg6 harg6 arg7 harg7 x0 x1 x2 x3 (ldR arg3 harg3 x0)).1 (initB i arg3 harg3 arg4 harg4 arg5 harg5 arg6 harg6 arg7 harg7 x0 x1 x2 x3 (ldR arg3 harg3 x0)).2.1 (harg5.unread x2) (harg6.unread x3) (initB i arg3 harg3 arg4 harg4 arg5 harg5 arg6 harg6 arg7 harg7 x0 x1 x2 x3 (ldR arg3 harg3 x0)) (n + 1)) = _ := e
    rw [e']
    clear e e'
    revert ih'
    generalize (st_k0_t1 (F := Ideal) Variants.none c none i arg3 harg3 arg4 harg4 arg5 harg5 arg6 harg6 arg7 harg7 k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) (ldR arg3 harg3 x0) (wOp (ldR arg3 harg3 x0) (smOp mk0 (qOp (ldQ arg4 (harg4.unread x1) ![0, 0, 256] inb_S1x512x512_S1x512x128_0_0_256)) (ldK arg5 (harg5.unread x2) (k0_off3 i 1#32) (k0_off3_inb i 0)))) (wOp (ldR arg3 harg3 x0) (smOp mk0 (qOp (ldQ arg4 (harg4.unread x1) ![0, 0, 384] inb_S1x512x512_S1x512x128_0_0_384)) (ldK arg5 (harg5.unread x2) (k0_off4 i 1#32) (k0_off4_inb i 0)))) (uOp zOp (wOp (ldR arg3 harg3 x0) (smOp mk1 (qOp (ldQ arg4 (harg4.unread x1) ![0, 0, 256] inb_S1x512x512_S1x512x128_0_0_256)) (ldK arg5 (harg5.unread x2) (k0_off3 i 2#32) (k0_off3_inb i 1)))) (ldV arg6 (harg6.unread x3) (k0_off7 i 1#32) (k0_off7_inb i 1))) (uOp zOp (wOp (ldR arg3 harg3 x0) (smOp mk1 (qOp (ldQ arg4 (harg4.unread x1) ![0, 0, 384] inb_S1x512x512_S1x512x128_0_0_384)) (ldK arg5 (harg5.unread x2) (k0_off4 i 2#32) (k0_off4_inb i 1)))) (ldV arg6 (harg6.unread x3) (k0_off8 i 1#32) (k0_off8_inb i 1))) (wOp (ldR arg3 harg3 x0) (sOp (qOp (ldQ arg4 (harg4.unread x1) ![0, 0, 0] inb_S1x512x512_S1x512x128_0_0_0)) (ldK arg5 (harg5.unread x2) (k0_off9 i 0#32) (k0_off9_inb i 0)))) (wOp (ldR arg3 harg3 x0) (sOp (qOp (ldQ arg4 (harg4.unread x1) ![0, 0, 128] inb_S1x512x512_S1x512x128_0_0_128)) (ldK arg5 (harg5.unread x2) (k0_off10 i 0#32) (k0_off10_inb i 0)))) (wOp (ldR arg3 harg3 x0) (sOp (qOp (ldQ arg4 (harg4.unread x1) ![0, 0, 256] inb_S1x512x512_S1x512x128_0_0_256)) (ldK arg5 (harg5.unread x2) (k0_off11 i 0#32) (k0_off11_inb i 0)))) (wOp (ldR arg3 harg3 x0) (sOp (qOp (ldQ arg4 (harg4.unread x1) ![0, 0, 384] inb_S1x512x512_S1x512x128_0_0_384)) (ldK arg5 (harg5.unread x2) (k0_off12 i 0#32) (k0_off12_inb i 0)))) (wOp (ldR arg3 harg3 x0) (sOp (qOp (ldQ arg4 (harg4.unread x1) ![0, 0, 0] inb_S1x512x512_S1x512x128_0_0_0)) (ldK arg5 (harg5.unread x2) (k0_off9 i 1#32) (k0_off9_inb i 1)))) (wOp (ldR arg3 harg3 x0) (sOp (qOp (ldQ arg4 (harg4.unread x1) ![0, 0, 128] inb_S1x512x512_S1x512x128_0_0_128)) (ldK arg5 (harg5.unread x2) (k0_off10 i 1#32) (k0_off10_inb i 1)))) (wOp (ldR arg3 harg3 x0) (sOp (qOp (ldQ arg4 (harg4.unread x1) ![0, 0, 256] inb_S1x512x512_S1x512x128_0_0_256)) (ldK arg5 (harg5.unread x2) (k0_off11 i 1#32) (k0_off11_inb i 1)))) (wOp (ldR arg3 harg3 x0) (sOp (qOp (ldQ arg4 (harg4.unread x1) ![0, 0, 384] inb_S1x512x512_S1x512x128_0_0_384)) (ldK arg5 (harg5.unread x2) (k0_off12 i 1#32) (k0_off12_inb i 1)))) (Scalar.addi (Scalar.muli (BitVec.ofNat 32 (i 2).val) 2#32) 0#32) (initB i arg3 harg3 arg4 harg4 arg5 harg5 arg6 harg6 arg7 harg7 x0 x1 x2 x3 (ldR arg3 harg3 x0)).1 (initB i arg3 harg3 arg4 harg4 arg5 harg5 arg6 harg6 arg7 harg7 x0 x1 x2 x3 (ldR arg3 harg3 x0)).2.1 (harg5.unread x2) (harg6.unread x3) (initB i arg3 harg3 arg4 harg4 arg5 harg5 arg6 harg6 arg7 harg7 x0 x1 x2 x3 (ldR arg3 harg3 x0)) n) = S
    intro ih'
    exact ⟨HB_step (by omega) (ih'.1) (isQ x1 arg4 harg4 0 ![0, 0, 0] rfl inb_S1x512x512_S1x512x128_0_0_0) (isV x3 arg6 harg6 0 (2 * (i 2).val - 1 - 2 * n) (by omega) _ (off17_0 i ⟨n, hk⟩) _) (isV x3 arg6 harg6 0 (2 * (i 2).val - 2 - 2 * n) (by omega) _ (off17_1 i ⟨n, hk⟩) _) (isK x2 arg5 harg5 0 (2 * (i 2).val - 3 - 2 * n) (by omega) _ (off13_0 i ⟨n, hk⟩) _) (isK x2 arg5 harg5 0 (2 * (i 2).val - 4 - 2 * n) (by omega) _ (off13_1 i ⟨n, hk⟩) _),
      HB_step (by omega) (ih'.2.1) (isQ x1 arg4 harg4 1 ![0, 0, 128] rfl inb_S1x512x512_S1x512x128_0_0_128) (isV x3 arg6 harg6 1 (2 * (i 2).val - 1 - 2 * n) (by omega) _ (off18_0 i ⟨n, hk⟩) _) (isV x3 arg6 harg6 1 (2 * (i 2).val - 2 - 2 * n) (by omega) _ (off18_1 i ⟨n, hk⟩) _) (isK x2 arg5 harg5 1 (2 * (i 2).val - 3 - 2 * n) (by omega) _ (off14_0 i ⟨n, hk⟩) _) (isK x2 arg5 harg5 1 (2 * (i 2).val - 4 - 2 * n) (by omega) _ (off14_1 i ⟨n, hk⟩) _),
      HB_step (by omega) (ih'.2.2.1) (isQ x1 arg4 harg4 2 ![0, 0, 256] rfl inb_S1x512x512_S1x512x128_0_0_256) (isV x3 arg6 harg6 2 (2 * (i 2).val - 1 - 2 * n) (by omega) _ (off19_0 i ⟨n, hk⟩) _) (isV x3 arg6 harg6 2 (2 * (i 2).val - 2 - 2 * n) (by omega) _ (off19_1 i ⟨n, hk⟩) _) (isK x2 arg5 harg5 2 (2 * (i 2).val - 3 - 2 * n) (by omega) _ (off15_0 i ⟨n, hk⟩) _) (isK x2 arg5 harg5 2 (2 * (i 2).val - 4 - 2 * n) (by omega) _ (off15_1 i ⟨n, hk⟩) _),
      HB_step (by omega) (ih'.2.2.2) (isQ x1 arg4 harg4 3 ![0, 0, 384] rfl inb_S1x512x512_S1x512x128_0_0_384) (isV x3 arg6 harg6 3 (2 * (i 2).val - 1 - 2 * n) (by omega) _ (off20_0 i ⟨n, hk⟩) _) (isV x3 arg6 harg6 3 (2 * (i 2).val - 2 - 2 * n) (by omega) _ (off20_1 i ⟨n, hk⟩) _) (isK x2 arg5 harg5 3 (2 * (i 2).val - 3 - 2 * n) (by omega) _ (off16_0 i ⟨n, hk⟩) _) (isK x2 arg5 harg5 3 (2 * (i 2).val - 4 - 2 * n) (by omega) _ (off16_1 i ⟨n, hk⟩) _)⟩

/-- The run with the bound ends with the accumulators over all blocks. -/
theorem finB_inv (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec Ideal S1 .f32) (x1 : Vec Ideal S1x512x512 .bf16) (x2 : Vec Ideal S1x4096x512 .bf16) (x3 : Vec Ideal S1x16x256x256 .bf16) :
    InvB x1 x2 x3 (i 2).val (ldR (F := Ideal) arg3 harg3 x0) (i 2).val (finB (F := Ideal) c i arg3 harg3 arg4 harg4 arg5 harg5 arg6 harg6 arg7 harg7 x0 x1 x2 x3) := by
  have h1 := loopB_inv c i arg3 harg3 arg4 harg4 arg5 harg5 arg6 harg6 arg7 harg7 x0 x1 x2 x3 (i 2).val le_rfl
  have h2 : finB (F := Ideal) c i arg3 harg3 arg4 harg4 arg5 harg5 arg6 harg6 arg7 harg7 x0 x1 x2 x3 = midB (F := Ideal) c i arg3 harg3 arg4 harg4 arg5 harg5 arg6 harg6 arg7 harg7 x0 x1 x2 x3 := by
    unfold finB
    rw [trips2]
    rfl
  rw [h2]
  unfold midB
  rw [trips1]
  exact h1

set_option maxHeartbeats 4000000 in
theorem initU_inv (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec Ideal S1 .f32) (x1 : Vec Ideal S1x512x512 .bf16) (x2 : Vec Ideal S1x4096x512 .bf16) (x3 : Vec Ideal S1x16x256x256 .bf16) (ht : ∀ (h : Fin 4) (c : Fin 512) (t : ℕ), Yx x1 x2 (i 2).val h c t ≠ ⊤) :
    InvU x1 x2 x3 (i 2).val 0 (initU (F := Ideal) i arg3 harg3 arg4 harg4 arg5 harg5 arg6 harg6 arg7 harg7 x0 x1 x2 x3) := by
  have hi : (i 2).val < 8 := (i 2).isLt
  unfold initU InvU
  dsimp only
  refine ⟨?_, ?_, ?_, ?_⟩
  · exact HU_init (ht 0) (isQ x1 arg4 harg4 0 ![0, 0, 0] rfl inb_S1x512x512_S1x512x128_0_0_0) (isV x3 arg6 harg6 0 (2 * (i 2).val + 1) (by omega) _ (off33_1 i) _) (isV x3 arg6 harg6 0 (2 * (i 2).val + 0) (by omega) _ (off33_0 i) _) (isK x2 arg5 harg5 0 (2 * (i 2).val + 1) (by omega) _ (off29_2 i) _) (isK x2 arg5 harg5 0 (2 * (i 2).val + 0) (by omega) _ (off29_1 i) _) (isK x2 arg5 harg5 0 (2 * (i 2).val - 1) (by omega) _ (off37 i) _)
  · exact HU_init (ht 1) (isQ x1 arg4 harg4 1 ![0, 0, 128] rfl inb_S1x512x512_S1x512x128_0_0_128) (isV x3 arg6 harg6 1 (2 * (i 2).val + 1) (by omega) _ (off34_1 i) _) (isV x3 arg6 harg6 1 (2 * (i 2).val + 0) (by omega) _ (off34_0 i) _) (isK x2 arg5 harg5 1 (2 * (i 2).val + 1) (by omega) _ (off30_2 i) _) (isK x2 arg5 harg5 1 (2 * (i 2).val + 0) (by omega) _ (off30_1 i) _) (isK x2 arg5 harg5 1 (2 * (i 2).val - 1) (by omega) _ (off38 i) _)
  · exact HU_init (ht 2) (isQ x1 arg4 harg4 2 ![0, 0, 256] rfl inb_S1x512x512_S1x512x128_0_0_256) (isV x3 arg6 harg6 2 (2 * (i 2).val + 1) (by omega) _ (off35_1 i) _) (isV x3 arg6 harg6 2 (2 * (i 2).val + 0) (by omega) _ (off35_0 i) _) (isK x2 arg5 harg5 2 (2 * (i 2).val + 1) (by omega) _ (off31_2 i) _) (isK x2 arg5 harg5 2 (2 * (i 2).val + 0) (by omega) _ (off31_1 i) _) (isK x2 arg5 harg5 2 (2 * (i 2).val - 1) (by omega) _ (off39 i) _)
  · exact HU_init (ht 3) (isQ x1 arg4 harg4 3 ![0, 0, 384] rfl inb_S1x512x512_S1x512x128_0_0_384) (isV x3 arg6 harg6 3 (2 * (i 2).val + 1) (by omega) _ (off36_1 i) _) (isV x3 arg6 harg6 3 (2 * (i 2).val + 0) (by omega) _ (off36_0 i) _) (isK x2 arg5 harg5 3 (2 * (i 2).val + 1) (by omega) _ (off32_2 i) _) (isK x2 arg5 harg5 3 (2 * (i 2).val + 0) (by omega) _ (off32_1 i) _) (isK x2 arg5 harg5 3 (2 * (i 2).val - 1) (by omega) _ (off40 i) _)

set_option maxHeartbeats 4000000 in
theorem loopU_inv (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec Ideal S1 .f32) (x1 : Vec Ideal S1x512x512 .bf16) (x2 : Vec Ideal S1x4096x512 .bf16) (x3 : Vec Ideal S1x16x256x256 .bf16) (ht : ∀ (h : Fin 4) (c : Fin 512) (t : ℕ), Yx x1 x2 (i 2).val h c t ≠ ⊤) (n : ℕ) (hn : n ≤ 2 * (i 2).val) :
    InvU x1 x2 x3 (i 2).val n (st_k0_t3 (F := Ideal) Variants.none c none i arg3 harg3 arg4 harg4 arg5 harg5 arg6 harg6 arg7 harg7 (iota .tc S256x512 32 [0] iota_S256x512_d0_w32) (iota .tc S256x512 32 [1] iota_S256x512_d1_w32) k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) 0#32 (harg5.unread x2) (harg6.unread x3) (initU i arg3 harg3 arg4 harg4 arg5 harg5 arg6 harg6 arg7 harg7 x0 x1 x2 x3) n) := by
  have hi : (i 2).val < 8 := (i 2).isLt
  induction n with
  | zero => exact initU_inv c i arg3 harg3 arg4 harg4 arg5 harg5 arg6 harg6 arg7 harg7 x0 x1 x2 x3 ht
  | succ n ih =>
    have ih' := ih (by omega)
    have hk : n < (k0_t3_loop i).trips := by rw [trips3]; omega
    have e := st_k0_t3_succ (F := Ideal) Variants.none c none i arg3 harg3 arg4 harg4 arg5 harg5 arg6 harg6 arg7 harg7 (iota .tc S256x512 32 [0] iota_S256x512_d0_w32) (iota .tc S256x512 32 [1] iota_S256x512_d1_w32) k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) 0#32 (harg5.unread x2) (harg6.unread x3) (initU i arg3 harg3 arg4 harg4 arg5 harg5 arg6 harg6 arg7 harg7 x0 x1 x2 x3) ⟨n, hk⟩
    rw [trip3] at e
    have e' : (st_k0_t3 (F := Ideal) Variants.none c none i arg3 harg3 arg4 harg4 arg5 harg5 arg6 harg6 arg7 harg7 (iota .tc S256x512 32 [0] iota_S256x512_d0_w32) (iota .tc S256x512 32 [1] iota_S256x512_d1_w32) k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) 0#32 (harg5.unread x2) (harg6.unread x3) (initU i arg3 harg3 arg4 harg4 arg5 harg5 arg6 harg6 arg7 harg7 x0 x1 x2 x3) (n + 1)) = _ := e
    rw [e']
    clear e e'
    revert ih'
    generalize (st_k0_t3 (F := Ideal) Variants.none c none i arg3 harg3 arg4 harg4 arg5 harg5 arg6 harg6 arg7 harg7 (iota .tc S256x512 32 [0] iota_S256x512_d0_w32) (iota .tc S256x512 32 [1] iota_S256x512_d1_w32) k0_pay1 (Scalar.muli (BitVec.ofNat 32 (i 2).val) 2#32) (qOp (ldQ arg4 (harg4.unread x1) ![0, 0, 0] inb_S1x512x512_S1x512x128_0_0_0)) (qOp (ldQ arg4 (harg4.unread x1) ![0, 0, 128] inb_S1x512x512_S1x512x128_0_0_128)) (qOp (ldQ arg4 (harg4.unread x1) ![0, 0, 256] inb_S1x512x512_S1x512x128_0_0_256)) (qOp (ldQ arg4 (harg4.unread x1) ![0, 0, 384] inb_S1x512x512_S1x512x128_0_0_384)) 0#32 (harg5.unread x2) (harg6.unread x3) (initU i arg3 harg3 arg4 harg4 arg5 harg5 arg6 harg6 arg7 harg7 x0 x1 x2 x3) n) = S
    intro ih'
    unfold InvU at ih' ⊢
    dsimp only
    exact ⟨HU_step (by omega) (ht 0) (ih'.1) (isQ x1 arg4 harg4 0 ![0, 0, 0] rfl inb_S1x512x512_S1x512x128_0_0_0) (isV x3 arg6 harg6 0 (2 * (i 2).val - 1 - n) (by omega) _ (off45 i ⟨n, hk⟩) _) (isK x2 arg5 harg5 0 (2 * (i 2).val - 2 - n) (by omega) _ (off41 i ⟨n, hk⟩) _),
      HU_step (by omega) (ht 1) (ih'.2.1) (isQ x1 arg4 harg4 1 ![0, 0, 128] rfl inb_S1x512x512_S1x512x128_0_0_128) (isV x3 arg6 harg6 1 (2 * (i 2).val - 1 - n) (by omega) _ (off46 i ⟨n, hk⟩) _) (isK x2 arg5 harg5 1 (2 * (i 2).val - 2 - n) (by omega) _ (off42 i ⟨n, hk⟩) _),
      HU_step (by omega) (ht 2) (ih'.2.2.1) (isQ x1 arg4 harg4 2 ![0, 0, 256] rfl inb_S1x512x512_S1x512x128_0_0_256) (isV x3 arg6 harg6 2 (2 * (i 2).val - 1 - n) (by omega) _ (off47 i ⟨n, hk⟩) _) (isK x2 arg5 harg5 2 (2 * (i 2).val - 2 - n) (by omega) _ (off43 i ⟨n, hk⟩) _),
      HU_step (by omega) (ht 3) (ih'.2.2.2) (isQ x1 arg4 harg4 3 ![0, 0, 384] rfl inb_S1x512x512_S1x512x128_0_0_384) (isV x3 arg6 harg6 3 (2 * (i 2).val - 1 - n) (by omega) _ (off48 i ⟨n, hk⟩) _) (isK x2 arg5 harg5 3 (2 * (i 2).val - 2 - n) (by omega) _ (off44 i ⟨n, hk⟩) _)⟩

/-- The run without the bound ends with the accumulators over all blocks. -/
theorem finU_inv (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec Ideal S1 .f32) (x1 : Vec Ideal S1x512x512 .bf16) (x2 : Vec Ideal S1x4096x512 .bf16) (x3 : Vec Ideal S1x16x256x256 .bf16) (ht : ∀ (h : Fin 4) (c : Fin 512) (t : ℕ), Yx x1 x2 (i 2).val h c t ≠ ⊤) :
    InvU x1 x2 x3 (i 2).val (2 * (i 2).val) (finU (F := Ideal) c i arg3 harg3 arg4 harg4 arg5 harg5 arg6 harg6 arg7 harg7 x0 x1 x2 x3) := by
  have h1 := loopU_inv c i arg3 harg3 arg4 harg4 arg5 harg5 arg6 harg6 arg7 harg7 x0 x1 x2 x3 ht (2 * (i 2).val) le_rfl
  have h2 : finU (F := Ideal) c i arg3 harg3 arg4 harg4 arg5 harg5 arg6 harg6 arg7 harg7 x0 x1 x2 x3 = midU (F := Ideal) c i arg3 harg3 arg4 harg4 arg5 harg5 arg6 harg6 arg7 harg7 x0 x1 x2 x3 := by
    unfold finU
    rw [trips4]
    rfl
  rw [h2]
  unfold midU
  rw [trips3]
  exact h1

end Cert.KernelIdeal.Hand

end
-- ==== Proof.Mla.KernelIdeal.Out.lean ====
module

public import proofs.«01_k».proof.Proof.Mla.KernelIdeal.Sweep
public import proofs.«01_k».proof.Proof.Mla.KernelIdeal.Frame
public import proofs.«01_k».proof.Proof.Mla.Soft

/-! What the attention kernel writes: the softmax of the visible scores, applied to the values. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

attribute [local irreducible] mOp oOp sOp xOp uOp wOp smOp zOp eOp qOp fOp mk0 mk1

/-- Sums over blocks of 256 positions are sums over positions. -/
theorem sum_blocks (f : ℕ → EReal) (B : ℕ) :
    ∑ b ∈ Finset.Ico 0 B, ∑ y : Fin 256, f (256 * b + y.val) = ∑ t ∈ Finset.range (256 * B), f t := by
  rw [Nat.Ico_zero_eq_range]
  induction B with
  | zero => simp
  | succ B ih =>
    rw [Finset.sum_range_succ, ih, show 256 * (B + 1) = 256 * B + 256 by ring, Finset.sum_range_add]
    refine congrArg (_ + ·) ?_
    exact Fin.sum_univ_eq_sum_range (fun y => f (256 * B + y)) 256

/-- A sum over the first positions as one over a set of indices. -/
theorem sum_range_filter (f : ℕ → EReal) (n N : ℕ) (h : n ≤ N) :
    ∑ t ∈ Finset.range n, f t = ∑ t ∈ (Finset.univ : Finset (Fin N)).filter (fun t => t.val < n), f t.val := by
  rw [Finset.sum_filter, Fin.sum_univ_eq_sum_range (fun t => if t < n then f t else 0) N, ← Finset.sum_filter]
  refine Finset.sum_congr ?_ fun _ _ => rfl
  ext t
  simp only [Finset.mem_range, Finset.mem_filter]
  omega

section
variable {x1 : Vec Ideal S1x512x512 .bf16} {x2 : Vec Ideal S1x4096x512 .bf16} {x3 : Vec Ideal S1x16x256x256 .bf16} {a : ℕ}

/-- The visible positions' exponentials against a reference. -/
def eW (z : Fin 4 → Fin 512 → Fin 4096 → ℝ) (N : Fin 4 → Fin 512 → ℝ) (a : ℕ) (g : Fin 4) (c : Fin 512) (t : Fin 4096) : EReal :=
  if t.val / 64 ≤ (512 * a + c.val) / 64 then ((Real.exp (z g c t - N g c) : ℝ) : EReal) else 0

/-- The attention of one query to the values. -/
def soft (x3 : Vec Ideal S1x16x256x256 .bf16) (z : Fin 4 → Fin 512 → Fin 4096 → ℝ) (N : Fin 4 → Fin 512 → ℝ) (a : ℕ)
    (g : Fin 4) (r : Fin 64) (c : Fin 512) : EReal :=
  ∑ t : Fin 4096, vx x3 g ⟨r.val, by omega⟩ t.val * Ideal.div (eW z N a g c t) (0 + ∑ t, eW z N a g c t)

theorem sc_mod (g : Fin 4) (c : Fin 512) (t : ℕ) :
    sc x1 x2 g c t = sc x1 x2 g c (⟨t % 4096, Nat.mod_lt _ (by norm_num)⟩ : Fin 4096).val := by
  unfold sc kx
  simp only [Nat.mod_mod]

theorem Yx_ne_top {z : Fin 4 → Fin 512 → Fin 4096 → ℝ}
    (hz : ∀ g c (t : Fin 4096), sc x1 x2 g c t.val = ((z g c t * (Real.log 2)⁻¹ : ℝ) : EReal)) (g : Fin 4) (c : Fin 512) (t : ℕ) :
    Yx x1 x2 a g c t ≠ ⊤ := by
  unfold Yx
  split_ifs
  · rw [sc_mod, hz]; exact EReal.coe_ne_top _
  · exact bot_ne_top

theorem soft_piece {z : Fin 4 → Fin 512 → Fin 4096 → ℝ} (N : Fin 4 → Fin 512 → ℝ)
    (hz : ∀ g c (t : Fin 4096), sc x1 x2 g c t.val = ((z g c t * (Real.log 2)⁻¹ : ℝ) : EReal)) (ha : a < 8)
    (g : Fin 4) (c : Fin 512) (M : ℝ) (acc : FVec Ideal S80x512 .f32)
    (hacc : ∀ r : Fin 80, acc (ix2 r c) = ∑ b ∈ Finset.Ico 0 (2 * a + 2), blkT x1 x2 x3 a g (M : EReal) r c b) (r : Fin 64) :
    fOp acc (ix3 0 r c) = soft x3 z N a g r c := by
  have key : ∀ r : Fin 80, acc (ix2 r c)
      = ∑ t ∈ (Finset.univ : Finset (Fin 4096)).filter (fun t => t.val < 256 * (2 * a + 2)),
          vx x3 g r t.val * Ideal.exp2 (Yx x1 x2 a g c t.val - (M : EReal)) := fun r => by
    rw [hacc]
    unfold blkT
    rw [sum_blocks (fun t => vx x3 g r t * Ideal.exp2 (Yx x1 x2 a g c t - (M : EReal))), sum_range_filter _ _ 4096 (by omega)]
  rw [fOp_at, key, key]
  have one : ∀ t : ℕ, vx x3 g 64 t = 1 := fun t => by unfold vx; rw [dif_neg (by decide)]
  simp only [one]
  unfold soft
  refine Cert.Mla.quotient_softmax _ (fun t : Fin 4096 => t.val / 64 ≤ (512 * a + c.val) / 64) ?_
    ⟨0, by norm_num⟩ (by simp) (z g c) (Real.exp (-(M * Real.log 2))) (N g c) (Real.exp_pos _) _ _ _ ?_ (fun t => rfl)
  · intro t ht
    have := c.isLt
    simp only [Finset.mem_filter, Finset.mem_univ, true_and]
    omega
  · intro t
    unfold Yx
    split_ifs
    · rw [hz, ← EReal.coe_sub, Ideal.exp2_coe]
      refine congrArg _ ?_
      have h2 : Real.log 2 ≠ 0 := (Real.log_pos (by norm_num)).ne'
      rw [← Real.exp_add, show Real.rpow 2 (z g c t * (Real.log 2)⁻¹ - M) = (2 : ℝ) ^ (z g c t * (Real.log 2)⁻¹ - M) from rfl,
        Real.rpow_def_of_pos (by norm_num)]
      congr 1
      field_simp
      ring
    · simp
end

/-- What the body leaves, at an index. -/
theorem out_at (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x16x256x256 .bf16) (harg6 : arg6.IsWhole) (arg7 : Memref sig .tc .vmem S1x256x512 .bf16) (harg7 : arg7.IsWhole)
    (x0 : Vec Ideal S1 .f32) (x1 : Vec Ideal S1x512x512 .bf16) (x2 : Vec Ideal S1x4096x512 .bf16) (x3 : Vec Ideal S1x16x256x256 .bf16)
    {z : Fin 4 → Fin 512 → Fin 4096 → ℝ} (N : Fin 4 → Fin 512 → ℝ)
    (hz : ∀ g c (t : Fin 4096), sc x1 x2 g c t.val = ((z g c t * (Real.log 2)⁻¹ : ℝ) : EReal))
    (hM : ∀ y, x0 y ≠ ⊥) (g : Fin 4) (r : Fin 64) (q : Fin 512) (y : S1x256x512.Idx) (hy1 : (y 1).val = 64 * g.val + r.val)
    (hy2 : (y 2).val = q.val) :
    out (F := Ideal) c i arg3 harg3 arg4 harg4 arg5 harg5 arg6 harg6 arg7 harg7 x0 x1 x2 x3 y = soft x3 z N (i 2).val g r q := by
  have hi : (i 2).val < 8 := (i 2).isLt
  have hr := r.isLt
  have hq := q.isLt
  have hg := g.isLt
  unfold out
  split
  · rename_i hb
    have hR : ldR (F := Ideal) arg3 harg3 x0 = x0 (Shape.Idx.first (by decide)) := by
      show View.read (Elt Ideal) arg3.view (harg3.unread x0) _ = _
      rw [harg3.read_unread]
      congr 1
      funext k
      exact Fin.ext (by have := k.isLt; match k with | ⟨0, _⟩ => rfl)
    have hT : x0 (Shape.Idx.first (by decide)) ≠ (⊤ : EReal) := by
      intro h
      unfold bnd at hb
      rw [h] at hb
      have h60 : (FloatOps.ofBits .f32 1114636288#32 : Ideal .f32) = ((60 : ℝ) : EReal) := by
        show Ideal.ofBits .f32 1114636288#32 = _
        simp [Ideal.ofBits, Ideal.ieee, -EReal.coe_mul]
        norm_num
      rw [h60] at hb
      have h0 : Ideal.cmp .ole (⊤ : EReal) ((60 : ℝ) : EReal) = 1#1 := hb
      have hlt : ¬ (⊤ : EReal) ≤ ((60 : ℝ) : EReal) := not_le.2 (EReal.coe_lt_top _)
      simp [Ideal.cmp, hlt] at h0
    obtain ⟨M, hMM⟩ : ∃ M : ℝ, ldR (F := Ideal) arg3 harg3 x0 = (M : EReal) :=
      ⟨_, by rw [hR]; exact (EReal.coe_toReal hT (hM _)).symm⟩
    have hI := finB_inv c i arg3 harg3 arg4 harg4 arg5 harg5 arg6 harg6 arg7 harg7 x0 x1 x2 x3
    rw [runB_val]
    rw [hMM] at hI
    generalize finB (F := Ideal) c i arg3 harg3 arg4 harg4 arg5 harg5 arg6 harg6 arg7 harg7 x0 x1 x2 x3 = S at hI ⊢
    obtain ⟨⟨k0, -⟩, ⟨k1, -⟩, ⟨k2, -⟩, ⟨k3, -⟩⟩ := hI
    rw [Nat.sub_self] at k0 k1 k2 k3
    canon_tiles x h
    · obtain rfl : g = 3 := Fin.ext (by show g.val = 3; omega)
      obtain rfl : x = ix3 0 r q := by
        refine funext fun d => Fin.ext ?_
        match d with
        | ⟨0, _⟩ => show (x 0).val = 0; omega
        | ⟨1, _⟩ => show (x 1).val = r.val; omega
        | ⟨2, _⟩ => show (x 2).val = q.val; omega
      exact soft_piece N hz hi 3 q M _ (fun r => k3 r q) r
    · obtain rfl : g = 2 := Fin.ext (by show g.val = 2; omega)
      obtain rfl : x = ix3 0 r q := by
        refine funext fun d => Fin.ext ?_
        match d with
        | ⟨0, _⟩ => show (x 0).val = 0; omega
        | ⟨1, _⟩ => show (x 1).val = r.val; omega
        | ⟨2, _⟩ => show (x 2).val = q.val; omega
      exact soft_piece N hz hi 2 q M _ (fun r => k2 r q) r
    · obtain rfl : g = 1 := Fin.ext (by show g.val = 1; omega)
      obtain rfl : x = ix3 0 r q := by
        refine funext fun d => Fin.ext ?_
        match d with
        | ⟨0, _⟩ => show (x 0).val = 0; omega
        | ⟨1, _⟩ => show (x 1).val = r.val; omega
        | ⟨2, _⟩ => show (x 2).val = q.val; omega
      exact soft_piece N hz hi 1 q M _ (fun r => k1 r q) r
    · obtain rfl : g = 0 := Fin.ext (by show g.val = 0; omega)
      obtain rfl : x = ix3 0 r q := by
        refine funext fun d => Fin.ext ?_
        match d with
        | ⟨0, _⟩ => show (x 0).val = 0; omega
        | ⟨1, _⟩ => show (x 1).val = r.val; omega
        | ⟨2, _⟩ => show (x 2).val = q.val; omega
      exact soft_piece N hz hi 0 q M _ (fun r => k0 r q) r
  · rename_i hb
    have hI := finU_inv c i arg3 harg3 arg4 harg4 arg5 harg5 arg6 harg6 arg7 harg7 x0 x1 x2 x3 (Yx_ne_top hz)
    rw [runU_val]
    generalize finU (F := Ideal) c i arg3 harg3 arg4 harg4 arg5 harg5 arg6 harg6 arg7 harg7 x0 x1 x2 x3 = S at hI ⊢
    obtain ⟨⟨k0, -⟩, ⟨k1, -⟩, ⟨k2, -⟩, ⟨k3, -⟩⟩ := hI
    rw [Nat.sub_self] at k0 k1 k2 k3
    have real : ∀ (g : Fin 4) (m : FVec Ideal S1x512 .f32), m (ix2 0 q) ≠ (⊤ : EReal) →
        (∀ b ∈ Finset.Ico 0 (2 * (i 2).val + 2), ∀ y : Fin 256, Yx x1 x2 (i 2).val g q (256 * b + y.val) ≤ m (ix2 0 q)) →
        ∃ M : ℝ, m (ix2 0 q) = (M : EReal) := by
      intro g m ht hle
      refine ⟨_, (EReal.coe_toReal ht fun hbot => ?_).symm⟩
      have := hle 0 (by simp) ⟨0, by norm_num⟩
      rw [hbot, le_bot_iff] at this
      unfold Yx at this
      rw [if_pos (by simp), sc_mod, hz] at this
      exact EReal.coe_ne_bot _ this
    canon_tiles x h
    · obtain rfl : g = 3 := Fin.ext (by show g.val = 3; omega)
      obtain rfl : x = ix3 0 r q := by
        refine funext fun d => Fin.ext ?_
        match d with
        | ⟨0, _⟩ => show (x 0).val = 0; omega
        | ⟨1, _⟩ => show (x 1).val = r.val; omega
        | ⟨2, _⟩ => show (x 2).val = q.val; omega
      obtain ⟨ht, hle, hacc⟩ := k3 q
      obtain ⟨M, hMM⟩ := real 3 _ ht hle
      rw [hMM] at hacc
      exact soft_piece N hz hi 3 q M _ hacc r
    · obtain rfl : g = 2 := Fin.ext (by show g.val = 2; omega)
      obtain rfl : x = ix3 0 r q := by
        refine funext fun d => Fin.ext ?_
        match d with
        | ⟨0, _⟩ => show (x 0).val = 0; omega
        | ⟨1, _⟩ => show (x 1).val = r.val; omega
        | ⟨2, _⟩ => show (x 2).val = q.val; omega
      obtain ⟨ht, hle, hacc⟩ := k2 q
      obtain ⟨M, hMM⟩ := real 2 _ ht hle
      rw [hMM] at hacc
      exact soft_piece N hz hi 2 q M _ hacc r
    · obtain rfl : g = 1 := Fin.ext (by show g.val = 1; omega)
      obtain rfl : x = ix3 0 r q := by
        refine funext fun d => Fin.ext ?_
        match d with
        | ⟨0, _⟩ => show (x 0).val = 0; omega
        | ⟨1, _⟩ => show (x 1).val = r.val; omega
        | ⟨2, _⟩ => show (x 2).val = q.val; omega
      obtain ⟨ht, hle, hacc⟩ := k1 q
      obtain ⟨M, hMM⟩ := real 1 _ ht hle
      rw [hMM] at hacc
      exact soft_piece N hz hi 1 q M _ hacc r
    · obtain rfl : g = 0 := Fin.ext (by show g.val = 0; omega)
      obtain rfl : x = ix3 0 r q := by
        refine funext fun d => Fin.ext ?_
        match d with
        | ⟨0, _⟩ => show (x 0).val = 0; omega
        | ⟨1, _⟩ => show (x 1).val = r.val; omega
        | ⟨2, _⟩ => show (x 2).val = q.val; omega
      obtain ⟨ht, hle, hacc⟩ := k0 q
      obtain ⟨M, hMM⟩ := real 0 _ ht hle
      rw [hMM] at hacc
      exact soft_piece N hz hi 0 q M _ hacc r

end Cert.KernelIdeal.Hand

end
-- ==== Proof.Mla.KernelIdeal.Entry.lean ====
module

public import proofs.«01_k».proof.Proof.Mla.KernelIdeal.Out
public import Idealize.ShloMosaic.Lib.Pipeline.ValueKit

/-! What the attention kernel reads: its operands at an index, from the arguments. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

theorem idx : ∀ t : Fin cfg0.N, win0_0.index t = ![0]
    ∧ win0_1.index t = ![(grid0.coords t 0).val, (grid0.coords t 2).val, (grid0.coords t 1).val]
    ∧ win0_2.index t = ![(grid0.coords t 0).val, 0, (grid0.coords t 1).val]
    ∧ win0_3.index t = ![(grid0.coords t 0).val, 0, (grid0.coords t 1).val, 0]
    ∧ win0_4.index t = ![(grid0.coords t 0).val, (grid0.coords t 1).val, (grid0.coords t 2).val] :=
  (by decide +kernel : ∀ t : Fin grid0.N, _)

/-- A head's lanes, padded. -/
theorem pad_at (x : FVec Ideal S8x4096x8x96 .f32) (v : FVec Ideal S_ .f32) (b : Fin 8) (s : Fin 4096) (k : Fin 8) (l : Fin 128)
    (h1 h2) :
    pad S8x4096x8x128 ![0, 0, 0, 0] ![0, 0, 0, 32] ![0, 0, 0, 0] x v h1 h2 (ix4 b s k l)
      = if h : l.val < 96 then x (ix4 b s k ⟨l.val, h⟩) else v (Shape.Idx.first h2) := by
  unfold pad
  have hb := b.isLt
  have hs := s.isLt
  have hk := k.isLt
  by_cases h : l.val < 96
  · rw [dif_pos h, dif_pos]
    · refine congrArg x (funext fun a => Fin.ext ?_)
      match a with
      | ⟨0, _⟩ => show (b.val - 0) / (0 + 1) = b.val; omega
      | ⟨1, _⟩ => show (s.val - 0) / (0 + 1) = s.val; omega
      | ⟨2, _⟩ => show (k.val - 0) / (0 + 1) = k.val; omega
      | ⟨3, _⟩ => show (l.val - 0) / (0 + 1) = l.val; omega
    · intro a
      match a with
      | ⟨0, _⟩ => show 0 ≤ b.val ∧ (b.val - 0) % (0 + 1) = 0 ∧ (b.val - 0) / (0 + 1) < 8; omega
      | ⟨1, _⟩ => show 0 ≤ s.val ∧ (s.val - 0) % (0 + 1) = 0 ∧ (s.val - 0) / (0 + 1) < 4096; omega
      | ⟨2, _⟩ => show 0 ≤ k.val ∧ (k.val - 0) % (0 + 1) = 0 ∧ (k.val - 0) / (0 + 1) < 8; omega
      | ⟨3, _⟩ => show 0 ≤ l.val ∧ (l.val - 0) % (0 + 1) = 0 ∧ (l.val - 0) / (0 + 1) < 96; omega
  · rw [dif_neg h, dif_neg]
    intro hall
    have h3 : 0 ≤ l.val ∧ (l.val - 0) % (0 + 1) = 0 ∧ (l.val - 0) / (0 + 1) < 96 := hall (3 : Fin 4)
    omega

theorem zero_at (y : S_.Idx) : (sitofp (F := Ideal) FTy.f32 (constantI S_ 32 0#32)) y = (0 : EReal) := by
  show ((((0#32 : BitVec 32).toInt : ℤ) : ℝ) : EReal) = 0
  simp

theorem v12_at (c : Dev nD) (b : Fin 8) (s : Fin 4096) (l : Fin 1024) :
    V m c main_v12 (ix3 b s l) = if h : l.val % 128 < 96 then
      (m ((c : Thread nD τ).loc main_arg0)) (ix4 b s ⟨l.val / 128, by omega⟩ ⟨l.val % 128, h⟩) else (0 : EReal) := by
  simp only [V, hostOps0, hostOps0_1, hostOps0_2, hostOps0_3, hostOps0_4, List.flatten_cons, List.flatten_nil, List.cons_append, List.nil_append, List.append_nil]
  entry_read
  pointwise
  have h := pad_at (m ((c : Thread nD τ).loc main_arg0)) (sitofp (F := Ideal) FTy.f32 (constantI S_ 32 0#32)) b s
    ⟨l.val / 128, by omega⟩ ⟨l.val % 128, by omega⟩ pads_S8x4096x8x96_S8x4096x8x128_000_000_000_0320 h_S_
  rw [zero_at] at h
  exact h

theorem v15_at (c : Dev nD) (b : Fin 8) (s : Fin 4096) (l : Fin 1024) :
    V m c main_v15 (ix3 b s l) = if h : l.val % 128 < 96 then
      (m ((c : Thread nD τ).loc main_arg1)) (ix4 b s ⟨l.val / 128, by omega⟩ ⟨l.val % 128, h⟩) else (0 : EReal) := by
  simp only [V, hostOps0, hostOps0_1, hostOps0_2, hostOps0_3, hostOps0_4, List.flatten_cons, List.flatten_nil, List.cons_append, List.nil_append, List.append_nil]
  entry_read
  pointwise
  have h := pad_at (m ((c : Thread nD τ).loc main_arg1)) (sitofp (F := Ideal) FTy.f32 (constantI S_ 32 0#32)) b s
    ⟨l.val / 128, by omega⟩ ⟨l.val % 128, by omega⟩ pads_S8x4096x8x96_S8x4096x8x128_000_000_000_0320 h_S_
  rw [zero_at] at h
  exact h

theorem v2_at (c : Dev nD) (b : Fin 8) (j : Fin 16) (l : Fin 512) (y : Fin 256) :
    V m c main_v2 (ix4 b j l y)
      = (m ((c : Thread nD τ).loc main_arg2)) (ix4 b ⟨256 * j.val + y.val, by omega⟩ ⟨l.val / 64, by omega⟩ ⟨l.val % 64, by omega⟩) := by
  simp only [V, hostOps0, hostOps0_1, hostOps0_2, hostOps0_3, hostOps0_4, List.flatten_cons, List.flatten_nil, List.cons_append, List.nil_append, List.append_nil]
  entry_read
  pointwise
  exact congrArg (m ((c : Thread nD τ).loc main_arg2)) (by congr 1; exact Fin.ext (by show j.val * 256 + y.val = 256 * j.val + y.val; omega))

theorem fold_abs_nonneg {n : ℕ} (i0 : Fin n) (f : Fin n → EReal) (b : EReal) (hf : ∀ k, 0 ≤ f k) :
    0 ≤ Finset.univ.fold max b f := by
  rw [Finset.le_fold_max]
  exact Or.inr ⟨i0, Finset.mem_univ _, hf _⟩

theorem v9_ne_bot (c : Dev nD) (y : S1.Idx) : V m c main_v9 y ≠ (⊥ : EReal) := by
  simp only [V, hostOps0, hostOps0_1, hostOps0_2, hostOps0_3, hostOps0_4, List.flatten_cons, List.flatten_nil, List.cons_append, List.nil_append, List.append_nil]
  entry_read
  pointwise
  have h14 : (0 : EReal) ≤ Ideal.ofBits FTy.f32 1097248985#32 := by
    have : Ideal.ofBits FTy.f32 1097248985#32 = ((15118553 / 1048576 : ℝ) : EReal) := by
      simp [Ideal.ofBits, Ideal.ieee, -EReal.coe_mul]
      norm_num
    rw [this]
    exact EReal.coe_nonneg.2 (by norm_num)
  have habs : ∀ x : EReal, 0 ≤ (FloatOps.absf (F := Ideal) (φ := .f32) x : EReal) := by
    intro x
    rw [Ideal.absf_def]
    rcases le_total 0 x with h | h
    · exact le_trans h (le_max_left _ _)
    · exact le_trans (EReal.neg_nonneg.2 h) (le_max_right _ _)
  have hne : ∀ x : EReal, 0 ≤ x → x ≠ ⊥ := fun x hx => ne_of_gt (lt_of_lt_of_le EReal.bot_lt_zero hx)
  exact hne _ (mul_nonneg (mul_nonneg h14 (fold_abs_nonneg 0 _ _ fun k => habs _)) (fold_abs_nonneg 0 _ _ fun k => habs _))

/-- The blocks of the operands at a point, at an index. -/
theorem blk0 (c : Dev nD) (t : Fin cfg0.N) (y : S1.Idx) : iblk m c 0 t y ≠ (⊥ : EReal) := v9_ne_bot m c _

theorem rd1 (X : FVec Ideal S8x4096x1024 .bf16) (t : Fin cfg0.N) (s : Fin 512) (l : Fin 512) :
    View.read (Elt Ideal) ((cfg0.win 1).blk t).view X (ix3 0 s l) = X (ix3 (grid0.coords t 0) ⟨512 * (grid0.coords t 2).val + s.val, by
      have : (grid0.coords t 2).val < 8 := (grid0.coords t 2).isLt
      omega⟩ ⟨512 * (grid0.coords t 1).val + l.val, by
      have : (grid0.coords t 1).val < 2 := (grid0.coords t 1).isLt
      omega⟩) := by
  blk_ext [idx t]

theorem blk1 (c : Dev nD) (t : Fin cfg0.N) (s : Fin 512) (l : Fin 512) :
    iblk m c 1 t (ix3 0 s l) = V m c main_v12 (ix3 (grid0.coords t 0) ⟨512 * (grid0.coords t 2).val + s.val, by
      have : (grid0.coords t 2).val < 8 := (grid0.coords t 2).isLt
      omega⟩ ⟨512 * (grid0.coords t 1).val + l.val, by
      have : (grid0.coords t 1).val < 2 := (grid0.coords t 1).isLt
      omega⟩) :=
  rd1 (V m c main_v12) t s l

theorem rd2 (X : FVec Ideal S8x4096x1024 .bf16) (t : Fin cfg0.N) (s : Fin 4096) (l : Fin 512) :
    View.read (Elt Ideal) ((cfg0.win 2).blk t).view X (ix3 0 s l) = X (ix3 (grid0.coords t 0) s ⟨512 * (grid0.coords t 1).val + l.val, by
      have : (grid0.coords t 1).val < 2 := (grid0.coords t 1).isLt
      omega⟩) := by
  blk_ext [idx t]

theorem blk2 (c : Dev nD) (t : Fin cfg0.N) (s : Fin 4096) (l : Fin 512) :
    iblk m c 2 t (ix3 0 s l) = V m c main_v15 (ix3 (grid0.coords t 0) s ⟨512 * (grid0.coords t 1).val + l.val, by
      have : (grid0.coords t 1).val < 2 := (grid0.coords t 1).isLt
      omega⟩) :=
  rd2 (V m c main_v15) t s l

theorem rd3 (X : FVec Ideal S8x16x512x256 .bf16) (t : Fin cfg0.N) (j : Fin 16) (l : Fin 256) (y : Fin 256) :
    View.read (Elt Ideal) ((cfg0.win 3).blk t).view X (ix4 0 j l y) = X (ix4 (grid0.coords t 0) j ⟨256 * (grid0.coords t 1).val + l.val, by
      have : (grid0.coords t 1).val < 2 := (grid0.coords t 1).isLt
      omega⟩ y) := by
  blk_ext [idx t]

theorem blk3 (c : Dev nD) (t : Fin cfg0.N) (j : Fin 16) (l : Fin 256) (y : Fin 256) :
    iblk m c 3 t (ix4 0 j l y) = V m c main_v2 (ix4 (grid0.coords t 0) j ⟨256 * (grid0.coords t 1).val + l.val, by
      have : (grid0.coords t 1).val < 2 := (grid0.coords t 1).isLt
      omega⟩ y) :=
  rd3 (V m c main_v2) t j l y

end Cert.KernelIdeal.Hand

end
-- ==== Proof.Mla.Ref.lean ====
/- What the reference computes, at an index. -/
module

public import proofs.«01_k».proof.Proof.Gen.ReferenceIdeal
public import proofs.«01_k».proof.Proof.Gen.ReferenceIdeal.Run
public import proofs.«01_k».proof.Proof.Mla.Soft
public import Idealize.ShloMosaic.Lib.Pipeline.ValueKit

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen

/-- The block of a key's position, and of a query's. -/
def FD1 : IVec S4096x4096 32 := select (andi (cmpi .ne (signi (iotaInDim S4096x4096 32 1)) (broadcastInDim S4096x4096 ![] bcast_S_S4096x4096 (signi (id (constantI S_ 32 64#32))))) (cmpi .ne (Host.remsi (iotaInDim S4096x4096 32 1) (broadcastInDim S4096x4096 ![] bcast_S_S4096x4096 (id (constantI S_ 32 64#32)))) (broadcastInDim S4096x4096 ![] bcast_S_S4096x4096 (constantI S_ 32 0#32)))) (subi (Host.divsi (iotaInDim S4096x4096 32 1) (broadcastInDim S4096x4096 ![] bcast_S_S4096x4096 (id (constantI S_ 32 64#32)))) (broadcastInDim S4096x4096 ![] bcast_S_S4096x4096 (constantI S_ 32 1#32))) (Host.divsi (iotaInDim S4096x4096 32 1) (broadcastInDim S4096x4096 ![] bcast_S_S4096x4096 (id (constantI S_ 32 64#32))))
def FD0 : IVec S4096x4096 32 := select (andi (cmpi .ne (signi (iotaInDim S4096x4096 32 0)) (broadcastInDim S4096x4096 ![] bcast_S_S4096x4096 (signi (id (constantI S_ 32 64#32))))) (cmpi .ne (Host.remsi (iotaInDim S4096x4096 32 0) (broadcastInDim S4096x4096 ![] bcast_S_S4096x4096 (id (constantI S_ 32 64#32)))) (broadcastInDim S4096x4096 ![] bcast_S_S4096x4096 (constantI S_ 32 0#32)))) (subi (Host.divsi (iotaInDim S4096x4096 32 0) (broadcastInDim S4096x4096 ![] bcast_S_S4096x4096 (id (constantI S_ 32 64#32)))) (broadcastInDim S4096x4096 ![] bcast_S_S4096x4096 (constantI S_ 32 1#32))) (Host.divsi (iotaInDim S4096x4096 32 0) (broadcastInDim S4096x4096 ![] bcast_S_S4096x4096 (id (constantI S_ 32 64#32))))

/-- The scores, hidden positions at minus infinity. -/
def SC (Q K : FVec Ideal S8x4096x8x96 .f32) : FVec Ideal S8x8x4096x4096 .f32 :=
  select (broadcastInDim S8x8x4096x4096 ![2, 3] bcast_S4096x4096_S8x8x4096x4096_2_3 (cmpi .sle FD1 FD0)) (Host.divf (Host.dotGeneral dot_S8x4096x8x96_S8x4096x8x96_S8x8x4096x4096_3_3_1_1_02_02 none Q K) (broadcastInDim S8x8x4096x4096 ![] bcast_S_S8x8x4096x4096 (Host.sqrt (constant S_ .f32 0x42C00000#32)))) (broadcastInDim S8x8x4096x4096 ![] bcast_S_S8x8x4096x4096 (id (constant S_ .f32 0xFF800000#32)))

/-- The greatest score of a query, among the scores and against minus infinity. -/
def RM (S : FVec Ideal S8x8x4096x4096 .f32) : FVec Ideal S8x8x4096 .f32 :=
  Host.reduce FloatOps.maximumf S (constant S_ .f32 0xFF800000#32) reducesTo_S8x8x4096x4096_S8x8x4096_d3 h_S_
def MX (S : FVec Ideal S8x8x4096x4096 .f32) : FVec Ideal S8x8x4096 .f32 :=
  maximumf (broadcastInDim S8x8x4096 ![] bcast_S_S8x8x4096 (constant S_ .f32 0xFF800000#32)) (RM S)

/-- The exponentials against it. -/
def PE (S : FVec Ideal S8x8x4096x4096 .f32) : FVec Ideal S8x8x4096x4096 .f32 :=
  Host.exp (subf S (broadcastInDim S8x8x4096x4096 ![0, 1, 2, 3] bcast_S8x8x4096x1_S8x8x4096x4096_0_1_2_3 (broadcastInDim S8x8x4096x1 ![0, 1, 2] bcast_S8x8x4096_S8x8x4096x1_0_1_2 (MX S))))

/-- The softmax. -/
def PP (E : FVec Ideal S8x8x4096x4096 .f32) : FVec Ideal S8x8x4096x4096 .f32 :=
  Host.divf E (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd E (constant S_ .f32 0x00000000#32) reducesTo_S8x8x4096x4096_S8x8x4096_d3 h_S_)))

/-- The values under it. -/
def OUT (X : FVec Ideal S8x4096x8x64 .f32) (P : FVec Ideal S8x8x4096x4096 .f32) : FVec Ideal S8x512x4096 .bf16 :=
  truncf .bf16 (transpose S8x512x4096 [0, 2, 1] (shapeCast S8x4096x512 (transpose S8x4096x8x64 [0, 3, 1, 2] (Host.dotGeneral dot_S8x4096x8x64_S8x8x4096x4096_S8x8x64x4096_1_3_3_2_02_01 none X P) transposes_S8x8x64x4096_S8x4096x8x64_0_3_1_2) shapeCasts_S8x4096x8x64_S8x4096x512) transposes_S8x4096x512_S8x512x4096_0_2_1) bitsLt_bf16_f32

theorem res_eq (m : (ℓ : Loc nD τ sig) → Buf (Elt Ideal) ℓ) (c : Dev nD) :
    Cert.ReferenceIdeal.Value.res_main_v25 (F := Ideal) m c
      = OUT (m ((c.tc : Thread nD τ).loc main_arg2))
          (PP (PE (SC (m ((c.tc : Thread nD τ).loc main_arg0)) (m ((c.tc : Thread nD τ).loc main_arg1))))) := by
  delta Cert.ReferenceIdeal.Value.res_main_v25 OUT PP PE MX RM SC FD1 FD0
  rfl

theorem OUT_at (X : FVec Ideal S8x4096x8x64 .f32) (P : FVec Ideal S8x8x4096x4096 .f32) (b : Fin 8) (l : Fin 512) (s : Fin 4096) :
    OUT X P (ix3 b l s) = ∑ t : Fin 4096, X (ix4 b t ⟨l.val / 64, by omega⟩ ⟨l.val % 64, by omega⟩) * P (ix4 b ⟨l.val / 64, by omega⟩ s t) := by
  pointwise [OUT]

theorem PP_at (E : FVec Ideal S8x8x4096x4096 .f32) (b h : Fin 8) (s t : Fin 4096) :
    PP E (ix4 b h s t) = Ideal.div (E (ix4 b h s t)) (0 + ∑ t, E (ix4 b h s t)) := by
  pointwise [PP]

theorem reduce_at (f : EReal → EReal → EReal) [Std.Commutative f] [Std.Associative f] (S : S8x8x4096x4096.Idx → EReal) (init : S_.Idx → EReal) (b h : Fin 8) (s : Fin 4096) :
    Host.reduce f S init reducesTo_S8x8x4096x4096_S8x8x4096_d3 h_S_ (ix3 b h s) = Finset.univ.fold f (init (Shape.Idx.first h_S_)) fun t : Fin 4096 => S (ix4 b h s t) := by
  rw [Host.reduce_eq_fold, Shape.ReducesTo.fold_fiber_r4_a3]
  rfl

theorem RM_at (S : FVec Ideal S8x8x4096x4096 .f32) (b h : Fin 8) (s : Fin 4096) :
    RM S (ix3 b h s) = Finset.univ.fold (max : EReal → EReal → EReal) (constant (F := Ideal) S_ .f32 0xFF800000#32 (Shape.Idx.first h_S_) : EReal) fun t : Fin 4096 => (S (ix4 b h s t) : EReal) := by
  unfold RM
  exact reduce_at (max : EReal → EReal → EReal) S (constant (F := Ideal) S_ .f32 0xFF800000#32) b h s

attribute [local irreducible] RM

theorem maxf_at {s : Shape} (x y : FVec Ideal s .f32) (i : s.Idx) : maximumf x y i = max (x i : EReal) (y i) := rfl

def NI : FVec Ideal S8x8x4096 .f32 := broadcastInDim S8x8x4096 ![] bcast_S_S8x8x4096 (constant S_ .f32 0xFF800000#32)

theorem ninf : Ideal.ofBits FTy.f32 4286578688#32 = (⊥ : EReal) := by
  simp [Ideal.ofBits, Ideal.ieee]

theorem NI_at (b h : Fin 8) (s : Fin 4096) : NI (ix3 b h s) = (⊥ : EReal) := by
  pointwise [NI]
  exact ninf

theorem MX_eq (S : FVec Ideal S8x8x4096x4096 .f32) : MX S = maximumf NI (RM S) := by
  unfold MX NI
  rfl

attribute [local irreducible] NI

theorem MX_at (S : FVec Ideal S8x8x4096x4096 .f32) (b h : Fin 8) (s : Fin 4096) :
    MX S (ix3 b h s) = max ⊥ (RM S (ix3 b h s)) := by
  rw [MX_eq, maxf_at, NI_at]

theorem fold_real (I : EReal) (hI : I = ⊥) (f : Fin 4096 → EReal) (h1 : ∀ t, f t ≠ ⊤) (t0 : Fin 4096) (h2 : f t0 ≠ ⊥) :
    ∃ N : ℝ, max ⊥ (Finset.univ.fold max I f) = (N : EReal) := by
  have hlt : Finset.univ.fold max I f < ⊤ := by
    rw [Finset.fold_max_lt, hI]
    exact ⟨bot_lt_top, fun t _ => lt_top_iff_ne_top.2 (h1 t)⟩
  have hgt : f t0 ≤ Finset.univ.fold max I f := by
    rw [Finset.le_fold_max]
    exact Or.inr ⟨t0, Finset.mem_univ _, le_rfl⟩
  generalize Finset.univ.fold max I f = M at hlt hgt
  refine ⟨M.toReal, ?_⟩
  rw [max_eq_right bot_le, EReal.coe_toReal (ne_of_lt hlt)]
  rintro rfl
  exact h2 (le_bot_iff.1 hgt)

/-- The greatest score of a query with one that is a number is a number. -/
theorem MX_real (S : FVec Ideal S8x8x4096x4096 .f32) (b h : Fin 8) (s : Fin 4096) (h1 : ∀ t, S (ix4 b h s t) ≠ (⊤ : EReal))
    (t0 : Fin 4096) (h2 : S (ix4 b h s t0) ≠ (⊥ : EReal)) : ∃ N : ℝ, MX S (ix3 b h s) = (N : EReal) := by
  rw [MX_at, RM_at]
  exact fold_real _ ninf _ h1 t0 h2

theorem PE_at (S : FVec Ideal S8x8x4096x4096 .f32) (b h : Fin 8) (s t : Fin 4096) :
    PE S (ix4 b h s t) = Ideal.exp (S (ix4 b h s t) - MX S (ix3 b h s)) := by
  pointwise [PE]

/-- The floor division by 64 of the positions. -/
theorem fd_scalar : ∀ t : Fin 4096, Scalar.select (IntOp.andi (IntOp.cmpi .ne (if BitVec.ofNat 32 t.val = 0 then (0 : BitVec 32) else if (BitVec.ofNat 32 t.val).msb = true then -1 else 1) (if (64#32 : BitVec 32) = 0 then (0 : BitVec 32) else if (64#32 : BitVec 32).msb = true then -1 else 1)) (IntOp.cmpi .ne (IntOp.remsi ArithUnit.host (BitVec.ofNat 32 t.val) 64#32) 0#32)) (IntOp.subi (IntOp.divsi ArithUnit.host (BitVec.ofNat 32 t.val) 64#32) 1#32) (IntOp.divsi ArithUnit.host (BitVec.ofNat 32 t.val) 64#32) = BitVec.ofNat 32 (t.val / 64) := by
  decide +kernel

theorem FD1_at (s t : Fin 4096) : FD1 (ix2 s t) = BitVec.ofNat 32 (t.val / 64) := by
  pointwise [FD1]
  exact fd_scalar t

theorem FD0_at (s t : Fin 4096) : FD0 (ix2 s t) = BitVec.ofNat 32 (s.val / 64) := by
  pointwise [FD0]
  exact fd_scalar s

theorem sle_at : ∀ a b : Fin 64, IntOp.cmpi .sle (BitVec.ofNat 32 a.val) (BitVec.ofNat 32 b.val) = if a.val ≤ b.val then 1#1 else 0#1 := by
  decide +kernel

theorem SC_sel (Q K : FVec Ideal S8x4096x8x96 .f32) (b h : Fin 8) (s t : Fin 4096) :
    SC Q K (ix4 b h s t) = Scalar.select (IntOp.cmpi .sle (FD1 (ix2 s t)) (FD0 (ix2 s t)))
      (Ideal.div (∑ d : Fin 96, Q (ix4 b s h d) * K (ix4 b t h d)) (Ideal.sqrt (Ideal.ofBits FTy.f32 1119879168#32)))
      (Ideal.ofBits .f32 4286578688#32) := by
  pointwise [SC]
  rfl

/-- The score of a key for a query, a number. -/
def zr (Q K : FVec Ideal S8x4096x8x96 .f32) (b h : Fin 8) (s t : Fin 4096) : ℝ :=
  (∑ d : Fin 96, (Q (ix4 b s h d) : EReal).toReal * (K (ix4 b t h d) : EReal).toReal) * (1 / Real.sqrt 96)

theorem c96 : Ideal.ofBits FTy.f32 1119879168#32 = ((96 : ℝ) : EReal) := by
  simp [Ideal.ofBits, Ideal.ieee, -EReal.coe_mul]
  norm_num

theorem sum_real (f g : Fin 96 → EReal) (hf : ∀ d, f d = ((f d).toReal : EReal)) (hg : ∀ d, g d = ((g d).toReal : EReal)) :
    ∑ d, f d * g d = ((∑ d, (f d).toReal * (g d).toReal : ℝ) : EReal) := by
  rw [Cert.Mla.coe_sum]
  refine Finset.sum_congr rfl fun d _ => ?_
  rw [EReal.coe_mul, ← hf, ← hg]

theorem SC_at (Q K : FVec Ideal S8x4096x8x96 .f32) (hQ : ∀ i, (Q i : EReal) = (((Q i : EReal).toReal : ℝ) : EReal))
    (hK : ∀ i, (K i : EReal) = (((K i : EReal).toReal : ℝ) : EReal)) (b h : Fin 8) (s t : Fin 4096) :
    SC Q K (ix4 b h s t) = if t.val / 64 ≤ s.val / 64 then ((zr Q K b h s t : ℝ) : EReal) else ⊥ := by
  rw [SC_sel, FD1_at, FD0_at, ninf, c96, Ideal.sqrt_coe, if_neg (by norm_num), Ideal.div_coe (by positivity),
    sum_real (fun d => Q (ix4 b s h d)) (fun d => K (ix4 b t h d)) (fun d => hQ _) (fun d => hK _), ← EReal.coe_mul]
  rw [sle_at ⟨t.val / 64, by omega⟩ ⟨s.val / 64, by omega⟩]
  by_cases hv : t.val / 64 ≤ s.val / 64
  · rw [if_pos hv, if_pos hv]
    rfl
  · rw [if_neg hv, if_neg hv]
    rfl

/-- The number a query's exponentials are taken against. -/
def nr (Q K : FVec Ideal S8x4096x8x96 .f32) (b h : Fin 8) (s : Fin 4096) : ℝ := (MX (SC Q K) (ix3 b h s) : EReal).toReal

theorem PE_SC (Q K : FVec Ideal S8x4096x8x96 .f32) (hQ : ∀ i, (Q i : EReal) = (((Q i : EReal).toReal : ℝ) : EReal))
    (hK : ∀ i, (K i : EReal) = (((K i : EReal).toReal : ℝ) : EReal)) (b h : Fin 8) (s t : Fin 4096) :
    PE (SC Q K) (ix4 b h s t) = if t.val / 64 ≤ s.val / 64 then ((Real.exp (zr Q K b h s t - nr Q K b h s) : ℝ) : EReal) else 0 := by
  have hN : MX (SC Q K) (ix3 b h s) = ((nr Q K b h s : ℝ) : EReal) := by
    obtain ⟨N, hN⟩ := MX_real (SC Q K) b h s (fun t => by
      rw [SC_at Q K hQ hK]
      by_cases hv : t.val / 64 ≤ s.val / 64
      · rw [if_pos hv]; exact EReal.coe_ne_top _
      · rw [if_neg hv]; exact bot_ne_top) s (by
      rw [SC_at Q K hQ hK, if_pos le_rfl]
      exact EReal.coe_ne_bot _)
    unfold nr
    rw [hN, EReal.toReal_coe]
  rw [PE_at, hN, SC_at Q K hQ hK]
  by_cases hv : t.val / 64 ≤ s.val / 64
  · rw [if_pos hv, if_pos hv, ← EReal.coe_sub, Ideal.exp_coe]
  · rw [if_neg hv, if_neg hv, EReal.bot_sub, Ideal.exp_bot]

/-- The reference at an index: a softmax over the keys of the visible blocks, weighing the values. -/
theorem ref_at (Q K : FVec Ideal S8x4096x8x96 .f32) (X : FVec Ideal S8x4096x8x64 .f32)
    (hQ : ∀ i, (Q i : EReal) = (((Q i : EReal).toReal : ℝ) : EReal))
    (hK : ∀ i, (K i : EReal) = (((K i : EReal).toReal : ℝ) : EReal)) (b : Fin 8) (l : Fin 512) (s : Fin 4096) (h : Fin 8) (r : Fin 64)
    (hh : h.val = l.val / 64) (hr : r.val = l.val % 64) :
    OUT X (PP (PE (SC Q K))) (ix3 b l s) = ∑ t : Fin 4096, X (ix4 b t h r)
      * Ideal.div (if t.val / 64 ≤ s.val / 64 then ((Real.exp (zr Q K b h s t - nr Q K b h s) : ℝ) : EReal) else 0)
        (0 + ∑ t : Fin 4096, if t.val / 64 ≤ s.val / 64 then ((Real.exp (zr Q K b h s t - nr Q K b h s) : ℝ) : EReal) else 0) := by
  have hh' : (⟨l.val / 64, by omega⟩ : Fin 8) = h := Fin.ext hh.symm
  have hr' : (⟨l.val % 64, by omega⟩ : Fin 64) = r := Fin.ext hr.symm
  rw [OUT_at]
  simp only [hh', hr']
  refine Finset.sum_congr rfl fun t _ => ?_
  rw [PP_at]
  simp only [PE_SC Q K hQ hK]

end Cert.ReferenceIdeal.Hand

end
-- ==== Proof.Mla.KernelIdeal.Point.lean ====
module

public import proofs.«01_k».proof.Proof.Mla.KernelIdeal.Entry
public import proofs.«01_k».proof.Proof.Mla.Ref

/-! One point of the attention kernel's grid writes the reference's values. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.ReferenceIdeal.Hand (OUT PP PE SC zr nr ref_at sum_real)

variable (m : (ℓ : Loc nD τ sig) → Buf (Elt Ideal) ℓ)

attribute [local irreducible] OUT PP PE SC zr nr out

/-- A padded sum. -/
theorem sum_pad (F : Fin 128 → EReal) (G : Fin 96 → EReal) (h1 : ∀ d : Fin 96, F ⟨d.val, by omega⟩ = G d)
    (h2 : ∀ d : Fin 128, 96 ≤ d.val → F d = 0) : ∑ d, F d = ∑ d, G d := by
  have h := Fin.sum_univ_add (a := 96) (b := 32) F
  rw [h]
  have hz : ∑ i : Fin 32, F (Fin.natAdd 96 i) = 0 := Finset.sum_eq_zero fun i _ => h2 _ (by show 96 ≤ 96 + i.val; omega)
  rw [hz, add_zero]
  exact Finset.sum_congr rfl fun d _ => h1 d

/-- A lane of the padded operands. -/
theorem v12_lane (c : Dev nD) (b : Fin 8) (s : Fin 4096) (h : Fin 8) (d : Fin 96) (l : Fin 1024) (hl : l.val = 128 * h.val + d.val) :
    V m c main_v12 (ix3 b s l) = (m ((c : Thread nD τ).loc main_arg0)) (ix4 b s h d) := by
  have hd := d.isLt
  have e1 : (⟨l.val / 128, by omega⟩ : Fin 8) = h := Fin.ext (by show l.val / 128 = h.val; omega)
  rw [v12_at, dif_pos (by omega), e1]
  exact congrArg (fun e => (m ((c : Thread nD τ).loc main_arg0)) (ix4 b s h e)) (Fin.ext (by show l.val % 128 = d.val; omega))

theorem v15_lane (c : Dev nD) (b : Fin 8) (s : Fin 4096) (h : Fin 8) (d : Fin 96) (l : Fin 1024) (hl : l.val = 128 * h.val + d.val) :
    V m c main_v15 (ix3 b s l) = (m ((c : Thread nD τ).loc main_arg1)) (ix4 b s h d) := by
  have hd := d.isLt
  have e1 : (⟨l.val / 128, by omega⟩ : Fin 8) = h := Fin.ext (by show l.val / 128 = h.val; omega)
  rw [v15_at, dif_pos (by omega), e1]
  exact congrArg (fun e => (m ((c : Thread nD τ).loc main_arg1)) (ix4 b s h e)) (Fin.ext (by show l.val % 128 = d.val; omega))

theorem v15_zero (c : Dev nD) (b : Fin 8) (s : Fin 4096) (l : Fin 1024) (hl : 96 ≤ l.val % 128) :
    V m c main_v15 (ix3 b s l) = (0 : EReal) := by
  rw [v15_at, dif_neg (by omega)]

theorem v2_lane (c : Dev nD) (b : Fin 8) (t : Fin 4096) (h : Fin 8) (r : Fin 64) (j : Fin 16) (y : Fin 256) (l : Fin 512)
    (hj : j.val = t.val / 256) (hy : y.val = t.val % 256) (hl : l.val = 64 * h.val + r.val) :
    V m c main_v2 (ix4 b j l y) = (m ((c : Thread nD τ).loc main_arg2)) (ix4 b t h r) := by
  have hr := r.isLt
  have ht := t.isLt
  have e1 : (⟨l.val / 64, by omega⟩ : Fin 8) = h := Fin.ext (by show l.val / 64 = h.val; omega)
  have e2 : (⟨l.val % 64, by omega⟩ : Fin 64) = r := Fin.ext (by show l.val % 64 = r.val; omega)
  have e3 : (⟨256 * j.val + y.val, by omega⟩ : Fin 4096) = t := Fin.ext (by show 256 * j.val + y.val = t.val; omega)
  rw [v2_at, e1, e2, e3]

/-- A score times the scale, from a query and a key that are numbers. -/
theorem score_eq (f g : Fin 96 → EReal) (hf : ∀ d, f d = ((f d).toReal : EReal)) (hg : ∀ d, g d = ((g d).toReal : EReal)) :
    ∑ d, g d * (f d * ((qs : ℝ) : EReal))
      = (((∑ d, (f d).toReal * (g d).toReal) * (1 / Real.sqrt 96) * (Real.log 2)⁻¹ : ℝ) : EReal) := by
  rw [mul_assoc, Finset.sum_mul, Cert.Mla.coe_sum]
  refine Finset.sum_congr rfl fun d _ => ?_
  rw [hf d, hg d, ← EReal.coe_mul, ← EReal.coe_mul]
  simp only [EReal.toReal_coe]
  congr 1
  unfold qs
  ring

/-- The head a block of the grid holds. -/
def hd (t : Fin cfg0.N) (g : Fin 4) : Fin 8 := ⟨4 * (grid0.coords t 1).val + g.val, by
  have : (grid0.coords t 1).val < 2 := (grid0.coords t 1).isLt
  omega⟩

/-- The position a query of the block has. -/
def pos (t : Fin cfg0.N) (s : Fin 512) : Fin 4096 := ⟨512 * (grid0.coords t 2).val + s.val, by
  have : (grid0.coords t 2).val < 8 := (grid0.coords t 2).isLt
  omega⟩

theorem kx_eq (c : Dev nD) (t : Fin cfg0.N) (g : Fin 4) (k : Fin 4096) (d : Fin 96) :
    kx (iblk m c 2 t) g k.val ⟨d.val, by omega⟩ = (m ((c : Thread nD τ).loc main_arg1)) (ix4 (grid0.coords t 0) k (hd t g) d) := by
  have hk : (⟨k.val % 4096, Nat.mod_lt _ (by norm_num)⟩ : Fin 4096) = k := Fin.ext (Nat.mod_eq_of_lt k.isLt)
  have hp : (grid0.coords t 1).val < 2 := (grid0.coords t 1).isLt
  have hg := g.isLt
  have hd' := d.isLt
  unfold kx
  rw [hk]
  exact (blk2 m c t k _).trans (v15_lane m c (grid0.coords t 0) k (hd t g) d _
    (by show 512 * (grid0.coords t 1).val + (128 * g.val + d.val) = 128 * (4 * (grid0.coords t 1).val + g.val) + d.val; omega))

theorem kx_zero (c : Dev nD) (t : Fin cfg0.N) (g : Fin 4) (k : Fin 4096) (d : Fin 128) (hd' : 96 ≤ d.val) :
    kx (iblk m c 2 t) g k.val d = 0 := by
  have hp : (grid0.coords t 1).val < 2 := (grid0.coords t 1).isLt
  have hg := g.isLt
  have hd2 := d.isLt
  unfold kx
  exact (blk2 m c t _ _).trans (v15_zero m c (grid0.coords t 0) _ _
    (by show 96 ≤ (512 * (grid0.coords t 1).val + (128 * g.val + d.val)) % 128; omega))

theorem qx_eq (c : Dev nD) (t : Fin cfg0.N) (g : Fin 4) (s : Fin 512) (d : Fin 96) :
    qx (iblk m c 1 t) g s ⟨d.val, by omega⟩ = (m ((c : Thread nD τ).loc main_arg0)) (ix4 (grid0.coords t 0) (pos t s) (hd t g) d) := by
  have hp : (grid0.coords t 1).val < 2 := (grid0.coords t 1).isLt
  have hg := g.isLt
  have hd' := d.isLt
  unfold qx
  exact (blk1 m c t s _).trans (v12_lane m c (grid0.coords t 0) (pos t s) (hd t g) d _
    (by show 512 * (grid0.coords t 1).val + (128 * g.val + d.val) = 128 * (4 * (grid0.coords t 1).val + g.val) + d.val; omega))

theorem sc_eq (c : Dev nD) (t : Fin cfg0.N) (Q K : FVec Ideal S8x4096x8x96 .f32)
    (eQ : m ((c : Thread nD τ).loc main_arg0) = Q) (eK : m ((c : Thread nD τ).loc main_arg1) = K)
    (hQ : ∀ i, (Q i : EReal) = (((Q i : EReal).toReal : ℝ) : EReal)) (hK : ∀ i, (K i : EReal) = (((K i : EReal).toReal : ℝ) : EReal))
    (g : Fin 4) (s : Fin 512) (k : Fin 4096) :
    sc (iblk m c 1 t) (iblk m c 2 t) g s k.val
      = ((zr Q K (grid0.coords t 0) (hd t g) (pos t s) k * (Real.log 2)⁻¹ : ℝ) : EReal) := by
  unfold sc
  rw [sum_pad _ (fun d : Fin 96 => (K (ix4 (grid0.coords t 0) k (hd t g) d) : EReal)
    * ((Q (ix4 (grid0.coords t 0) (pos t s) (hd t g) d) : EReal) * ((qs : ℝ) : EReal)))]
  · rw [score_eq _ _ (fun d => hQ _) (fun d => hK _)]
    unfold zr
    rfl
  · intro d
    rw [kx_eq, qx_eq, eQ, eK]
  · intro d hd'
    rw [kx_zero m c t g k d hd', zero_mul]

theorem vx_eq (c : Dev nD) (t : Fin cfg0.N) (g : Fin 4) (r : Fin 64) (k : Fin 4096) :
    vx (iblk m c 3 t) g ⟨r.val, by omega⟩ k.val = (m ((c : Thread nD τ).loc main_arg2)) (ix4 (grid0.coords t 0) k (hd t g) r) := by
  have hk := k.isLt
  have hg := g.isLt
  have hr := r.isLt
  have hp : (grid0.coords t 1).val < 2 := (grid0.coords t 1).isLt
  unfold vx
  rw [dif_pos r.isLt]
  exact (blk3 m c t _ ⟨64 * g.val + r.val, by omega⟩ _).trans (v2_lane m c (grid0.coords t 0) k (hd t g) r _ _ _ (by show k.val / 256 % 16 = k.val / 256; omega) rfl
    (by show 256 * (grid0.coords t 1).val + (64 * g.val + r.val) = 64 * (4 * (grid0.coords t 1).val + g.val) + r.val; omega))

theorem point (c : Dev nD) (t : Fin cfg0.N) (Q K : FVec Ideal S8x4096x8x96 .f32) (X : FVec Ideal S8x4096x8x64 .f32)
    (eQ : m ((c : Thread nD τ).loc main_arg0) = Q) (eK : m ((c : Thread nD τ).loc main_arg1) = K) (eX : m ((c : Thread nD τ).loc main_arg2) = X)
    (hQ : ∀ i, (Q i : EReal) = (((Q i : EReal).toReal : ℝ) : EReal)) (hK : ∀ i, (K i : EReal) = (((K i : EReal).toReal : ℝ) : EReal))
    (l : Fin 256) (q : Fin 512) (l' : Fin 512) (hl' : l'.val = 256 * (grid0.coords t 1).val + l.val) :
    outAt m c t (ix3 0 l q) = OUT X (PP (PE (SC Q K))) (ix3 (grid0.coords t 0) l' (pos t q)) := by
  have hl := l.isLt
  have hp : (grid0.coords t 1).val < 2 := (grid0.coords t 1).isLt
  refine Eq.trans ?_ (ref_at Q K X hQ hK (grid0.coords t 0) l' (pos t q) (hd t ⟨l.val / 64, by omega⟩) ⟨l.val % 64, by omega⟩
    (by show 4 * (grid0.coords t 1).val + l.val / 64 = l'.val / 64; omega)
    (by show l.val % 64 = l'.val % 64; omega)).symm
  unfold outAt
  rw [out_at c (grid0.coords t) _ _ _ _ _ _ _ _ _ _ (iblk m c 0 t) (iblk m c 1 t) (iblk m c 2 t) (iblk m c 3 t)
    (fun g s => nr Q K (grid0.coords t 0) (hd t g) (pos t s))
    (fun g s k => sc_eq m c t Q K eQ eK hQ hK g s k) (blk0 m c t) ⟨l.val / 64, by omega⟩ ⟨l.val % 64, by omega⟩ q (ix3 0 l q)
    (by show l.val = 64 * (l.val / 64) + l.val % 64; omega) rfl]
  unfold soft eW
  refine Finset.sum_congr rfl fun k _ => ?_
  rw [vx_eq, eX]
  rfl

end Cert.KernelIdeal.Hand

end
-- ==== Proof.Mla.Finite.lean ====
/- What the precondition says of the queries and the keys. -/
module

public import proofs.«01_k».proof.Proof.Gen.Pre_finite
public import Idealize.ShloMosaic.Lib.ReduceAll
public import Idealize.ShloMosaic.Lib.Pipeline.ValueKit

@[expose] public section

set_option maxRecDepth 16384

noncomputable section

namespace Cert.Mla

open Idealize.ShloMosaic Cert.Pre_finite Cert.Pre_finite.Gen

instance : Subsingleton S_.Idx := ⟨fun a b => funext fun i => absurd i.isLt (by show ¬ i.val < 0; omega)⟩

/-- The comparison of the precondition, for one element. -/
theorem real_of_lt (x I : EReal) (hI : I = ⊤) (h : Ideal.cmp .olt (max x (-x)) I = 1#1) : x = ((x.toReal : ℝ) : EReal) := by
  have hlt : max x (-x) < ⊤ := by
    by_contra hn
    rw [hI] at h
    unfold Ideal.cmp at h
    simp [hn] at h
  obtain ⟨h1, h2⟩ := max_lt_iff.1 hlt
  refine (EReal.coe_toReal (ne_of_lt h1) ?_).symm
  rintro rfl
  simp at h2

theorem inf_eq : Ideal.ofBits FTy.f32 0x7F800000#32 = (⊤ : EReal) := by
  simp [Ideal.ofBits, Ideal.ieee]

theorem elt_real (x : FVec Ideal S8x4096x8x96 .f32) (i : S8x4096x8x96.Idx)
    (h : cmpf .olt (Host.absf x) (broadcastInDim S8x4096x8x96 ![] bcast_S_S8x4096x8x96 (constant (F := Ideal) S_ .f32 0x7F800000#32)) i = 1#1) :
    (x i : EReal) = (((x i : EReal).toReal : ℝ) : EReal) :=
  real_of_lt (x i) _ inf_eq h

theorem finite_of (q k : FVec Ideal S8x4096x8x96 .f32) (v : FVec Ideal S8x4096x8x64 .f32) (a b : FVec Ideal S96 .f32)
    (h : Cert.Pre_finite.fn (F := Ideal) q k v a b = fun _ => 1#1) :
    (∀ i, (q i : EReal) = (((q i : EReal).toReal : ℝ) : EReal)) ∧ ∀ i, (k i : EReal) = (((k i : EReal).toReal : ℝ) : EReal) := by
  have h0 := congrFun h ix0
  obtain ⟨h1, h2⟩ := IntOp.andi_eq_one.1 h0
  exact ⟨fun i => elt_real q i (Host.reduce_andi_all _ _ _ _ _ h1 i), fun i => elt_real k i (Host.reduce_andi_all _ _ _ _ _ h2 i)⟩

end Cert.Mla

end
-- ==== Proof.Mla.Algebraic.lean ====
/- The attention kernel computes what the reference computes, in exact arithmetic. -/
module

public import proofs.«01_k».proof.Defs
public import proofs.«01_k».proof.Proof.Mla.KernelIdeal.Point
public import proofs.«01_k».proof.Proof.Mla.Finite
public import Idealize.ShloMosaic.Lib.Claim

@[expose] public section

set_option maxRecDepth 16384

noncomputable section

open Idealize.ShloMosaic Idealize.ShloMosaic.TcCoe Idealize.SL.Sem

namespace Cert.KernelIdeal.Hand

open Cert.KernelIdeal Cert.KernelIdeal.Gen
open Cert.ReferenceIdeal.Hand (OUT PP PE SC)

variable (m : (ℓ : Loc nD τ sig) → Buf (Elt Ideal) ℓ)

attribute [local irreducible] OUT PP PE SC out outAt

theorem rd4 (X : FVec Ideal S8x512x4096 .bf16) (t : Fin cfg0.N) (l : Fin 256) (q : Fin 512) :
    View.read (Elt Ideal) ((cfg0.win 4).blk t).view X (ix3 0 l q) = X (ix3 (grid0.coords t 0) ⟨256 * (grid0.coords t 1).val + l.val, by
      have : (grid0.coords t 1).val < 2 := (grid0.coords t 1).isLt
      omega⟩ ⟨512 * (grid0.coords t 2).val + q.val, by
      have : (grid0.coords t 2).val < 8 := (grid0.coords t 2).isLt
      omega⟩) := by
  blk_ext [idx t]

theorem final (c : Dev nD) (Q K : FVec Ideal S8x4096x8x96 .f32) (X : FVec Ideal S8x4096x8x64 .f32)
    (eQ : m ((c : Thread nD τ).loc main_arg0) = Q) (eK : m ((c : Thread nD τ).loc main_arg1) = K) (eX : m ((c : Thread nD τ).loc main_arg2) = X)
    (hQ : ∀ i, (Q i : EReal) = (((Q i : EReal).toReal : ℝ) : EReal)) (hK : ∀ i, (K i : EReal) = (((K i : EReal).toReal : ℝ) : EReal)) :
    (dats m 0 c).arrAt 4 (cfgs 0).N = OUT X (PP (PE (SC Q K))) := by
  refine (dats m 0 c).arrAt_eq_of_covers 4 _ (by decide +kernel) fun t _ y => ?_
  blk_simp
  rw [after0_4]
  obtain ⟨l, q, rfl⟩ : ∃ (l : Fin 256) (q : Fin 512), y = ix3 0 l q := by
    refine ⟨y 1, y 2, funext fun a => ?_⟩
    match a with
    | ⟨0, _⟩ => exact Subsingleton.elim (α := Fin 1) _ _
    | ⟨1, _⟩ => rfl
    | ⟨2, _⟩ => rfl
  exact (point m c t Q K X eQ eK eX hQ hK l q _ rfl).trans (rd4 (OUT X (PP (PE (SC Q K)))) t l q).symm

end Cert.KernelIdeal.Hand

namespace Cert.Mla

attribute [local irreducible] Cert.ReferenceIdeal.Hand.OUT Cert.ReferenceIdeal.Hand.PP Cert.ReferenceIdeal.Hand.PE Cert.ReferenceIdeal.Hand.SC

theorem algebraic : Cert.algebraic_KernelIdeal_ReferenceIdeal_pre_finite := by
  pair_intro
  · run_from Cert.KernelIdeal.Hand.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
    · exact Cert.KernelIdeal.Gen.V_main_arg4 m c
  · run_from Cert.ReferenceIdeal.Value.run (F := Ideal) m' g'
    refine (Cert.ReferenceIdeal.Hand.res_eq m' c).trans ?_
    obtain ⟨hQ, hK⟩ := finite_of _ _ _ _ _ (hpre c)
    obtain ⟨h0, h1, h2, -, -⟩ := hagree c
    rw [h0, h1, h2]
    exact (Cert.KernelIdeal.Hand.final m c _ _ _ rfl rfl rfl hQ hK).symm

end Cert.Mla

end
-- ==== Proof.Moe.InRange.lean ====
/- What the precondition says of the experts' table and the count. -/
module

public import proofs.«01_k».proof.Proof.Gen.Pre_in_range
public import Idealize.ShloMosaic.Lib.ReduceAll
public import Idealize.ShloMosaic.Lib.WordCmp
public import Idealize.ShloMosaic.Lib.Pipeline.ValueKit

@[expose] public section

set_option maxRecDepth 16384

noncomputable section

namespace Cert.Moe

open Idealize.ShloMosaic Cert.Pre_in_range Cert.Pre_in_range.Gen

instance : Subsingleton S_.Idx := ⟨fun a b => funext fun i => absurd i.isLt (by show ¬ i.val < 0; omega)⟩

theorem sge_word (x k : BitVec 32) (h : IntOp.cmpi .sge x k = 1#1) : k.toInt ≤ x.toInt := by
  change BitVec.ofBool (decide (k.toInt ≤ x.toInt)) = 1#1 at h
  by_contra hn
  rw [decide_eq_false hn] at h
  exact absurd h (by decide)

theorem slt_word (x k : BitVec 32) (h : IntOp.cmpi .slt x k = 1#1) : x.toInt < k.toInt := by
  change BitVec.ofBool (decide (x.toInt < k.toInt)) = 1#1 at h
  by_contra hn
  rw [decide_eq_false hn] at h
  exact absurd h (by decide)

theorem in_range_of {F : FTy → Type} [FloatOps F] (te : IVec S136 32) (nu : IVec S1 32) (xs : FVec F S69632x1024 .f32) (wg wu : FVec F S8x1024x2816 .f32) (wd : FVec F S8x2816x1024 .f32)
    (h : Cert.Pre_in_range.fn (F := F) te nu xs wg wu wd = fun _ => 1#1) :
    (∀ i, (te i).toNat < 8) ∧ ∀ i, 1 ≤ (nu i).toNat ∧ (nu i).toNat < 2 ^ 31 := by
  have h0 := congrFun h ix0
  obtain ⟨h1, h3⟩ := IntOp.andi_eq_one.1 h0
  obtain ⟨h1, h2⟩ := IntOp.andi_eq_one.1 h1
  constructor
  · intro i
    have a := sge_word (te i) 0#32 (Host.reduce_andi_all _ _ _ _ _ h1 i)
    have b := slt_word (te i) 8#32 (Host.reduce_andi_all _ _ _ _ _ h2 i)
    simp only [BitVec.toInt_eq_toNat_cond, BitVec.toNat_ofNat] at a b
    split_ifs at a b <;> omega
  · intro i
    have a := sge_word (nu i) 1#32 (Host.reduce_andi_all _ _ _ _ _ h3 i)
    simp only [BitVec.toInt_eq_toNat_cond, BitVec.toNat_ofNat] at a
    split_ifs at a <;> omega

end Cert.Moe

end
-- ==== Proof.Moe.Kernel2.Pre.lean ====
module

public import proofs.«01_k».proof.Proof.Moe.Kernel2.Ok
public import proofs.«01_k».proof.Proof.Moe.InRange

/-! Tables in range choose blocks that lie in the arrays. -/

@[expose] public section

set_option maxRecDepth 16384

noncomputable section

open Idealize.ShloMosaic Idealize.ShloMosaic.TcCoe Idealize.SL.Sem

namespace Cert.Kernel2.Hand

open Cert.Kernel2 Cert.Kernel2.Gen

variable {F : FTy → Type} [FloatOps F] (m : (ℓ : Loc nD τ sig) → Buf (Elt F) ℓ)

theorem tbl_te : tbl m 0 = m (((0 : Dev nD) : Thread nD τ).loc main_arg0) := V_main_arg0 m 0
theorem tbl_nu : tbl m 1 = m (((0 : Dev nD) : Thread nD τ).loc main_arg1) := V_main_arg1 m 0

theorem hok (hte : ∀ y, ((m (((0 : Dev nD) : Thread nD τ).loc main_arg0) : IVec S136 32) y).toNat < 8)
    (hnu : ∀ y, 1 ≤ ((m (((0 : Dev nD) : Thread nD τ).loc main_arg1) : IVec S1 32) y).toNat ∧ ((m (((0 : Dev nD) : Thread nD τ).loc main_arg1) : IVec S1 32) y).toNat < 2 ^ 31) : Ok m :=
  ok_of (tbl m) (fun y => by rw [tbl_te]; exact hte y) (fun y => by rw [tbl_nu]; exact hnu y)

end Cert.Kernel2.Hand

end
-- ==== Proof.Moe.Kernel2Ideal.Kit.lean ====
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

/-! The experts' feed-forward call up to its launch: the arrays as the region finds them, the two tables, the blocks of the
windows, and the frame from a run. -/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

abbrev bodyAt0 (a : (pcfg0 (F := F)).Adm) (t : Fin (cfg0 a).N) : Prog (TpuEff nD τ sig (Elt F) Λ₀ .tc) PUnit :=
  cc0_moe_group_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)

theorem V_pre (c : Dev nD) (j : Fin 2) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S136 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

end Cert.Kernel2Ideal.Hand

end
-- ==== Proof.Moe.Kernel2Ideal.Body.lean ====
module

public import proofs.«01_k».proof.Proof.Moe.Kernel2Ideal.Kit
public import Idealize.ShloMosaic.Lib.VecWindow
public import Idealize.ShloMosaic.Lib.Claim

/-! The body of the experts' feed-forward call: the products where its tile is in use, zeros where it is not. -/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S512x1024 := Rect.unit (s := S512x1024) ![0, 0] S512x1024.size inb_S512x1024_S512x1024_0_0
abbrev rG0 : Rect S1x1024x2816 := Rect.unit (s := S1x1024x2816) ![0, 0, 0] S1x1024x1280.size inb_S1x1024x2816_S1x1024x1280_0_0_0
abbrev rG1 : Rect S1x1024x2816 := Rect.unit (s := S1x1024x2816) ![0, 0, 1280] S1x1024x1536.size inb_S1x1024x2816_S1x1024x1536_0_0_1280
abbrev rD0 : Rect S1x2816x1024 := Rect.unit (s := S1x2816x1024) ![0, 0, 0] S1x1280x1024.size inb_S1x2816x1024_S1x1280x1024_0_0_0
abbrev rD1 : Rect S1x2816x1024 := Rect.unit (s := S1x2816x1024) ![0, 1280, 0] S1x1536x1024.size inb_S1x2816x1024_S1x1536x1024_0_1280_0

/-- What the body leaves in the buffer of its result: the products where the tile is below the count `n`, else zeros. -/
def out (i : grid0.Coords) (n : BitVec 32) (x0 : Vec F S512x1024 .f32) (x1 : Vec F S1x1024x2816 .bf16) (x2 : Vec F S1x1024x2816 .bf16) (x3 : Vec F S1x2816x1024 .bf16) : Vec F S512x1024 .f32 :=
  if k0_cond1 i n = 1#1 then k0_pay1 (View.ld x0 rX) (View.ld x1 rG0) (View.ld x2 rG0) (View.ld x3 rD0) (View.ld x1 rG1) (View.ld x2 rG1) (View.ld x3 rD1)
  else k0_pay2

/-- Of the body's two conditions exactly one holds. -/
theorem cond_iff (i : grid0.Coords) (n : BitVec 32) : k0_cond2 i n = 1#1 ↔ ¬ k0_cond1 i n = 1#1 := by
  unfold k0_cond1 k0_cond2
  simp only [Scalar.cmpi, IntOp.cmpi, Scalar.extui, BitVec.sle_eq_not_slt]
  generalize BitVec.slt _ n = b
  cases b <;> decide

set_option maxHeartbeats 4000000 in
/-- The body on whole buffers, the count at `n`. -/
theorem sound_kernel (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole)
    (f1 : TbBuf0 (F := F) c tbM0_1) (n : BitVec 32) (hn : f1 = (fun _ => n : S1.Idx → BitVec 32)) (x0 : Vec F S512x1024 .f32) (x1 : Vec F S1x1024x2816 .bf16) (x2 : Vec F S1x1024x2816 .bf16) (x3 : Vec F S1x2816x1024 .bf16) (E : Set ℕ) (K : PUnit → sProp 𝕄) :
    iprop(tbPt0 c tbM0_1 f1 ∗ owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(tbPt0 c tbM0_1 f1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out i n x0 x1 x2 x3)) -∗ K ⟨⟩))
      ⊢ wp frame (wpE (defs₀ (F := F)) Variants.none c none) E (cc0_moe_group_ffn i tbM0_0 htbM0_0 tbM0_1 htbM0_1 arg3 harg3 arg4 harg4 arg5 harg5 arg6 harg6 arg7 harg7) K := by
  simp only [cc0_moe_group_ffn_eq_skeleton]; unfold cc0_moe_group_ffn_skel
  unfold owns
  iintro ⟨HT, ⟨%g0, %hf0, H0⟩, ⟨%g1, %hf1, H1⟩, ⟨%g2, %hf2, H2⟩, ⟨%g3, %hf3, H3⟩, ⟨%d4, %f4, -, H4⟩, Hk⟩
  subst hf0 hf1 hf2 hf3
  sl_exec
  sl_step
  iapply Hk
  isplitl [HT]; · iexact HT
  isplitl [H0]
  · iexists g0; isplitr; · ipureintro; rfl
    iexact H0
  isplitl [H1]
  · iexists g1; isplitr; · ipureintro; rfl
    iexact H1
  isplitl [H2]
  · iexists g2; isplitr; · ipureintro; rfl
    iexact H2
  isplitl [H3]
  · iexists g3; isplitr; · ipureintro; rfl
    iexact H3
  iexists _; isplitr
  swap; · iexact H4
  ipureintro
  have hr : sound_kernel.sl.r c f1 = n := by
    delta sound_kernel.sl.r
    subst hn; rfl
  rw [hr]
  unfold out
  by_cases h : k0_cond1 i n = 1#1
  · have h2 : ¬ k0_cond2 i n = 1#1 := fun e => (cond_iff i n).mp e h
    rw [dif_neg h2, dif_pos h, if_pos h]
    exact View.read_writes_full _ _ _ _ _
  · have h2 : k0_cond2 i n = 1#1 := (cond_iff i n).mpr h
    rw [dif_pos h2, if_neg h]
    exact View.read_writes_full _ _ _ _ _

end Cert.Kernel2Ideal.Hand

end
-- ==== Proof.Moe.Kernel2Ideal.Frame.lean ====
module

public import proofs.«01_k».proof.Proof.Moe.Kernel2Ideal.Body
public import Idealize.ShloMosaic.Lib.VecWindow
public import Idealize.ShloMosaic.Lib.Claim

/-! The frame of the experts' feed-forward call. -/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The count of the tiles in use, as launched. -/
def cnt : BitVec 32 := (tbl m 1 : S1.Idx → BitVec 32) (Shape.Idx.first (by decide))
theorem tbl_1 : tbl m 1 = (fun _ => cnt m : S1.Idx → BitVec 32) := by
  have h : ∀ y y' : S1.Idx, y = y' := by decide
  funext y
  exact congrArg (tbl m 1 : S1.Idx → BitVec 32) (h y _)

/-- What the launch is shown with: the arrays as the region finds them, each input's buffer left at its block, the
    result's at `out` of the blocks. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => out (grid0.coords t) (cnt m) (iblk m hO c 0 t) (iblk m hO c 1 t) (iblk m hO c 2 t) (iblk m hO c 3 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := rfl
theorem after0_1 (hO : Ok m) (c : Dev nD) (t : Fin (cfgM m hO).N) : (dats m hO 0 c).after 1 t = iblk m hO c 1 t := rfl
theorem after0_2 (hO : Ok m) (c : Dev nD) (t : Fin (cfgM m hO).N) : (dats m hO 0 c).after 2 t = iblk m hO c 2 t := rfl
theorem after0_3 (hO : Ok m) (c : Dev nD) (t : Fin (cfgM m hO).N) : (dats m hO 0 c).after 3 t = iblk m hO c 3 t := rfl
set_option maxHeartbeats 4000000 in
theorem after0_4 (hO : Ok m) (c : Dev nD) (t : Fin (cfgM m hO).N) : (dats m hO 0 c).after 4 t = out (grid0.coords t) (cnt m) (iblk m hO c 0 t) (iblk m hO c 1 t) (iblk m hO c 2 t) (iblk m hO c 3 t) := rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0_0 (adm m hO) t) fullShare ((dats m hO 0 c).before 0 t d))
    ∗ (∃ d, owns (c : Thread nD τ) (st0_1 (adm m hO) t) fullShare ((dats m hO 0 c).before 1 t d))
    ∗ (∃ d, owns (c : Thread nD τ) (st0_2 (adm m hO) t) fullShare ((dats m hO 0 c).before 2 t d))
    ∗ (∃ d, owns (c : Thread nD τ) (st0_3 (adm m hO) t) fullShare ((dats m hO 0 c).before 3 t d))
    ∗ (∃ d, owns (c : Thread nD τ) (st0_4 (adm m hO) t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0_0 (adm m hO) t) fullShare ((dats m hO 0 c).after 0 t)
    ∗ owns (c : Thread nD τ) (st0_1 (adm m hO) t) fullShare ((dats m hO 0 c).after 1 t)
    ∗ owns (c : Thread nD τ) (st0_2 (adm m hO) t) fullShare ((dats m hO 0 c).after 2 t)
    ∗ owns (c : Thread nD τ) (st0_3 (adm m hO) t) fullShare ((dats m hO 0 c).after 3 t)
    ∗ owns (c : Thread nD τ) (st0_4 (adm m hO) t) fullShare ((dats m hO 0 c).after 4 t))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4,
    show (dats m hO 0 c).Φ t.castSucc = iprop(Pipeline.ΦA spec0 c ∗ Pipeline.ΦT pre0 (tbl m) c) from rfl, PhiT0_eq]
  iintro ⟨⟨HΦ, HT0, HT1⟩, Ho, ⟨%d0, H0⟩, ⟨%d1, H1⟩, ⟨%d2, H2⟩, ⟨%d3, H3⟩, ⟨%d4, H4⟩⟩
  iapply (sound_kernel c (grid0.coords t) _ _ _ _ _ _ _ _ _ _ (tbl m 1) (cnt m) (tbl_1 m) (iblk m hO c 0 t) (iblk m hO c 1 t) (iblk m hO c 2 t) (iblk m hO c 3 t) Set.univ _)
  isplitl [HT1]; · iexact HT1
  isplitl [H0]; · iexact H0
  isplitl [H1]; · iexact H1
  isplitl [H2]; · iexact H2
  isplitl [H3]; · iexact H3
  isplitl [H4]; · iexists _; iexact H4
  iintro ⟨HT1, H0, H1, H2, H3, H4⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem idle_n (i : grid0.Coords) (n : BitVec 32) : (!(k0_cond1 i n == 1#1) && !(k0_cond2 i n == 1#1)) = false := by
  by_cases h : k0_cond1 i n = 1#1
  · simp [h]
  · simp [(cond_iff i n).mpr h]

set_option maxHeartbeats 4000000 in
/-- The result's window is idle at no point. -/
theorem idle_4 (hO : Ok m) (t : Fin (cfgM m hO).N) : (cfgM m hO).idle (4 : Fin 5) ((cfgM m hO).grid.coords t) = false :=
  idle_n (grid0.coords t) ((tbl m).atD 1 ![0])

set_option maxHeartbeats 1600000 in
theorem body_obligation (hO : Ok m) (c : Dev nD) : BodyObligation (dats (F := F) m hO 0 c) (defs₀ (F := F)) Variants.none () Set.univ := fun t => by
  rw [bigSep_W0, bigSep_W0, defs₀_row]
  rw [idle_4]
  exact triple_restated (sound_body m hO c t) rfl .rfl fun _ => .rfl

set_option backward.isDefEq.respectTransparency.types false in
set_option maxHeartbeats 800000 in
/-- The launch, every counter at zero at the end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := fun c k => V_pre m c k) (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO)) ((θ_run defs _ _).mono (fun _ h => h.2) (run_main_quiescent m ρ hO))

end Cert.Kernel2Ideal.Hand

end
-- ==== Proof.Moe.Kernel2Ideal.Ok.lean ====
module

public import proofs.«01_k».proof.Proof.Moe.Kernel2Ideal.Kit
public import proofs.«01_k».proof.Proof.Moe.InRange

/-! The blocks the tables choose lie inside their arrays, for tables in range. -/

@[expose] public section

set_option maxRecDepth 16384

noncomputable section

namespace Cert.Kernel2Ideal.Hand

open Cert.Kernel2Ideal Cert.Kernel2Ideal.Gen
open Idealize.ShloMosaic

variable {F : FTy → Type} [FloatOps F]

theorem S1_eq (y y' : S1.Idx) : y = y' := (by decide : ∀ y y' : S1.Idx, y = y') y y'

/-- The table's word that an expert's block is chosen by. -/
theorem te_at (i : grid0.Coords) : (Rect.unit (s := S136) (k0_off1 i) S1.size (k0_off1_inb i)).emb (Shape.Idx.first (Nat.lt_of_lt_of_eq Nat.one_pos numel1_S1.symm)) = (ix1 (i 0) : S136.Idx) := by
  funext a
  match a with
  | 0 =>
    apply Fin.ext
    show k0_off1 i 0 + 1 * 0 = (i 0).val
    rw [k0_off1_eq]
    rfl

variable (pf : pre0.Contents (Elt F))

theorem t1_eq (i : grid0.Coords) : cc0_transform_1 k0_off1_inb numel1_S1 pf i = ![((pf 0 : S136.Idx → BitVec 32) (ix1 (i 0))).toNat, 0, 0] :=
  congrArg (fun y => ![((pf 0 : S136.Idx → BitVec 32) y).toNat, 0, 0]) (te_at i)
theorem t2_eq (i : grid0.Coords) : cc0_transform_2 k0_off1_inb numel1_S1 pf i = ![((pf 0 : S136.Idx → BitVec 32) (ix1 (i 0))).toNat, 0, 0] :=
  congrArg (fun y => ![((pf 0 : S136.Idx → BitVec 32) y).toNat, 0, 0]) (te_at i)
theorem t3_eq (i : grid0.Coords) : cc0_transform_3 k0_off1_inb numel1_S1 pf i = ![((pf 0 : S136.Idx → BitVec 32) (ix1 (i 0))).toNat, 0, 0] :=
  congrArg (fun y => ![((pf 0 : S136.Idx → BitVec 32) y).toNat, 0, 0]) (te_at i)
theorem t0_eq (i : grid0.Coords) (y : S1.Idx) : cc0_transform_0 inb_S1_S1_0 numel1_S1 pf i = ![(Scalar.minsi (BitVec.ofNat 32 (i 0).val) (Scalar.subi ((pf 1 : S1.Idx → BitVec 32) y) 1#32)).toNat, 0] :=
  congrArg (fun y => ![(Scalar.minsi (BitVec.ofNat 32 (i 0).val) (Scalar.subi ((pf 1 : S1.Idx → BitVec 32) y) 1#32)).toNat, 0]) (S1_eq _ y)

/-- The row block of a grid point: the point itself where it is below the count, and in range anyhow. -/
theorem row_word (k : ℕ) (hk : k < 136) (n : BitVec 32) (h1 : 1 ≤ n.toNat) (h2 : n.toNat < 2 ^ 31) :
    (Scalar.minsi (BitVec.ofNat 32 k) (Scalar.subi n 1#32)).toNat = min k (n.toNat - 1) := by
  have e1 : (n - 1#32).toNat = n.toNat - 1 := by rw [BitVec.toNat_sub]; simp; omega
  have e2 : (BitVec.ofNat 32 k).toNat = k := by simp; omega
  have e : (BitVec.ofNat 32 k).slt (n - 1#32) = decide (k < n.toNat - 1) := by
    rw [BitVec.slt_eq_decide, BitVec.toInt_eq_toNat_of_lt (by omega), BitVec.toInt_eq_toNat_of_lt (by omega), e1, e2]
    simp
  show (if (BitVec.ofNat 32 k).slt (n - 1#32) then BitVec.ofNat 32 k else n - 1#32).toNat = _
  rw [e]
  by_cases h : k < n.toNat - 1
  · simp only [h, decide_true, if_true, e2]; omega
  · simp only [h, decide_false, Bool.false_eq_true, if_false, e1]; omega

theorem ok_of (hte : ∀ y, ((pf 0 : S136.Idx → BitVec 32) y).toNat < 8) (hnu : ∀ y, 1 ≤ ((pf 1 : S1.Idx → BitVec 32) y).toNat ∧ ((pf 1 : S1.Idx → BitVec 32) y).toNat < 2 ^ 31) : ok0 (F := F) pf := by
  have hb : ∀ (f : Fin 3 → ℕ) (k : ℕ), f = ![k, 0, 0] → k < 8 → ∀ a, (f a + 1) * S1x1024x2816.size a ≤ S8x1024x2816.size a := by
    rintro f k rfl hk a
    match a with
    | 0 => show (k + 1) * 1 ≤ 8; omega
    | 1 => show (0 + 1) * 1024 ≤ 1024; omega
    | 2 => show (0 + 1) * 2816 ≤ 2816; omega
  have hd : ∀ (f : Fin 3 → ℕ) (k : ℕ), f = ![k, 0, 0] → k < 8 → ∀ a, (f a + 1) * S1x2816x1024.size a ≤ S8x2816x1024.size a := by
    rintro f k rfl hk a
    match a with
    | 0 => show (k + 1) * 1 ≤ 8; omega
    | 1 => show (0 + 1) * 2816 ≤ 2816; omega
    | 2 => show (0 + 1) * 1024 ≤ 1024; omega
  have hx : ∀ (f : Fin 2 → ℕ) (k : ℕ), f = ![k, 0] → k < 136 → ∀ a, (f a + 1) * S512x1024.size a ≤ S69632x1024.size a := by
    rintro f k rfl hk a
    match a with
    | 0 => show (k + 1) * 512 ≤ 69632; omega
    | 1 => show (0 + 1) * 1024 ≤ 1024; omega
  have hr : ∀ (i : grid0.Coords) (y : S1.Idx), (Scalar.minsi (BitVec.ofNat 32 (i 0).val) (Scalar.subi ((pf 1 : S1.Idx → BitVec 32) y) 1#32)).toNat < 136 := fun i y =>
    lt_of_eq_of_lt (row_word _ (i 0).isLt _ (hnu _).1 (hnu _).2) (lt_of_le_of_lt (Nat.min_le_left _ _) (i 0).isLt)
  exact ⟨fun i => ⟨hx _ _ (t0_eq pf i (Shape.Idx.first (by decide))) (hr i _), .inl rfl⟩, fun i => ⟨hb _ _ (t1_eq pf i) (hte _), .inr (.inr ⟨by decide, rfl, rfl, rfl⟩)⟩, fun i => ⟨hb _ _ (t2_eq pf i) (hte _), .inr (.inr ⟨by decide, rfl, rfl, rfl⟩)⟩, fun i => ⟨hd _ _ (t3_eq pf i) (hte _), .inr (.inr ⟨by decide, rfl, rfl, rfl⟩)⟩⟩

end Cert.Kernel2Ideal.Hand

end
-- ==== Proof.Moe.Kernel2Ideal.Pre.lean ====
module

public import proofs.«01_k».proof.Proof.Moe.Kernel2Ideal.Ok
public import proofs.«01_k».proof.Proof.Moe.InRange

/-! Tables in range choose blocks that lie in the arrays. -/

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen

variable {F : FTy → Type} [FloatOps F] (m : (ℓ : Loc nD τ sig) → Buf (Elt F) ℓ)

theorem tbl_te : tbl m 0 = m (((0 : Dev nD) : Thread nD τ).loc main_arg0) := V_main_arg0 m 0
theorem tbl_nu : tbl m 1 = m (((0 : Dev nD) : Thread nD τ).loc main_arg1) := V_main_arg1 m 0

theorem hok (hte : ∀ y, ((m (((0 : Dev nD) : Thread nD τ).loc main_arg0) : IVec S136 32) y).toNat < 8)
    (hnu : ∀ y, 1 ≤ ((m (((0 : Dev nD) : Thread nD τ).loc main_arg1) : IVec S1 32) y).toNat ∧ ((m (((0 : Dev nD) : Thread nD τ).loc main_arg1) : IVec S1 32) y).toNat < 2 ^ 31) : Ok m :=
  ok_of (tbl m) (fun y => by rw [tbl_te]; exact hte y) (fun y => by rw [tbl_nu]; exact hnu y)

end Cert.Kernel2Ideal.Hand

end
-- ==== Proof.Moe.Spec.lean ====
module

public import Idealize.ShloMosaic.Lib.Pipeline.ValueKit

/-! A token's row through one expert: the gated hidden layer, and the layer back. -/

@[expose] public section

noncomputable section

namespace Cert.Moe

open Idealize.ShloMosaic

/-- One element of the gated hidden layer, of a row `x` and a column of each of the two weights. -/
def gate (x g u : Fin 1024 → EReal) : EReal :=
  ((∑ k, x k * g k) * Ideal.logistic (∑ k, x k * g k)) * ∑ k, x k * u k

theorem gate_congr {x g u x' g' u' : Fin 1024 → EReal} (hx : ∀ k, x k = x' k) (hg : ∀ k, g k = g' k) (hu : ∀ k, u k = u' k) :
    gate x g u = gate x' g' u' := by
  obtain rfl : x = x' := funext hx
  obtain rfl : g = g' := funext hg
  obtain rfl : u = u' := funext hu
  rfl

/-- One element of the result: the hidden layer against a column `d`. -/
def ffn (x : Fin 1024 → EReal) (g u : Fin 2816 → Fin 1024 → EReal) (d : Fin 2816 → EReal) : EReal :=
  ∑ f, gate x (g f) (u f) * d f

theorem ffn_congr {x x' : Fin 1024 → EReal} {g u g' u' : Fin 2816 → Fin 1024 → EReal} {d d' : Fin 2816 → EReal} (hx : ∀ k, x k = x' k) (hg : ∀ f k, g f k = g' f k)
    (hu : ∀ f k, u f k = u' f k) (hd : ∀ f, d f = d' f) : ffn x g u d = ffn x' g' u' d' := by
  obtain rfl : x = x' := funext hx
  obtain rfl : g = g' := funext fun f => funext (hg f)
  obtain rfl : u = u' := funext fun f => funext (hu f)
  obtain rfl : d = d' := funext hd
  rfl

/-- The hidden layer may be summed in two chunks. -/
theorem ffn_split (x : Fin 1024 → EReal) (g u : Fin 2816 → Fin 1024 → EReal) (d : Fin 2816 → EReal) :
    ffn x g u d = (∑ f : Fin 1280, gate x (g ⟨f.val, by omega⟩) (u ⟨f.val, by omega⟩) * d ⟨f.val, by omega⟩)
      + ∑ f : Fin 1536, gate x (g ⟨1280 + f.val, by omega⟩) (u ⟨1280 + f.val, by omega⟩) * d ⟨1280 + f.val, by omega⟩ :=
  Fin.sum_univ_add (a := 1280) (b := 1536) fun f => gate x (g f) (u f) * d f

/-- A word below eight picks among eight. -/
theorem pick8 {α : Type} (t : BitVec 32) (ht : t.toNat < 8) (Y : Fin 8 → α) (z : α) :
    (if t = 7#32 then Y 7 else if t = 6#32 then Y 6 else if t = 5#32 then Y 5 else if t = 4#32 then Y 4
      else if t = 3#32 then Y 3 else if t = 2#32 then Y 2 else if t = 1#32 then Y 1 else if t = 0#32 then Y 0 else z)
      = Y ⟨t.toNat % 8, Nat.mod_lt _ (by decide)⟩ := by
  have e : t = BitVec.ofNat 32 t.toNat := by simp
  generalize t.toNat = k at e ht
  subst e
  match k, ht with
  | 0, _ | 1, _ | 2, _ | 3, _ | 4, _ | 5, _ | 6, _ | 7, _ => rfl

end Cert.Moe

end
-- ==== Proof.Moe.Pure.lean ====
module

public import proofs.«01_k».proof.Proof.Moe.Kernel2Ideal.Body
public import proofs.«01_k».proof.Proof.Moe.Spec

/-! What the kernel's body stores, at an index. -/

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen Cert.Moe

theorem pay1_at (x : FVec Ideal S512x1024 .f32) (g u : FVec Ideal S1x1024x1280 .bf16) (d : FVec Ideal S1x1280x1024 .bf16) (g' u' : FVec Ideal S1x1024x1536 .bf16) (d' : FVec Ideal S1x1536x1024 .bf16) (r : Fin 512) (l : Fin 1024) :
    k0_pay1 (F := Ideal) x g u d g' u' d' (ix2 r l)
      = ((∑ f : Fin 1280, gate (fun k => x (ix2 r k)) (fun k => g (ix3 0 k f)) (fun k => u (ix3 0 k f)) * d (ix3 0 f l))
        + ∑ f : Fin 1536, gate (fun k => x (ix2 r k)) (fun k => g' (ix3 0 k f)) (fun k => u' (ix3 0 k f)) * d' (ix3 0 f l) : EReal) := by
  unfold gate
  pointwise [k0_pay1]

theorem pay2_at (r : Fin 512) (l : Fin 1024) : k0_pay2 (F := Ideal) (ix2 r l) = (0 : EReal) := by
  pointwise [k0_pay2]

theorem ldX_at (x : Vec Ideal S512x1024 .f32) (r : Fin 512) (k : Fin 1024) : View.ld x rX (ix2 r k) = x (ix2 r k) := by
  refine congrArg x (funext fun a => ?_)
  match a with
  | 0 => apply Fin.ext; show 0 + 1 * r.val = r.val; omega
  | 1 => apply Fin.ext; show 0 + 1 * k.val = k.val; omega

theorem ldG0_at (x : Vec Ideal S1x1024x2816 .bf16) (k : Fin 1024) (f : Fin 1280) : View.ld x rG0 (ix3 0 k f) = x (ix3 0 k ⟨f.val, by omega⟩) := by
  refine congrArg x (funext fun a => ?_)
  match a with
  | 0 => apply Fin.ext; show 0 + 1 * 0 = 0; omega
  | 1 => apply Fin.ext; show 0 + 1 * k.val = k.val; omega
  | 2 => apply Fin.ext; show 0 + 1 * f.val = f.val; omega

theorem ldG1_at (x : Vec Ideal S1x1024x2816 .bf16) (k : Fin 1024) (f : Fin 1536) : View.ld x rG1 (ix3 0 k f) = x (ix3 0 k ⟨1280 + f.val, by omega⟩) := by
  refine congrArg x (funext fun a => ?_)
  match a with
  | 0 => apply Fin.ext; show 0 + 1 * 0 = 0; omega
  | 1 => apply Fin.ext; show 0 + 1 * k.val = k.val; omega
  | 2 => apply Fin.ext; show 1280 + 1 * f.val = 1280 + f.val; omega

theorem ldD0_at (x : Vec Ideal S1x2816x1024 .bf16) (f : Fin 1280) (l : Fin 1024) : View.ld x rD0 (ix3 0 f l) = x (ix3 0 ⟨f.val, by omega⟩ l) := by
  refine congrArg x (funext fun a => ?_)
  match a with
  | 0 => apply Fin.ext; show 0 + 1 * 0 = 0; omega
  | 1 => apply Fin.ext; show 0 + 1 * f.val = f.val; omega
  | 2 => apply Fin.ext; show 0 + 1 * l.val = l.val; omega

theorem ldD1_at (x : Vec Ideal S1x2816x1024 .bf16) (f : Fin 1536) (l : Fin 1024) : View.ld x rD1 (ix3 0 f l) = x (ix3 0 ⟨1280 + f.val, by omega⟩ l) := by
  refine congrArg x (funext fun a => ?_)
  match a with
  | 0 => apply Fin.ext; show 0 + 1 * 0 = 0; omega
  | 1 => apply Fin.ext; show 1280 + 1 * f.val = 1280 + f.val; omega
  | 2 => apply Fin.ext; show 0 + 1 * l.val = l.val; omega

/-- The body's result at an index: the row through the expert where the tile is in use, else zero. -/
theorem out_at (i : grid0.Coords) (n : BitVec 32) (x0 : FVec Ideal S512x1024 .f32) (x1 x2 : FVec Ideal S1x1024x2816 .bf16) (x3 : FVec Ideal S1x2816x1024 .bf16) (r : Fin 512) (l : Fin 1024) :
    out (F := Ideal) i n x0 x1 x2 x3 (ix2 r l) = (if k0_cond1 i n = 1#1 then
      ffn (fun k => x0 (ix2 r k)) (fun f k => x1 (ix3 0 k f)) (fun f k => x2 (ix3 0 k f)) (fun f => x3 (ix3 0 f l)) else 0 : EReal) := by
  unfold out
  by_cases h : k0_cond1 i n = 1#1
  · rw [if_pos h, if_pos h, pay1_at, ffn_split]
    refine congrArg₂ (fun a b : EReal => a + b) (Finset.sum_congr rfl fun f _ => ?_) (Finset.sum_congr rfl fun f _ => ?_)
    · exact congrArg₂ (fun a b : EReal => a * b) (gate_congr (fun k => ldX_at x0 r k) (fun k => ldG0_at x1 k f) (fun k => ldG0_at x2 k f)) (ldD0_at x3 f l)
    · exact congrArg₂ (fun a b : EReal => a * b) (gate_congr (fun k => ldX_at x0 r k) (fun k => ldG1_at x1 k f) (fun k => ldG1_at x2 k f)) (ldD1_at x3 f l)
  · rw [if_neg h, if_neg h, pay2_at]

/-- The condition of the body, on the number of the tile. -/
theorem cond1_word (i : grid0.Coords) (n : BitVec 32) : k0_cond1 i n = 1#1 ↔ IntOp.cmpi .slt (BitVec.ofNat 32 (i 0).val) n = 1#1 := by
  unfold k0_cond1
  simp only [Scalar.cmpi, IntOp.cmpi, Scalar.extui]
  generalize BitVec.slt _ n = b
  cases b <;> decide

end Cert.Kernel2Ideal.Hand

end
-- ==== Proof.Moe.Ref.lean ====
module

public import proofs.«01_k».proof.Proof.Gen.Reference2Ideal
public import proofs.«01_k».proof.Proof.Gen.Reference2Ideal.Run
public import proofs.«01_k».proof.Proof.Moe.Spec

/-! What the experts' reference computes, at an index. -/

@[expose] public section

set_option maxRecDepth 16384

noncomputable section

open Idealize.ShloMosaic Idealize.ShloMosaic.TcCoe Idealize.SL.Sem

namespace Cert.Reference2Ideal.Hand

open Cert.Reference2Ideal Cert.Reference2Ideal.Gen Cert.Moe

/-- The product with the first weight. -/
def GG (X : FVec Ideal S136x512x1024 .f32) (G : FVec Ideal S1x1024x2816 .f32) : FVec Ideal S136x512x2816 .f32 :=
  Host.dotGeneral dot_S136x512x1024_S1024x2816_S136x512x2816_2_0_01_1_n_n none X (shapeCast _ G shapeCasts_S1x1024x2816_S1024x2816)

/-- Every row through one expert. -/
def EXP (X : FVec Ideal S136x512x1024 .f32) (G U : FVec Ideal S1x1024x2816 .f32) (D : FVec Ideal S1x2816x1024 .f32) : FVec Ideal S136x512x1024 .f32 :=
  Host.dotGeneral dot_S136x512x2816_S2816x1024_S136x512x1024_2_0_01_1_n_n none (mulf (mulf (GG X G) (Host.divf (broadcastInDim S136x512x2816 ![] bcast_S_S136x512x2816 (constant S_ .f32 0x3F800000#32)) (addf (broadcastInDim S136x512x2816 ![] bcast_S_S136x512x2816 (constant S_ .f32 0x3F800000#32)) (Host.exp (Host.negf (GG X G)))))) (GG X U)) (shapeCast _ D shapeCasts_S1x2816x1024_S2816x1024)

/-- The tiles of expert `k` from `Y`, the others from `O`. -/
def SEL (te : IVec S136 32) (k : BitVec 32) (Y O : FVec Ideal S136x512x1024 .f32) : FVec Ideal S136x512x1024 .f32 :=
  select (broadcastInDim S136x512x1024 ![0, 1, 2] bcast_S136x1x1_S136x512x1024_0_1_2 (broadcastInDim S136x1x1 ![0] bcast_S136_S136x1x1_0 (cmpi .eq te (broadcastInDim S136 ![] bcast_S_S136 (constantI S_ 32 k))))) Y O

def XR (xs : FVec Ideal S69632x1024 .f32) : FVec Ideal S136x512x1024 .f32 := shapeCast _ xs shapeCasts_S69632x1024_S136x512x1024

def SW (e : ℕ) (W : FVec Ideal S8x1024x2816 .f32) (h : S8x1024x2816.Slices ![e, 0, 0] S1x1024x2816) : FVec Ideal S1x1024x2816 .f32 := extractStridedSlice S1x1024x2816 ![e, 0, 0] W h
def SD (e : ℕ) (W : FVec Ideal S8x2816x1024 .f32) (h : S8x2816x1024.Slices ![e, 0, 0] S1x2816x1024) : FVec Ideal S1x2816x1024 .f32 := extractStridedSlice S1x2816x1024 ![e, 0, 0] W h

def Z3 : FVec Ideal S136x512x1024 .f32 := broadcastInDim S136x512x1024 ![] bcast_S_S136x512x1024 (constant S_ .f32 0x00000000#32)

/-- Every tile through its expert. -/
def ALL (te : IVec S136 32) (X : FVec Ideal S136x512x1024 .f32) (wg wu : FVec Ideal S8x1024x2816 .f32) (wd : FVec Ideal S8x2816x1024 .f32) : FVec Ideal S136x512x1024 .f32 :=
  SEL te 7#32 (EXP X (SW 7 wg slices_S8x1024x2816_S1x1024x2816_7_0_0) (SW 7 wu slices_S8x1024x2816_S1x1024x2816_7_0_0) (SD 7 wd slices_S8x2816x1024_S1x2816x1024_7_0_0))
  (SEL te 6#32 (EXP X (SW 6 wg slices_S8x1024x2816_S1x1024x2816_6_0_0) (SW 6 wu slices_S8x1024x2816_S1x1024x2816_6_0_0) (SD 6 wd slices_S8x2816x1024_S1x2816x1024_6_0_0))
  (SEL te 5#32 (EXP X (SW 5 wg slices_S8x1024x2816_S1x1024x2816_5_0_0) (SW 5 wu slices_S8x1024x2816_S1x1024x2816_5_0_0) (SD 5 wd slices_S8x2816x1024_S1x2816x1024_5_0_0))
  (SEL te 4#32 (EXP X (SW 4 wg slices_S8x1024x2816_S1x1024x2816_4_0_0) (SW 4 wu slices_S8x1024x2816_S1x1024x2816_4_0_0) (SD 4 wd slices_S8x2816x1024_S1x2816x1024_4_0_0))
  (SEL te 3#32 (EXP X (SW 3 wg slices_S8x1024x2816_S1x1024x2816_3_0_0) (SW 3 wu slices_S8x1024x2816_S1x1024x2816_3_0_0) (SD 3 wd slices_S8x2816x1024_S1x2816x1024_3_0_0))
  (SEL te 2#32 (EXP X (SW 2 wg slices_S8x1024x2816_S1x1024x2816_2_0_0) (SW 2 wu slices_S8x1024x2816_S1x1024x2816_2_0_0) (SD 2 wd slices_S8x2816x1024_S1x2816x1024_2_0_0))
  (SEL te 1#32 (EXP X (SW 1 wg slices_S8x1024x2816_S1x1024x2816_1_0_0) (SW 1 wu slices_S8x1024x2816_S1x1024x2816_1_0_0) (SD 1 wd slices_S8x2816x1024_S1x2816x1024_1_0_0))
  (SEL te 0#32 (EXP X (SW 0 wg slices_S8x1024x2816_S1x1024x2816_0_0_0) (SW 0 wu slices_S8x1024x2816_S1x1024x2816_0_0_0) (SD 0 wd slices_S8x2816x1024_S1x2816x1024_0_0_0)) Z3)))))))

/-- The tiles in use, the others zero. -/
def FIN (nu : IVec S1 32) (Y : FVec Ideal S136x512x1024 .f32) : FVec Ideal S69632x1024 .f32 :=
  shapeCast _ (select (broadcastInDim S136x512x1024 ![0, 1, 2] bcast_S136x1x1_S136x512x1024_0_1_2 (broadcastInDim S136x1x1 ![0] bcast_S136_S136x1x1_0 (cmpi .slt (iotaInDim S136 32 0) (broadcastInDim S136 ![] bcast_S_S136 (shapeCast _ nu shapeCasts_S1_S_))))) Y (broadcastInDim S136x512x1024 ![] bcast_S_S136x512x1024 (id (constant S_ .f32 0x00000000#32)))) shapeCasts_S136x512x1024_S69632x1024

theorem sel_word {α : Type} (c : BitVec 1) (a b : α) : Scalar.select c a b = if c = 1#1 then a else b := rfl

theorem GG_at (X : FVec Ideal S136x512x1024 .f32) (G : FVec Ideal S1x1024x2816 .f32) (i : Fin 136) (r : Fin 512) (f : Fin 2816) :
    GG X G (ix3 i r f) = ∑ k : Fin 1024, X (ix3 i r k) * G (ix3 0 k f) := by
  pointwise [GG]

attribute [local irreducible] GG

theorem EXP_at (X : FVec Ideal S136x512x1024 .f32) (G U : FVec Ideal S1x1024x2816 .f32) (D : FVec Ideal S1x2816x1024 .f32) (i : Fin 136) (r : Fin 512) (l : Fin 1024) :
    EXP X G U D (ix3 i r l) = ffn (fun k => X (ix3 i r k)) (fun f k => G (ix3 0 k f)) (fun f k => U (ix3 0 k f)) (fun f => D (ix3 0 f l)) := by
  pointwise [EXP]
  unfold ffn gate Ideal.logistic
  exact Finset.sum_congr rfl fun f _ => by simp only [GG_at]

attribute [local irreducible] EXP

theorem eq_word (x k : BitVec 32) : IntOp.cmpi .eq x k = 1#1 ↔ x = k := by
  show BitVec.ofBool (x == k) = 1#1 ↔ x = k
  by_cases h : x = k
  · subst h; simp
  · rw [show (x == k) = false from beq_false_of_ne h]; simp [h]

theorem SEL_at (te : IVec S136 32) (k : BitVec 32) (Y O : FVec Ideal S136x512x1024 .f32) (i : Fin 136) (r : Fin 512) (l : Fin 1024) :
    SEL te k Y O (ix3 i r l) = if te (ix1 i) = k then Y (ix3 i r l) else O (ix3 i r l) := by
  have h : SEL te k Y O (ix3 i r l) = Scalar.select (IntOp.cmpi .eq (te (ix1 i)) k) (Y (ix3 i r l)) (O (ix3 i r l)) := by
    pointwise [SEL]
  rw [h, sel_word]
  simp only [eq_word]

attribute [local irreducible] SEL

theorem XR_at (xs : FVec Ideal S69632x1024 .f32) (R : Fin 69632) (k : Fin 1024) :
    XR xs (ix3 (⟨R.val / 512, by omega⟩ : Fin 136) (⟨R.val % 512, by omega⟩ : Fin 512) k) = xs (ix2 R k) := by
  have h : ∀ (i : Fin 136) (r : Fin 512), XR xs (ix3 i r k) = xs (ix2 ⟨i.val * 512 + r.val, by omega⟩ k) := fun i r => by pointwise [XR]
  rw [h]
  exact congrArg (fun s : Fin 69632 => xs (ix2 s k)) (Fin.ext (Nat.div_add_mod' _ _))

theorem SW_at (e : ℕ) (he : e < 8) (W : FVec Ideal S8x1024x2816 .f32) (h : S8x1024x2816.Slices ![e, 0, 0] S1x1024x2816) (z : Fin 1) (k : Fin 1024) (f : Fin 2816) :
    SW e W h (ix3 z k f) = W (ix3 ⟨e, he⟩ k f) := by
  refine congrArg W (funext fun a => ?_)
  match a with
  | 0 => apply Fin.ext; show e + z.val = e; omega
  | 1 => apply Fin.ext; show 0 + k.val = k.val; omega
  | 2 => apply Fin.ext; show 0 + f.val = f.val; omega

theorem SD_at (e : ℕ) (he : e < 8) (W : FVec Ideal S8x2816x1024 .f32) (h : S8x2816x1024.Slices ![e, 0, 0] S1x2816x1024) (z : Fin 1) (f : Fin 2816) (l : Fin 1024) :
    SD e W h (ix3 z f l) = W (ix3 ⟨e, he⟩ f l) := by
  refine congrArg W (funext fun a => ?_)
  match a with
  | 0 => apply Fin.ext; show e + z.val = e; omega
  | 1 => apply Fin.ext; show 0 + f.val = f.val; omega
  | 2 => apply Fin.ext; show 0 + l.val = l.val; omega

attribute [local irreducible] SW SD XR

/-- One expert's row, by its number. -/
def one (X : FVec Ideal S136x512x1024 .f32) (wg wu : FVec Ideal S8x1024x2816 .f32) (wd : FVec Ideal S8x2816x1024 .f32) (i : Fin 136) (r : Fin 512) (l : Fin 1024) (e : Fin 8) : EReal :=
  ffn (fun k => X (ix3 i r k)) (fun f k => wg (ix3 e k f)) (fun f k => wu (ix3 e k f)) (fun f => wd (ix3 e f l))

theorem EXP_one (X : FVec Ideal S136x512x1024 .f32) (wg wu : FVec Ideal S8x1024x2816 .f32) (wd : FVec Ideal S8x2816x1024 .f32) (i : Fin 136) (r : Fin 512) (l : Fin 1024) (e : ℕ) (he : e < 8)
    (h : S8x1024x2816.Slices ![e, 0, 0] S1x1024x2816) (h' : S8x2816x1024.Slices ![e, 0, 0] S1x2816x1024) :
    EXP X (SW e wg h) (SW e wu h) (SD e wd h') (ix3 i r l) = one X wg wu wd i r l ⟨e, he⟩ := by
  rw [EXP_at]
  simp only [SW_at e he, SD_at e he]
  rfl

theorem ALL_at (te : IVec S136 32) (X : FVec Ideal S136x512x1024 .f32) (wg wu : FVec Ideal S8x1024x2816 .f32) (wd : FVec Ideal S8x2816x1024 .f32) (i : Fin 136) (r : Fin 512) (l : Fin 1024)
    (ht : (te (ix1 i)).toNat < 8) :
    ALL te X wg wu wd (ix3 i r l) = one X wg wu wd i r l ⟨(te (ix1 i)).toNat % 8, Nat.mod_lt _ (by decide)⟩ := by
  unfold ALL
  rw [SEL_at, SEL_at, SEL_at, SEL_at, SEL_at, SEL_at, SEL_at, SEL_at]
  rw [EXP_one X wg wu wd i r l 7 (by decide), EXP_one X wg wu wd i r l 6 (by decide), EXP_one X wg wu wd i r l 5 (by decide), EXP_one X wg wu wd i r l 4 (by decide), EXP_one X wg wu wd i r l 3 (by decide), EXP_one X wg wu wd i r l 2 (by decide), EXP_one X wg wu wd i r l 1 (by decide), EXP_one X wg wu wd i r l 0 (by decide)]
  exact pick8 (te (ix1 i)) ht (one X wg wu wd i r l) _

attribute [local irreducible] ALL

theorem FIN_at (nu : IVec S1 32) (Y : FVec Ideal S136x512x1024 .f32) (R : Fin 69632) (l : Fin 1024) :
    FIN nu Y (ix2 R l) = if IntOp.cmpi .slt (BitVec.ofNat 32 (R.val / 512)) (nu (ix1 0)) = 1#1 then Y (ix3 (⟨R.val / 512, by omega⟩ : Fin 136) (⟨R.val % 512, by omega⟩ : Fin 512) l) else 0 := by
  rw [← sel_word]
  pointwise [FIN, id_eq]

/-- The reference's result. -/
def REF (te : IVec S136 32) (nu : IVec S1 32) (xs : FVec Ideal S69632x1024 .f32) (wg wu : FVec Ideal S8x1024x2816 .f32) (wd : FVec Ideal S8x2816x1024 .f32) : FVec Ideal S69632x1024 .f32 :=
  FIN nu (ALL te (XR xs) wg wu wd)

theorem REF_at (te : IVec S136 32) (nu : IVec S1 32) (xs : FVec Ideal S69632x1024 .f32) (wg wu : FVec Ideal S8x1024x2816 .f32) (wd : FVec Ideal S8x2816x1024 .f32) (hte : ∀ y, (te y).toNat < 8) (R : Fin 69632) (l : Fin 1024) :
    REF te nu xs wg wu wd (ix2 R l) = if IntOp.cmpi .slt (BitVec.ofNat 32 (R.val / 512)) (nu (ix1 0)) = 1#1 then
      ffn (fun k => xs (ix2 R k)) (fun f k => wg (ix3 ⟨(te (ix1 ⟨R.val / 512, by omega⟩)).toNat % 8, Nat.mod_lt _ (by decide)⟩ k f)) (fun f k => wu (ix3 ⟨(te (ix1 ⟨R.val / 512, by omega⟩)).toNat % 8, Nat.mod_lt _ (by decide)⟩ k f)) (fun f => wd (ix3 ⟨(te (ix1 ⟨R.val / 512, by omega⟩)).toNat % 8, Nat.mod_lt _ (by decide)⟩ f l)) else 0 := by
  unfold REF
  rw [FIN_at, ALL_at te (XR xs) wg wu wd _ _ l (hte _)]
  unfold one
  simp only [XR_at]

/-- The same by tile and row in it. -/
theorem REF_tile (te : IVec S136 32) (nu : IVec S1 32) (xs : FVec Ideal S69632x1024 .f32) (wg wu : FVec Ideal S8x1024x2816 .f32) (wd : FVec Ideal S8x2816x1024 .f32) (hte : ∀ y, (te y).toNat < 8) (i : Fin 136) (r : Fin 512) (l : Fin 1024) :
    REF te nu xs wg wu wd (ix2 (⟨i.val * 512 + r.val, by omega⟩ : Fin 69632) l) = if IntOp.cmpi .slt (BitVec.ofNat 32 i.val) (nu (ix1 0)) = 1#1 then
      ffn (fun k => xs (ix2 (⟨i.val * 512 + r.val, by omega⟩ : Fin 69632) k)) (fun f k => wg (ix3 ⟨(te (ix1 i)).toNat % 8, Nat.mod_lt _ (by decide)⟩ k f)) (fun f k => wu (ix3 ⟨(te (ix1 i)).toNat % 8, Nat.mod_lt _ (by decide)⟩ k f)) (fun f => wd (ix3 ⟨(te (ix1 i)).toNat % 8, Nat.mod_lt _ (by decide)⟩ f l)) else 0 := by
  rw [REF_at te nu xs wg wu wd hte]
  have e : (i.val * 512 + r.val) / 512 = i.val := by omega
  have e' : (⟨(i.val * 512 + r.val) / 512, by omega⟩ : Fin 136) = i := Fin.ext e
  simp only [e, e']

end Cert.Reference2Ideal.Hand

namespace Cert.Reference2Ideal.Hand

open Cert.Reference2Ideal Cert.Reference2Ideal.Gen

open Cert.Reference2Ideal.Value in
/-- The run's result is that one. -/
theorem res_eq (V0 : Valuation τ sig (Elt Ideal)) :
    res_main_v121 V0 = ALL (V0 (Proc.devRef .tc main_arg0)) (XR (V0 (Proc.devRef .tc main_arg2))) (V0 (Proc.devRef .tc main_arg3)) (V0 (Proc.devRef .tc main_arg4)) (V0 (Proc.devRef .tc main_arg5)) := by
  delta res_main_v121 res_main_v109 res_main_v94 res_main_v79 res_main_v64 res_main_v61 res_main_v49 res_main_v34 res_main_v19 res_main_v4 res_main_v0 ALL SEL EXP GG XR SW SD Z3
  rfl

end Cert.Reference2Ideal.Hand

end
-- ==== Proof.Moe.Value.lean ====
module

public import proofs.«01_k».proof.Proof.Moe.Kernel2Ideal.Frame
public import proofs.«01_k».proof.Proof.Moe.Kernel2Ideal.Ok
public import proofs.«01_k».proof.Proof.Moe.Pure
public import proofs.«01_k».proof.Proof.Moe.Ref
public import Idealize.ShloMosaic.Lib.Claim

/-! The array the experts' kernel leaves is the reference's. -/

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen Cert.Moe
open Cert.Reference2Ideal.Hand (REF REF_tile)

variable (m : (ℓ : Loc nD τ sig) → Buf (Elt Ideal) ℓ)

theorem coords_val : ∀ t : Fin grid0.N, (grid0.coords t 0).val = t.val := by decide +kernel
theorem idx_4 : ∀ t : Fin grid0.N, cc0_transform_4 (grid0.coords t) = ![t.val, 0] := by decide +kernel

theorem V_v0 (c : Dev nD) : V m c main_v0 = (truncf .bf16 (m ((c : Thread nD τ).loc main_arg3)) bitsLt_bf16_f32 : FVec Ideal S8x1024x2816 .bf16) := by
  simp only [V, hostOps0]
  entry_read
  rfl
theorem V_v1 (c : Dev nD) : V m c main_v1 = (truncf .bf16 (m ((c : Thread nD τ).loc main_arg4)) bitsLt_bf16_f32 : FVec Ideal S8x1024x2816 .bf16) := by
  simp only [V, hostOps0]
  entry_read
  rfl
theorem V_v2 (c : Dev nD) : V m c main_v2 = (truncf .bf16 (m ((c : Thread nD τ).loc main_arg5)) bitsLt_bf16_f32 : FVec Ideal S8x2816x1024 .bf16) := by
  simp only [V, hostOps0]
  entry_read
  rfl

theorem idx1 (hO : Ok m) (t : Fin grid0.N) : ((cfgM m hO).win 4).index t (1 : Fin 2) = 0 := congrFun (idx_4 t) 1

theorem covers (hO : Ok m) : ((cfgM m hO).win 4).Covers := by
  refine ⟨fun (a : Fin 2) => ?_, fun β => ?_⟩
  · match a with
    | 0 => show 0 < 512; omega
    | 1 => show 0 < 1024; omega
  · have h0 : (β (0 : Fin 2)).val < 136 := (β (0 : Fin 2)).isLt.trans_eq (show (69632 + 512 - 1) / 512 = 136 by decide)
    have h1 : (β (1 : Fin 2)).val < 1 := (β (1 : Fin 2)).isLt.trans_eq (show (1024 + 1024 - 1) / 1024 = 1 by decide)
    refine ⟨⟨(β (0 : Fin 2)).val, by rw [show (cfgM m hO).grid.N = 136 from N_0]; exact h0⟩, flush0_4 _ _, fun (a : Fin 2) => ?_⟩
    match a with
    | 0 => exact ⟨congrFun (idx_4 _) (0 : Fin 2), .inl rfl⟩
    | 1 =>
      exact ⟨(idx1 m hO _).trans (show 0 = (β (1 : Fin 2)).val by omega), .inl rfl⟩

variable (hO : Ok m) (c : Dev nD) (t : Fin (cfgM m hO).N)

theorem blk1 (e : Fin 8) (he : e.val = ((tbl m 0 : S136.Idx → BitVec 32) (ix1 (grid0.coords t 0))).toNat) (W : Vec Ideal S8x1024x2816 .bf16) (hW : V m c main_v0 = W) (k : Fin 1024) (f : Fin 2816) :
    (iblk m hO c 1 t : Vec Ideal S1x1024x2816 .bf16) (ix3 0 k f) = W (ix3 e k f) := by
  subst hW
  refine congrArg (V m c main_v0) (funext fun (a : Fin 3) => ?_)
  have h := t1_eq (tbl m) (grid0.coords t)
  match a with
  | 0 =>
    apply Fin.ext
    show cc0_transform_1 k0_off1_inb numel1_S1 (tbl m) (grid0.coords t) 0 * 1 + 1 * 0 = e.val
    rw [he]; have := congrFun h 0; simpa using this
  | 1 =>
    apply Fin.ext
    show cc0_transform_1 k0_off1_inb numel1_S1 (tbl m) (grid0.coords t) 1 * 1024 + 1 * k.val = k.val
    have h' : cc0_transform_1 k0_off1_inb numel1_S1 (tbl m) (grid0.coords t) 1 = 0 := congrFun h 1
    omega
  | 2 =>
    apply Fin.ext
    show cc0_transform_1 k0_off1_inb numel1_S1 (tbl m) (grid0.coords t) 2 * 2816 + 1 * f.val = f.val
    have h' : cc0_transform_1 k0_off1_inb numel1_S1 (tbl m) (grid0.coords t) 2 = 0 := congrFun h 2
    omega

theorem blk2 (e : Fin 8) (he : e.val = ((tbl m 0 : S136.Idx → BitVec 32) (ix1 (grid0.coords t 0))).toNat) (W : Vec Ideal S8x1024x2816 .bf16) (hW : V m c main_v1 = W) (k : Fin 1024) (f : Fin 2816) :
    (iblk m hO c 2 t : Vec Ideal S1x1024x2816 .bf16) (ix3 0 k f) = W (ix3 e k f) := by
  subst hW
  refine congrArg (V m c main_v1) (funext fun (a : Fin 3) => ?_)
  have h := t2_eq (tbl m) (grid0.coords t)
  match a with
  | 0 =>
    apply Fin.ext
    show cc0_transform_2 k0_off1_inb numel1_S1 (tbl m) (grid0.coords t) 0 * 1 + 1 * 0 = e.val
    rw [he]; have := congrFun h 0; simpa using this
  | 1 =>
    apply Fin.ext
    show cc0_transform_2 k0_off1_inb numel1_S1 (tbl m) (grid0.coords t) 1 * 1024 + 1 * k.val = k.val
    have h' : cc0_transform_2 k0_off1_inb numel1_S1 (tbl m) (grid0.coords t) 1 = 0 := congrFun h 1
    omega
  | 2 =>
    apply Fin.ext
    show cc0_transform_2 k0_off1_inb numel1_S1 (tbl m) (grid0.coords t) 2 * 2816 + 1 * f.val = f.val
    have h' : cc0_transform_2 k0_off1_inb numel1_S1 (tbl m) (grid0.coords t) 2 = 0 := congrFun h 2
    omega

theorem blk3 (e : Fin 8) (he : e.val = ((tbl m 0 : S136.Idx → BitVec 32) (ix1 (grid0.coords t 0))).toNat) (W : Vec Ideal S8x2816x1024 .bf16) (hW : V m c main_v2 = W) (f : Fin 2816) (l : Fin 1024) :
    (iblk m hO c 3 t : Vec Ideal S1x2816x1024 .bf16) (ix3 0 f l) = W (ix3 e f l) := by
  subst hW
  refine congrArg (V m c main_v2) (funext fun (a : Fin 3) => ?_)
  have h := t3_eq (tbl m) (grid0.coords t)
  match a with
  | 0 =>
    apply Fin.ext
    show cc0_transform_3 k0_off1_inb numel1_S1 (tbl m) (grid0.coords t) 0 * 1 + 1 * 0 = e.val
    rw [he]; have := congrFun h 0; simpa using this
  | 1 =>
    apply Fin.ext
    show cc0_transform_3 k0_off1_inb numel1_S1 (tbl m) (grid0.coords t) 1 * 2816 + 1 * f.val = f.val
    have h' : cc0_transform_3 k0_off1_inb numel1_S1 (tbl m) (grid0.coords t) 1 = 0 := congrFun h 1
    omega
  | 2 =>
    apply Fin.ext
    show cc0_transform_3 k0_off1_inb numel1_S1 (tbl m) (grid0.coords t) 2 * 1024 + 1 * l.val = l.val
    have h' : cc0_transform_3 k0_off1_inb numel1_S1 (tbl m) (grid0.coords t) 2 = 0 := congrFun h 2
    omega

theorem blk0 (i : Fin 136) (hi : i.val = (grid0.coords t 0).val) (hn1 : 1 ≤ (cnt m).toNat) (hn2 : (cnt m).toNat < 2 ^ 31) (hlt : i.val < (cnt m).toNat) (X : Vec Ideal S69632x1024 .f32) (hX : V m c main_arg2 = X) (r : Fin 512) (k : Fin 1024) :
    (iblk m hO c 0 t : Vec Ideal S512x1024 .f32) (ix2 r k) = X (ix2 ⟨i.val * 512 + r.val, by omega⟩ k) := by
  subst hX
  refine congrArg (V m c main_arg2) (funext fun (a : Fin 2) => ?_)
  have h := t0_eq (tbl m) (grid0.coords t) (Shape.Idx.first (by decide))
  have hr := row_word _ (grid0.coords t 0).isLt (cnt m) hn1 hn2
  match a with
  | 0 =>
    apply Fin.ext
    show cc0_transform_0 inb_S1_S1_0 numel1_S1 (tbl m) (grid0.coords t) 0 * 512 + 1 * r.val = i.val * 512 + r.val
    have h' : cc0_transform_0 inb_S1_S1_0 numel1_S1 (tbl m) (grid0.coords t) 0 = min (grid0.coords t 0).val ((cnt m).toNat - 1) := (congrFun h 0).trans hr
    omega
  | 1 =>
    apply Fin.ext
    show cc0_transform_0 inb_S1_S1_0 numel1_S1 (tbl m) (grid0.coords t) 1 * 1024 + 1 * k.val = k.val
    have h' : cc0_transform_0 inb_S1_S1_0 numel1_S1 (tbl m) (grid0.coords t) 1 = 0 := congrFun h 1
    omega

theorem slt_nat (k : ℕ) (hk : k < 136) (n : BitVec 32) (h2 : n.toNat < 2 ^ 31) (h : IntOp.cmpi .slt (BitVec.ofNat 32 k) n = 1#1) : k < n.toNat := by
  have a := slt_word _ _ h
  have e2 : (BitVec.ofNat 32 k).toNat = k := by simp; omega
  rw [BitVec.toInt_eq_toNat_of_lt (by omega), BitVec.toInt_eq_toNat_of_lt (by omega), e2] at a
  omega

attribute [local irreducible] REF out

theorem point (te : IVec S136 32) (nu : IVec S1 32) (xs : FVec Ideal S69632x1024 .f32) (wg wu : FVec Ideal S8x1024x2816 .f32) (wd : FVec Ideal S8x2816x1024 .f32)
    (e0 : tbl m 0 = te) (e1 : tbl m 1 = nu) (e2 : V m c main_arg2 = xs) (e3 : m ((c : Thread nD τ).loc main_arg3) = wg) (e4 : m ((c : Thread nD τ).loc main_arg4) = wu) (e5 : m ((c : Thread nD τ).loc main_arg5) = wd)
    (hte : ∀ y, (te y).toNat < 8) (hnu : ∀ y, 1 ≤ (nu y).toNat ∧ (nu y).toNat < 2 ^ 31) (i : Fin 136) (hi : i.val = (grid0.coords t 0).val) (r : Fin 512) (l : Fin 1024) :
    out (F := Ideal) (grid0.coords t) (cnt m) (iblk m hO c 0 t) (iblk m hO c 1 t) (iblk m hO c 2 t) (iblk m hO c 3 t) (ix2 r l)
      = REF te nu xs wg wu wd (ix2 (⟨i.val * 512 + r.val, by omega⟩ : Fin 69632) l) := by
  have en : nu (ix1 0) = cnt m := by rw [← e1, tbl_1]
  have ei : (grid0.coords t 0 : Fin 136) = i := Fin.ext hi.symm
  refine (out_at _ _ _ _ _ _ r l).trans ((?_ : _ = _).trans (REF_tile te nu xs wg wu wd hte i r l).symm)
  have hn := hnu (ix1 0)
  rw [en] at hn ⊢
  have hc : k0_cond1 (grid0.coords t) (cnt m) = 1#1 ↔ IntOp.cmpi .slt (BitVec.ofNat 32 i.val) (cnt m) = 1#1 := by
    rw [hi]; exact cond1_word _ _
  by_cases h : IntOp.cmpi .slt (BitVec.ofNat 32 i.val) (cnt m) = 1#1
  · rw [if_pos h, if_pos (hc.mpr h)]
    have he : (te (ix1 i)).toNat % 8 = ((tbl m 0 : S136.Idx → BitVec 32) (ix1 (grid0.coords t 0))).toNat := by
      rw [Nat.mod_eq_of_lt (hte _)]
      exact congrArg (fun y : S136.Idx → BitVec 32 => (y (ix1 i)).toNat) e0.symm |>.trans (congrArg (fun j : Fin 136 => ((tbl m 0 : S136.Idx → BitVec 32) (ix1 j)).toNat) ei.symm)
    exact ffn_congr (fun k => blk0 m hO c t i hi hn.1 hn.2 (slt_nat _ i.isLt _ hn.2 h) xs e2 r k)
      (fun f k => blk1 m hO c t _ he (truncf .bf16 wg bitsLt_bf16_f32) ((V_v0 m c).trans (by rw [e3])) k f)
      (fun f k => blk2 m hO c t _ he (truncf .bf16 wu bitsLt_bf16_f32) ((V_v1 m c).trans (by rw [e4])) k f)
      (fun f => blk3 m hO c t _ he (truncf .bf16 wd bitsLt_bf16_f32) ((V_v2 m c).trans (by rw [e5])) f l)
  · rw [if_neg h, if_neg (fun h' => h (hc.mp h'))]

theorem rd4 (X : FVec Ideal S69632x1024 .f32) (i : Fin 136) (hi : i.val = t.val) (r : Fin 512) (l : Fin 1024) :
    X ((((cfgM m hO).win 4).blk t).view.emb (ix2 r l : S512x1024.Idx)) = X (ix2 (⟨i.val * 512 + r.val, by omega⟩ : Fin 69632) l) := by
  refine congrArg X (funext fun (a : Fin 2) => ?_)
  match a with
  | 0 =>
    apply Fin.ext
    show cc0_transform_4 (grid0.coords t) 0 * 512 + 1 * r.val = i.val * 512 + r.val
    have h' : cc0_transform_4 (grid0.coords t) 0 = t.val := congrFun (idx_4 t) 0
    omega
  | 1 =>
    apply Fin.ext
    show cc0_transform_4 (grid0.coords t) 1 * 1024 + 1 * l.val = l.val
    have h' : cc0_transform_4 (grid0.coords t) 1 = 0 := congrFun (idx_4 t) 1
    omega

omit t in
theorem final (te : IVec S136 32) (nu : IVec S1 32) (xs : FVec Ideal S69632x1024 .f32) (wg wu : FVec Ideal S8x1024x2816 .f32) (wd : FVec Ideal S8x2816x1024 .f32)
    (e0 : tbl m 0 = te) (e1 : tbl m 1 = nu) (e2 : V m c main_arg2 = xs) (e3 : m ((c : Thread nD τ).loc main_arg3) = wg) (e4 : m ((c : Thread nD τ).loc main_arg4) = wu) (e5 : m ((c : Thread nD τ).loc main_arg5) = wd)
    (hte : ∀ y, (te y).toNat < 8) (hnu : ∀ y, 1 ≤ (nu y).toNat ∧ (nu y).toNat < 2 ^ 31) :
    (dats m hO 0 c).arrAt 4 (cfgM m hO).N = REF te nu xs wg wu wd := by
  refine (dats m hO 0 c).arrAt_eq_of_covers 4 _ (covers m hO) fun t _ y => ?_
  blk_simp
  rw [after0_4]
  obtain ⟨r, l, rfl⟩ : ∃ (r : Fin 512) (l : Fin 1024), y = ix2 r l := by
    refine ⟨y (0 : Fin 2), y (1 : Fin 2), funext fun (a : Fin 2) => ?_⟩
    match a with
    | 0 => rfl
    | 1 => rfl
  have hi : (grid0.coords t 0 : Fin 136).val = t.val := coords_val t
  exact (point m hO c t te nu xs wg wu wd e0 e1 e2 e3 e4 e5 hte hnu _ rfl r l).trans (rd4 m hO t (REF te nu xs wg wu wd) _ hi r l).symm

end Cert.Kernel2Ideal.Hand

end
-- ==== Proof.Moe.Algebraic.lean ====
module

public import proofs.«01_k».proof.Defs
public import proofs.«01_k».proof.Proof.Gen.Reference2Ideal.Run
public import proofs.«01_k».proof.Proof.Moe.Kernel2Ideal.Pre
public import proofs.«01_k».proof.Proof.Moe.Value
public import Idealize.ShloMosaic.Lib.Claim

/-! The experts' kernel computes what the reference computes, in exact arithmetic. -/

@[expose] public section

set_option maxRecDepth 16384

noncomputable section

open Idealize.ShloMosaic Idealize.ShloMosaic.TcCoe Idealize.SL.Sem

namespace Cert.Moe

open Cert.Kernel2Ideal.Hand (hok tbl_te tbl_nu final)
open Cert.Reference2Ideal.Hand (FIN REF)

attribute [local irreducible] Cert.Reference2Ideal.Hand.ALL Cert.Reference2Ideal.Hand.XR

section
open Cert.Kernel2Ideal Cert.Kernel2Ideal.Gen Cert.Kernel2Ideal.Hand
variable (m : (ℓ : Loc nD τ sig) → Buf (Elt Ideal) ℓ) (ρ : Dev nD → PrngReg)

/-- What a run of the kernel leaves: in the result array the reference's value, the arguments unchanged. -/
theorem kernel_run (hO : Ok m) (X : (c : Dev nD) → FVec Ideal S69632x1024 .f32) (hX : ∀ c, (dats m hO 0 c).arrAt 4 (cfgM m hO).N = X c) :
    θ_run defs (onTc (τ := τ) (main (F := Ideal))) ⟨m, fun _ => 0, ρ⟩ (fun r => ∀ c : Dev nD,
      r.2.mem ((c.tc : Thread nD τ).loc main_v3) = X c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 4).trans (hX c), h.2.1 c⟩) (θ_run_and (run_main m ρ hO) (frame m ρ hO))
end

theorem algebraic : Cert.algebraic_Kernel2Ideal_Reference2Ideal := fun m g m' g' hpre hagree => by
  have hr := in_range_of _ _ _ _ _ _ (hpre 0)
  have hf := final m (hok m hr.1 hr.2) 0 _ _ _ _ _ _ (tbl_te m) (tbl_nu m) (Cert.Kernel2Ideal.Hand.V_main_arg2 m 0) rfl rfl rfl hr.1 hr.2
  refine ⟨fun c => (Cert.Kernel2Ideal.Hand.dats m (hok m hr.1 hr.2) 0 c).arrAt 4 _, kernel_run m g (hok m hr.1 hr.2) _ fun c => rfl, ?_⟩
  refine (θ_run _ _ _).mono (fun r h c => ⟨(h c).1.trans ?_, (h c).2⟩) (Cert.Reference2Ideal.Value.run (F := Ideal) m' g')
  obtain rfl : c = 0 := Subsingleton.elim _ _
  obtain ⟨h0, h1, h2, h3, h4, h5⟩ := hagree 0
  refine (congrArg (FIN (m' (((0 : Dev Cert.Reference2Ideal.nD) : Thread Cert.Reference2Ideal.nD Cert.Reference2Ideal.τ).loc Cert.Reference2Ideal.main_arg1))) (Cert.Reference2Ideal.Hand.res_eq (StableHlo.launchContents m' 0))).trans ?_
  refine Eq.trans ?_ hf.symm
  rw [← h0, ← h1, ← h2, ← h3, ← h4, ← h5]
  rfl

end Cert.Moe

end
-- ==== Proof.Ffn.Ref.lean ====
module

public import proofs.«01_k».proof.Proof.Gen.Reference3Ideal
public import proofs.«01_k».proof.Proof.Gen.Reference3Ideal.Run
public import proofs.«01_k».proof.Proof.Moe.Spec

/-! What the dense layer's reference computes, at an index. -/

@[expose] public section

set_option maxRecDepth 16384

noncomputable section

open Idealize.ShloMosaic Idealize.ShloMosaic.TcCoe Idealize.SL.Sem

namespace Cert.Reference3Ideal.Hand

open Cert.Reference3Ideal Cert.Reference3Ideal.Gen Cert.Moe

/-- The product with a weight. -/
def GG (h : FVec Ideal S32768x1024 .f32) (w : FVec Ideal S1024x2816 .f32) : FVec Ideal S32768x2816 .f32 :=
  Host.dotGeneral dot_S32768x1024_S1024x2816_S32768x2816_1_0_0_1_n_n none h w

/-- Every row through the layer. -/
def YY (h : FVec Ideal S32768x1024 .f32) (wg wu : FVec Ideal S1024x2816 .f32) (wd : FVec Ideal S2816x1024 .f32) : FVec Ideal S32768x1024 .f32 :=
  Host.dotGeneral dot_S32768x2816_S2816x1024_S32768x1024_1_0_0_1_n_n none (mulf (mulf (GG h wg) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (GG h wg)))))) (GG h wu)) wd

/-- The residual and the gated layer, by batch and position. -/
def RES (x : FVec Ideal S32768x1024 .f32) (mo : FVec Ideal S8x6x1024 .f32) (Y : FVec Ideal S32768x1024 .f32) : FVec Ideal S8x4096x1024 .f32 :=
  addf (shapeCast _ x shapeCasts_S32768x1024_S8x4096x1024) (mulf (broadcastInDim S8x4096x1024 ![0, 1, 2] bcast_S8x1x1024_S8x4096x1024_0_1_2 (broadcastInDim S8x1x1024 ![0, 2] bcast_S8x1024_S8x1x1024_0_2 (shapeCast _ (extractStridedSlice S8x1x1024 ![0, 5, 0] mo slices_S8x6x1024_S8x1x1024_0_5_0) shapeCasts_S8x1x1024_S8x1024))) (shapeCast _ Y shapeCasts_S32768x1024_S8x4096x1024))

def FLAT (Z : FVec Ideal S8x4096x1024 .f32) : FVec Ideal S32768x1024 .f32 := shapeCast _ Z shapeCasts_S8x4096x1024_S32768x1024

theorem GG_at (h : FVec Ideal S32768x1024 .f32) (w : FVec Ideal S1024x2816 .f32) (R : Fin 32768) (f : Fin 2816) :
    GG h w (ix2 R f) = ∑ k : Fin 1024, h (ix2 R k) * w (ix2 k f) := by
  pointwise [GG]

attribute [local irreducible] GG

theorem YY_at (h : FVec Ideal S32768x1024 .f32) (wg wu : FVec Ideal S1024x2816 .f32) (wd : FVec Ideal S2816x1024 .f32) (R : Fin 32768) (l : Fin 1024) :
    YY h wg wu wd (ix2 R l) = ffn (fun k => h (ix2 R k)) (fun f k => wg (ix2 k f)) (fun f k => wu (ix2 k f)) (fun f => wd (ix2 f l)) := by
  pointwise [YY]
  unfold ffn gate Ideal.logistic
  exact Finset.sum_congr rfl fun f _ => by simp only [GG_at]

attribute [local irreducible] YY

theorem RES_at (x : FVec Ideal S32768x1024 .f32) (mo : FVec Ideal S8x6x1024 .f32) (Y : FVec Ideal S32768x1024 .f32) (b : Fin 8) (s : Fin 4096) (l : Fin 1024) :
    RES x mo Y (ix3 b s l) = (x (ix2 ⟨b.val * 4096 + s.val, by omega⟩ l) + mo (ix3 b 5 l) * Y (ix2 ⟨b.val * 4096 + s.val, by omega⟩ l) : EReal) := by
  pointwise [RES]

attribute [local irreducible] RES

theorem FLAT_at (Z : FVec Ideal S8x4096x1024 .f32) (R : Fin 32768) (l : Fin 1024) :
    FLAT Z (ix2 R l) = Z (ix3 (⟨R.val / 4096, by omega⟩ : Fin 8) (⟨R.val % 4096, by omega⟩ : Fin 4096) l) := by
  pointwise [FLAT]

attribute [local irreducible] FLAT

/-- What the reference computes. -/
def REF (h x : FVec Ideal S32768x1024 .f32) (mo : FVec Ideal S8x6x1024 .f32) (wg wu : FVec Ideal S1024x2816 .f32) (wd : FVec Ideal S2816x1024 .f32) : FVec Ideal S32768x1024 .f32 :=
  FLAT (RES x mo (YY h wg wu wd))

theorem REF_at (h x : FVec Ideal S32768x1024 .f32) (mo : FVec Ideal S8x6x1024 .f32) (wg wu : FVec Ideal S1024x2816 .f32) (wd : FVec Ideal S2816x1024 .f32) (R : Fin 32768) (l : Fin 1024) :
    REF h x mo wg wu wd (ix2 R l) = (x (ix2 R l) + mo (ix3 (⟨R.val / 4096, by omega⟩ : Fin 8) 5 l) * ffn (fun k => h (ix2 R k)) (fun f k => wg (ix2 k f)) (fun f k => wu (ix2 k f)) (fun f => wd (ix2 f l)) : EReal) := by
  unfold REF
  rw [FLAT_at, RES_at, ← YY_at]
  have e : (⟨R.val / 4096 * 4096 + R.val % 4096, by omega⟩ : Fin 32768) = R := Fin.ext (Nat.div_add_mod' _ _)
  exact congrArg (fun s : Fin 32768 => (x (ix2 s l) + mo (ix3 (⟨R.val / 4096, by omega⟩ : Fin 8) 5 l) * YY h wg wu wd (ix2 s l) : EReal)) e

end Cert.Reference3Ideal.Hand

end
-- ==== Proof.Ffn.Value.lean ====
module

public import proofs.«01_k».proof.Proof.Gen.Kernel3Ideal.Frame
public import proofs.«01_k».proof.Proof.Moe.Spec
public import proofs.«01_k».proof.Proof.Ffn.Ref
public import Idealize.ShloMosaic.Lib.Claim

/-! The array the dense layer's kernel leaves is the reference's. -/

@[expose] public section

set_option maxRecDepth 16384

noncomputable section

open Idealize.ShloMosaic Idealize.ShloMosaic.TcCoe Idealize.SL.Sem

namespace Cert.Kernel3Ideal.Hand

open Cert.Kernel3Ideal Cert.Kernel3Ideal.Gen Cert.Moe
open Cert.Reference3Ideal.Hand (REF REF_at)

theorem pay_at (v0 : FVec Ideal S512x1024 .f32) (mo : FVec Ideal S1x1x1024 .f32) (x : FVec Ideal S512x1024 .bf16) (g u : FVec Ideal S1024x1280 .bf16) (d : FVec Ideal S1280x1024 .bf16) (g' u' : FVec Ideal S1024x1536 .bf16) (d' : FVec Ideal S1536x1024 .bf16) (r : Fin 512) (l : Fin 1024) :
    k0_pay1 (F := Ideal) v0 (k0_pay2 (F := Ideal) mo x g u d g' u' d') (ix2 r l)
      = (v0 (ix2 r l) + mo (ix3 0 0 l) * ((∑ f : Fin 1280, gate (fun k => x (ix2 r k)) (fun k => g (ix2 k f)) (fun k => u (ix2 k f)) * d (ix2 f l))
        + ∑ f : Fin 1536, gate (fun k => x (ix2 r k)) (fun k => g' (ix2 k f)) (fun k => u' (ix2 k f)) * d' (ix2 f l)) : EReal) := by
  unfold gate
  pointwise [k0_pay1, k0_pay2]

theorem ldX_at {e : EltTy} (x : Vec Ideal S512x1024 e) (r : Fin 512) (k : Fin 1024) : View.ld x r0_0 (ix2 r k) = x (ix2 r k) := by
  refine congrArg x (funext fun a => ?_)
  match a with
  | 0 => apply Fin.ext; show 0 + 1 * r.val = r.val; omega
  | 1 => apply Fin.ext; show 0 + 1 * k.val = k.val; omega

theorem ldM_at (x : Vec Ideal S1x6x1024 .f32) (l : Fin 1024) : View.ld x r0_1 (ix3 0 0 l) = x (ix3 0 5 l) := by
  refine congrArg x (funext fun a => ?_)
  match a with
  | 0 => apply Fin.ext; show 0 + 1 * 0 = 0; omega
  | 1 => apply Fin.ext; show 5 + 1 * 0 = 5; omega
  | 2 => apply Fin.ext; show 0 + 1 * l.val = l.val; omega

theorem ldG0_at (x : Vec Ideal S1024x2816 .bf16) (k : Fin 1024) (f : Fin 1280) : View.ld x r0_2 (ix2 k f) = x (ix2 k ⟨f.val, by omega⟩) := by
  refine congrArg x (funext fun a => ?_)
  match a with
  | 0 => apply Fin.ext; show 0 + 1 * k.val = k.val; omega
  | 1 => apply Fin.ext; show 0 + 1 * f.val = f.val; omega

theorem ldG1_at (x : Vec Ideal S1024x2816 .bf16) (k : Fin 1024) (f : Fin 1536) : View.ld x r0_4 (ix2 k f) = x (ix2 k ⟨1280 + f.val, by omega⟩) := by
  refine congrArg x (funext fun a => ?_)
  match a with
  | 0 => apply Fin.ext; show 0 + 1 * k.val = k.val; omega
  | 1 => apply Fin.ext; show 1280 + 1 * f.val = 1280 + f.val; omega

theorem ldD0_at (x : Vec Ideal S2816x1024 .bf16) (f : Fin 1280) (l : Fin 1024) : View.ld x r0_3 (ix2 f l) = x (ix2 ⟨f.val, by omega⟩ l) := by
  refine congrArg x (funext fun a => ?_)
  match a with
  | 0 => apply Fin.ext; show 0 + 1 * f.val = f.val; omega
  | 1 => apply Fin.ext; show 0 + 1 * l.val = l.val; omega

theorem ldD1_at (x : Vec Ideal S2816x1024 .bf16) (f : Fin 1536) (l : Fin 1024) : View.ld x r0_5 (ix2 f l) = x (ix2 ⟨1280 + f.val, by omega⟩ l) := by
  refine congrArg x (funext fun a => ?_)
  match a with
  | 0 => apply Fin.ext; show 1280 + 1 * f.val = 1280 + f.val; omega
  | 1 => apply Fin.ext; show 0 + 1 * l.val = l.val; omega

theorem out_eq (p : Vec Ideal S512x1024 .f32) (r : Fin 512) (l : Fin 1024) : View.canon (Val := Elt Ideal) [⟨r0_0, p⟩] (ix2 r l) = p (ix2 r l) := by
  have h : (r0_0 : Rect S512x1024).emb (ix2 r l) = ix2 r l := by
    funext a
    match a with
    | 0 => apply Fin.ext; show 0 + 1 * r.val = r.val; omega
    | 1 => apply Fin.ext; show 0 + 1 * l.val = l.val; omega
  exact (congrArg (View.canon (Val := Elt Ideal) [⟨r0_0, p⟩]) h).symm.trans (View.canon_cons_emb r0_0 p [] (ix2 r l))

/-- The body's result at an index. -/
theorem out_at (x0 : FVec Ideal S512x1024 .bf16) (x1 : FVec Ideal S512x1024 .f32) (x2 : FVec Ideal S1x6x1024 .f32) (x3 x4 : FVec Ideal S1024x2816 .bf16) (x5 : FVec Ideal S2816x1024 .bf16) (r : Fin 512) (l : Fin 1024) :
    out0_6 (F := Ideal) x0 x1 x2 x3 x4 x5 (ix2 r l) = (x1 (ix2 r l) + x2 (ix3 0 5 l) * ffn (fun k => x0 (ix2 r k)) (fun f k => x3 (ix2 k f)) (fun f k => x4 (ix2 k f)) (fun f => x5 (ix2 f l)) : EReal) := by
  unfold out0_6
  refine (out_eq _ r l).trans ?_
  rw [pay_at, ffn_split]
  refine congrArg₂ (fun a b : EReal => a + b) (ldX_at (e := .f32) x1 r l) (congrArg₂ (fun a b : EReal => a * b) (ldM_at x2 l) (congrArg₂ (fun a b : EReal => a + b) (Finset.sum_congr rfl fun f _ => ?_) (Finset.sum_congr rfl fun f _ => ?_)))
  · exact congrArg₂ (fun a b : EReal => a * b) (gate_congr (fun k => ldX_at (e := .bf16) x0 r k) (fun k => ldG0_at x3 k f) (fun k => ldG0_at x4 k f)) (ldD0_at x5 f l)
  · exact congrArg₂ (fun a b : EReal => a * b) (gate_congr (fun k => ldX_at (e := .bf16) x0 r k) (fun k => ldG1_at x3 k f) (fun k => ldG1_at x4 k f)) (ldD1_at x5 f l)

variable (m : (ℓ : Loc nD τ sig) → Buf (Elt Ideal) ℓ)

theorem idx : ∀ t : Fin cfg0.N, win0_0.index t = ![t.val, 0] ∧ win0_1.index t = ![t.val, 0] ∧ win0_2.index t = ![t.val / 8, 0, 0]
    ∧ win0_3.index t = ![0, 0] ∧ win0_4.index t = ![0, 0] ∧ win0_5.index t = ![0, 0] ∧ win0_6.index t = ![t.val, 0] :=
  (by decide +kernel : ∀ t : Fin grid0.N, _)

theorem V_v0 (c : Dev nD) : V m c main_v0 = (truncf .bf16 (m ((c : Thread nD τ).loc main_arg0)) bitsLt_bf16_f32 : FVec Ideal S32768x1024 .bf16) := by
  simp only [V, hostOps0]
  entry_read
  rfl
theorem V_v1 (c : Dev nD) : V m c main_v1 = (truncf .bf16 (m ((c : Thread nD τ).loc main_arg3)) bitsLt_bf16_f32 : FVec Ideal S1024x2816 .bf16) := by
  simp only [V, hostOps0]
  entry_read
  rfl
theorem V_v2 (c : Dev nD) : V m c main_v2 = (truncf .bf16 (m ((c : Thread nD τ).loc main_arg4)) bitsLt_bf16_f32 : FVec Ideal S1024x2816 .bf16) := by
  simp only [V, hostOps0]
  entry_read
  rfl
theorem V_v3 (c : Dev nD) : V m c main_v3 = (truncf .bf16 (m ((c : Thread nD τ).loc main_arg5)) bitsLt_bf16_f32 : FVec Ideal S2816x1024 .bf16) := by
  simp only [V, hostOps0]
  entry_read
  rfl

variable (c : Dev nD) (t : Fin cfg0.N) (i : Fin 64) (hi : i.val = t.val)

include hi

theorem blk0 (X : Vec Ideal S32768x1024 .bf16) (hX : V m c main_v0 = X) (r : Fin 512) (k : Fin 1024) :
    (iblk m c 0 t : Vec Ideal S512x1024 .bf16) (ix2 r k) = X (ix2 ⟨i.val * 512 + r.val, by omega⟩ k) := by
  subst hX
  refine congrArg (V m c main_v0) (funext fun (a : Fin 2) => ?_)
  have h := (idx t).1
  match a with
  | 0 =>
    apply Fin.ext
    show win0_0.index t (0 : Fin 2) * 512 + 1 * r.val = i.val * 512 + r.val
    have h' : win0_0.index t (0 : Fin 2) = t.val := congrFun h 0
    omega
  | 1 =>
    apply Fin.ext
    show win0_0.index t (1 : Fin 2) * 1024 + 1 * k.val = k.val
    have h' : win0_0.index t (1 : Fin 2) = 0 := congrFun h 1
    omega

theorem blk1 (X : Vec Ideal S32768x1024 .f32) (hX : V m c main_arg1 = X) (r : Fin 512) (k : Fin 1024) :
    (iblk m c 1 t : Vec Ideal S512x1024 .f32) (ix2 r k) = X (ix2 ⟨i.val * 512 + r.val, by omega⟩ k) := by
  subst hX
  refine congrArg (V m c main_arg1) (funext fun (a : Fin 2) => ?_)
  have h := (idx t).2.1
  match a with
  | 0 =>
    apply Fin.ext
    show win0_1.index t (0 : Fin 2) * 512 + 1 * r.val = i.val * 512 + r.val
    have h' : win0_1.index t (0 : Fin 2) = t.val := congrFun h 0
    omega
  | 1 =>
    apply Fin.ext
    show win0_1.index t (1 : Fin 2) * 1024 + 1 * k.val = k.val
    have h' : win0_1.index t (1 : Fin 2) = 0 := congrFun h 1
    omega

theorem blk2 (X : Vec Ideal S8x6x1024 .f32) (hX : V m c main_arg2 = X) (l : Fin 1024) :
    (iblk m c 2 t : Vec Ideal S1x6x1024 .f32) (ix3 0 5 l) = X (ix3 ⟨i.val / 8, by omega⟩ 5 l) := by
  subst hX
  refine congrArg (V m c main_arg2) (funext fun (a : Fin 3) => ?_)
  have h := (idx t).2.2.1
  match a with
  | 0 =>
    apply Fin.ext
    show win0_2.index t (0 : Fin 3) * 1 + 1 * 0 = i.val / 8
    have h' : win0_2.index t (0 : Fin 3) = t.val / 8 := congrFun h 0
    omega
  | 1 =>
    apply Fin.ext
    show win0_2.index t (1 : Fin 3) * 6 + 1 * 5 = 5
    have h' : win0_2.index t (1 : Fin 3) = 0 := congrFun h 1
    omega
  | 2 =>
    apply Fin.ext
    show win0_2.index t (2 : Fin 3) * 1024 + 1 * l.val = l.val
    have h' : win0_2.index t (2 : Fin 3) = 0 := congrFun h 2
    omega

omit hi in
theorem blk3 (W : Vec Ideal S1024x2816 .bf16) (hW : V m c main_v1 = W) (k : Fin 1024) (f : Fin 2816) :
    (iblk m c 3 t : Vec Ideal S1024x2816 .bf16) (ix2 k f) = W (ix2 k f) := by
  subst hW
  refine congrArg (V m c main_v1) (funext fun (a : Fin 2) => ?_)
  have h := (idx t).2.2.2.1
  match a with
  | 0 =>
    apply Fin.ext
    show win0_3.index t (0 : Fin 2) * 1024 + 1 * k.val = k.val
    have h' : win0_3.index t (0 : Fin 2) = 0 := congrFun h 0
    omega
  | 1 =>
    apply Fin.ext
    show win0_3.index t (1 : Fin 2) * 2816 + 1 * f.val = f.val
    have h' : win0_3.index t (1 : Fin 2) = 0 := congrFun h 1
    omega

omit hi in
theorem blk4 (W : Vec Ideal S1024x2816 .bf16) (hW : V m c main_v2 = W) (k : Fin 1024) (f : Fin 2816) :
    (iblk m c 4 t : Vec Ideal S1024x2816 .bf16) (ix2 k f) = W (ix2 k f) := by
  subst hW
  refine congrArg (V m c main_v2) (funext fun (a : Fin 2) => ?_)
  have h := (idx t).2.2.2.2.1
  match a with
  | 0 =>
    apply Fin.ext
    show win0_4.index t (0 : Fin 2) * 1024 + 1 * k.val = k.val
    have h' : win0_4.index t (0 : Fin 2) = 0 := congrFun h 0
    omega
  | 1 =>
    apply Fin.ext
    show win0_4.index t (1 : Fin 2) * 2816 + 1 * f.val = f.val
    have h' : win0_4.index t (1 : Fin 2) = 0 := congrFun h 1
    omega

omit hi in
theorem blk5 (W : Vec Ideal S2816x1024 .bf16) (hW : V m c main_v3 = W) (f : Fin 2816) (l : Fin 1024) :
    (iblk m c 5 t : Vec Ideal S2816x1024 .bf16) (ix2 f l) = W (ix2 f l) := by
  subst hW
  refine congrArg (V m c main_v3) (funext fun (a : Fin 2) => ?_)
  have h := (idx t).2.2.2.2.2.1
  match a with
  | 0 =>
    apply Fin.ext
    show win0_5.index t (0 : Fin 2) * 2816 + 1 * f.val = f.val
    have h' : win0_5.index t (0 : Fin 2) = 0 := congrFun h 0
    omega
  | 1 =>
    apply Fin.ext
    show win0_5.index t (1 : Fin 2) * 1024 + 1 * l.val = l.val
    have h' : win0_5.index t (1 : Fin 2) = 0 := congrFun h 1
    omega

theorem rd6 (X : FVec Ideal S32768x1024 .f32) (r : Fin 512) (l : Fin 1024) :
    View.read (Elt Ideal) ((cfg0.win 6).blk t).view X (ix2 r l) = X (ix2 (⟨i.val * 512 + r.val, by omega⟩ : Fin 32768) l) := by
  refine congrArg X (funext fun (a : Fin 2) => ?_)
  have h := (idx t).2.2.2.2.2.2
  match a with
  | 0 =>
    apply Fin.ext
    show win0_6.index t (0 : Fin 2) * 512 + 1 * r.val = i.val * 512 + r.val
    have h' : win0_6.index t (0 : Fin 2) = t.val := congrFun h 0
    omega
  | 1 =>
    apply Fin.ext
    show win0_6.index t (1 : Fin 2) * 1024 + 1 * l.val = l.val
    have h' : win0_6.index t (1 : Fin 2) = 0 := congrFun h 1
    omega

attribute [local irreducible] REF out0_6

theorem point (h x : FVec Ideal S32768x1024 .f32) (mo : FVec Ideal S8x6x1024 .f32) (wg wu : FVec Ideal S1024x2816 .f32) (wd : FVec Ideal S2816x1024 .f32)
    (e0 : m ((c : Thread nD τ).loc main_arg0) = h) (e1 : V m c main_arg1 = x) (e2 : V m c main_arg2 = mo) (e3 : m ((c : Thread nD τ).loc main_arg3) = wg) (e4 : m ((c : Thread nD τ).loc main_arg4) = wu) (e5 : m ((c : Thread nD τ).loc main_arg5) = wd) (r : Fin 512) (l : Fin 1024) :
    out0_6 (F := Ideal) (iblk m c 0 t) (iblk m c 1 t) (iblk m c 2 t) (iblk m c 3 t) (iblk m c 4 t) (iblk m c 5 t) (ix2 r l)
      = REF h x mo wg wu wd (ix2 (⟨i.val * 512 + r.val, by omega⟩ : Fin 32768) l) := by
  refine (out_at _ _ _ _ _ _ r l).trans ((?_ : _ = _).trans (REF_at h x mo wg wu wd _ l).symm)
  have e : (⟨(i.val * 512 + r.val) / 4096, by omega⟩ : Fin 8) = ⟨i.val / 8, by omega⟩ := Fin.ext (by show (i.val * 512 + r.val) / 4096 = i.val / 8; omega)
  refine congrArg₂ (fun a b : EReal => a + b) (blk1 m c t i hi x e1 r l) (congrArg₂ (fun a b : EReal => a * b) ((blk2 m c t i hi mo e2 l).trans (congrArg (fun b : Fin 8 => mo (ix3 b 5 l)) e.symm)) ?_)
  exact ffn_congr (fun k => blk0 m c t i hi (truncf .bf16 h bitsLt_bf16_f32) ((V_v0 m c).trans (by rw [e0])) r k)
      (fun f k => blk3 m c t (truncf .bf16 wg bitsLt_bf16_f32) ((V_v1 m c).trans (by rw [e3])) k f)
      (fun f k => blk4 m c t (truncf .bf16 wu bitsLt_bf16_f32) ((V_v2 m c).trans (by rw [e4])) k f)
      (fun f => blk5 m c t (truncf .bf16 wd bitsLt_bf16_f32) ((V_v3 m c).trans (by rw [e5])) f l)

omit hi t i in
theorem final (h x : FVec Ideal S32768x1024 .f32) (mo : FVec Ideal S8x6x1024 .f32) (wg wu : FVec Ideal S1024x2816 .f32) (wd : FVec Ideal S2816x1024 .f32)
    (e0 : m ((c : Thread nD τ).loc main_arg0) = h) (e1 : V m c main_arg1 = x) (e2 : V m c main_arg2 = mo) (e3 : m ((c : Thread nD τ).loc main_arg3) = wg) (e4 : m ((c : Thread nD τ).loc main_arg4) = wu) (e5 : m ((c : Thread nD τ).loc main_arg5) = wd) :
    (dats m 0 c).arrAt 6 (cfgs 0).N = REF h x mo wg wu wd := by
  refine (dats m 0 c).arrAt_eq_of_covers 6 _ (by decide +kernel) fun t _ y => ?_
  blk_simp
  rw [after0_6]
  obtain ⟨r, l, rfl⟩ : ∃ (r : Fin 512) (l : Fin 1024), y = ix2 r l := by
    refine ⟨y (0 : Fin 2), y (1 : Fin 2), funext fun (a : Fin 2) => ?_⟩
    match a with
    | 0 => rfl
    | 1 => rfl
  have ht : t.val < 64 := t.isLt.trans_eq N_0
  exact (point m c t ⟨t.val, ht⟩ rfl h x mo wg wu wd e0 e1 e2 e3 e4 e5 r l).trans (rd6 t ⟨t.val, ht⟩ rfl (REF h x mo wg wu wd) r l).symm

end Cert.Kernel3Ideal.Hand

end
-- ==== Proof.Ffn.Algebraic.lean ====
module

public import proofs.«01_k».proof.Defs
public import proofs.«01_k».proof.Proof.Gen.Reference3Ideal.Run
public import proofs.«01_k».proof.Proof.Ffn.Value
public import Idealize.ShloMosaic.Lib.Claim

/-! The dense layer's kernel computes what the reference computes, in exact arithmetic. -/

@[expose] public section

set_option maxRecDepth 16384

noncomputable section

open Idealize.ShloMosaic Idealize.ShloMosaic.TcCoe Idealize.SL.Sem

namespace Cert.Ffn

theorem algebraic : Cert.algebraic_Kernel3Ideal_Reference3Ideal := by
  pair_intro
  · run_from Cert.Kernel3Ideal.Gen.run_main m g
  · run_from Cert.Reference3Ideal.Value.run (F := Ideal) m' g'
    obtain ⟨h0, h1, h2, h3, h4, h5⟩ := hagree c
    refine Eq.trans ?_ (Cert.Kernel3Ideal.Hand.final m c _ _ _ _ _ _ rfl (Cert.Kernel3Ideal.Gen.V_main_arg1 m c) (Cert.Kernel3Ideal.Gen.V_main_arg2 m c) rfl rfl rfl).symm
    rw [← h0, ← h1, ← h2, ← h3, ← h4, ← h5]
    rfl

end Cert.Ffn

end
-- ==== Proof.Out.Spec.lean ====
module

public import Idealize.ShloMosaic.Lib.Pipeline.ValueKit

/-! The normalization of a row, and of a row of three groups side by side. -/

@[expose] public section

noncomputable section

namespace Cert.Out

open Idealize.ShloMosaic

/-- An element of a row over the root of the row's mean square: `c` is one over the row's length. -/
def rn {n : Nat} (c : EReal) (f : Fin n → EReal) (k : Fin n) : EReal :=
  f k * Ideal.rsqrt ((∑ x, f x * f x) * c + Ideal.ofBits FTy.f32 897988541#32)

/-- Three groups side by side, each normalized apart and scaled by `g`. -/
def mrg (f0 : Fin 256 → EReal) (f1 : Fin 512 → EReal) (f2 : Fin 256 → EReal) (g : Fin 1024 → EReal) (k : Fin 1024) : EReal :=
  if h : k.val < 256 then rn (Ideal.ofBits FTy.f32 998244352#32) f0 ⟨k.val, h⟩ * g k
  else if h' : k.val - 256 < 512 then rn (Ideal.ofBits FTy.f32 989855744#32) f1 ⟨k.val - 256, h'⟩ * g k
  else rn (Ideal.ofBits FTy.f32 998244352#32) f2 ⟨k.val - 256 - 512, by omega⟩ * g k

/-- A row of the residual. -/
def xo (x m2 : EReal) (f0 : Fin 256 → EReal) (f1 : Fin 512 → EReal) (f2 : Fin 256 → EReal) (g w : Fin 1024 → EReal) : EReal :=
  x + m2 * ∑ k, mrg f0 f1 f2 g k * w k

theorem rn_congr {n : Nat} {c : EReal} {f f' : Fin n → EReal} (h : ∀ k, f k = f' k) (k : Fin n) : rn c f k = rn c f' k := by
  rw [funext h]

theorem xo_congr {x x' m2 m2' : EReal} {f0 f0' : Fin 256 → EReal} {f1 f1' : Fin 512 → EReal} {f2 f2' : Fin 256 → EReal} {g g' w w' : Fin 1024 → EReal}
    (hx : x = x') (hm : m2 = m2') (h0 : ∀ k, f0 k = f0' k) (h1 : ∀ k, f1 k = f1' k) (h2 : ∀ k, f2 k = f2' k) (hg : ∀ k, g k = g' k) (hw : ∀ k, w k = w' k) :
    xo x m2 f0 f1 f2 g w = xo x' m2' f0' f1' f2' g' w' := by
  rw [hx, hm, funext h0, funext h1, funext h2, funext hg, funext hw]

theorem c256 : Ideal.ofBits FTy.f32 1132462080#32 = ((256 : ℝ) : EReal) := by
  simp [Ideal.ofBits, Ideal.ieee, -EReal.coe_mul]
  norm_num
theorem c512 : Ideal.ofBits FTy.f32 1140850688#32 = ((512 : ℝ) : EReal) := by
  simp [Ideal.ofBits, Ideal.ieee, -EReal.coe_mul]
  norm_num
theorem c1024 : Ideal.ofBits FTy.f32 1149239296#32 = ((1024 : ℝ) : EReal) := by
  simp [Ideal.ofBits, Ideal.ieee, -EReal.coe_mul]
  norm_num
theorem i256 : Ideal.ofBits FTy.f32 998244352#32 = (((256 : ℝ)⁻¹ : ℝ) : EReal) := by
  simp [Ideal.ofBits, Ideal.ieee, -EReal.coe_mul]
  norm_num
theorem i512 : Ideal.ofBits FTy.f32 989855744#32 = (((512 : ℝ)⁻¹ : ℝ) : EReal) := by
  simp [Ideal.ofBits, Ideal.ieee, -EReal.coe_mul]
  norm_num
theorem i1024 : Ideal.ofBits FTy.f32 981467136#32 = (((1024 : ℝ)⁻¹ : ℝ) : EReal) := by
  simp [Ideal.ofBits, Ideal.ieee, -EReal.coe_mul]
  norm_num

theorem div_coe (a : EReal) (r : ℝ) (hr : r ≠ 0) : Ideal.div a (r : EReal) = a * ((r⁻¹ : ℝ) : EReal) := by
  unfold Ideal.div
  rw [if_neg (by exact_mod_cast hr)]
  rw [EReal.coe_inv]

theorem d256 (a : EReal) : Ideal.div a (Ideal.ofBits FTy.f32 1132462080#32) = a * Ideal.ofBits FTy.f32 998244352#32 := by
  rw [c256, i256]; exact div_coe a _ (by norm_num)
theorem d512 (a : EReal) : Ideal.div a (Ideal.ofBits FTy.f32 1140850688#32) = a * Ideal.ofBits FTy.f32 989855744#32 := by
  rw [c512, i512]; exact div_coe a _ (by norm_num)
theorem d1024 (a : EReal) : Ideal.div a (Ideal.ofBits FTy.f32 1149239296#32) = a * Ideal.ofBits FTy.f32 981467136#32 := by
  rw [c1024, i1024]; exact div_coe a _ (by norm_num)

end Cert.Out
end
-- ==== Proof.Out.Ref.lean ====
module

public import proofs.«01_k».proof.Proof.Gen.Reference4Ideal
public import proofs.«01_k».proof.Proof.Gen.Reference4Ideal.Run
public import proofs.«01_k».proof.Proof.Out.Spec

/-! What the output projection's reference computes, at an index. -/

@[expose] public section

set_option maxRecDepth 16384

noncomputable section

open Idealize.ShloMosaic Idealize.ShloMosaic.TcCoe Idealize.SL.Sem

namespace Cert.Reference4Ideal.Hand

open Cert.Reference4Ideal Cert.Reference4Ideal.Gen Cert.Out

def SB (a : FVec Ideal S8x256x4096 .f32) : FVec Ideal S8x4096x256 .f32 := transpose S8x4096x256 [0, 2, 1] a transposes_S8x256x4096_S8x4096x256_0_2_1
def ML (a : FVec Ideal S8x512x4096 .f32) : FVec Ideal S8x4096x512 .f32 := transpose S8x4096x512 [0, 2, 1] a transposes_S8x512x4096_S8x4096x512_0_2_1
def CK (a : FVec Ideal S8x32x256x128 .f32) : FVec Ideal S8x4096x256 .f32 := shapeCast _ (transpose S8x32x128x256 [0, 1, 3, 2] a transposes_S8x32x256x128_S8x32x128x256_0_1_3_2) shapeCasts_S8x32x128x256_S8x4096x256

/-- A group's normalization, 256 and 512 wide. -/
def N256 (X : FVec Ideal S8x4096x256 .f32) (g : FVec Ideal S256 .f32) : FVec Ideal S8x4096x256 .f32 :=
  mulf (mulf X (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf X X) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32)))))) (broadcastInDim S8x4096x256 ![0, 1, 2] bcast_S1x1x256_S8x4096x256_0_1_2 (broadcastInDim S1x1x256 ![2] bcast_S256_S1x1x256_2 g))
def N512 (X : FVec Ideal S8x4096x512 .f32) (g : FVec Ideal S512 .f32) : FVec Ideal S8x4096x512 .f32 :=
  mulf (mulf X (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf X X) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 g))

/-- The three groups side by side. -/
def MG (a : FVec Ideal S8x256x4096 .f32) (b : FVec Ideal S8x512x4096 .f32) (c : FVec Ideal S8x32x256x128 .f32) (g : FVec Ideal S1024 .f32) : FVec Ideal S8x4096x1024 .f32 :=
  concatenate S8x4096x1024 2 [⟨S8x4096x256, N256 (SB a) (extractStridedSlice S256 ![0] g slices_S1024_S256_0)⟩, ⟨S8x4096x512, N512 (ML b) (extractStridedSlice S512 ![256] g slices_S1024_S512_256)⟩, ⟨S8x4096x256, N256 (CK c) (extractStridedSlice S256 ![768] g slices_S1024_S256_768)⟩] concatenates_S8x4096x256_S8x4096x512_S8x4096x256_S8x4096x1024_d2

/-- The residual and the gated projection. -/
def XO (M : FVec Ideal S8x4096x1024 .f32) (x : FVec Ideal S32768x1024 .f32) (mo : FVec Ideal S8x6x1024 .f32) (w : FVec Ideal S1024x1024 .f32) : FVec Ideal S8x4096x1024 .f32 :=
  addf (shapeCast _ x shapeCasts_S32768x1024_S8x4096x1024) (mulf (broadcastInDim S8x4096x1024 ![0, 1, 2] bcast_S8x1x1024_S8x4096x1024_0_1_2 (broadcastInDim S8x1x1024 ![0, 2] bcast_S8x1024_S8x1x1024_0_2 (shapeCast _ (extractStridedSlice S1x8x1024 ![2, 0, 0] (transpose S6x8x1024 [1, 0, 2] mo transposes_S8x6x1024_S6x8x1024_1_0_2) slices_S6x8x1024_S1x8x1024_2_0_0) shapeCasts_S1x8x1024_S8x1024))) (Host.dotGeneral dot_S8x4096x1024_S1024x1024_S8x4096x1024_2_0_01_1_n_n none M w))

/-- The normalized, modulated input of the layer after it. -/
def HH (X : FVec Ideal S8x4096x1024 .f32) (mo : FVec Ideal S8x6x1024 .f32) (g : FVec Ideal S1024 .f32) : FVec Ideal S8x4096x1024 .f32 :=
  addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S1x8x1024 ![4, 0, 0] (transpose S6x8x1024 [1, 0, 2] mo transposes_S8x6x1024_S6x8x1024_1_0_2) slices_S6x8x1024_S1x8x1024_4_0_0) shapeCasts_S1x8x1024_S8x1024))))) (broadcastInDim S8x4096x1024 ![0, 1, 2] bcast_S8x1x1024_S8x4096x1024_0_1_2 (broadcastInDim S8x1x1024 ![0, 2] bcast_S8x1024_S8x1x1024_0_2 (shapeCast _ (extractStridedSlice S1x8x1024 ![3, 0, 0] (transpose S6x8x1024 [1, 0, 2] mo transposes_S8x6x1024_S6x8x1024_1_0_2) slices_S6x8x1024_S1x8x1024_3_0_0) shapeCasts_S1x8x1024_S8x1024)))

def FLAT (Z : FVec Ideal S8x4096x1024 .f32) : FVec Ideal S32768x1024 .f32 := shapeCast _ Z shapeCasts_S8x4096x1024_S32768x1024

def REFX (a : FVec Ideal S8x256x4096 .f32) (b : FVec Ideal S8x512x4096 .f32) (c : FVec Ideal S8x32x256x128 .f32) (x : FVec Ideal S32768x1024 .f32) (mo : FVec Ideal S8x6x1024 .f32) (g : FVec Ideal S1024 .f32) (w : FVec Ideal S1024x1024 .f32) : FVec Ideal S32768x1024 .f32 :=
  FLAT (XO (MG a b c g) x mo w)
def REFH (a : FVec Ideal S8x256x4096 .f32) (b : FVec Ideal S8x512x4096 .f32) (c : FVec Ideal S8x32x256x128 .f32) (x : FVec Ideal S32768x1024 .f32) (mo : FVec Ideal S8x6x1024 .f32) (g : FVec Ideal S1024 .f32) (w : FVec Ideal S1024x1024 .f32) (g' : FVec Ideal S1024 .f32) : FVec Ideal S32768x1024 .bf16 :=
  truncf .bf16 (FLAT (HH (XO (MG a b c g) x mo w) mo g')) bitsLt_bf16_f32

theorem res0 (m : (ℓ : Loc nD τ sig) → Buf (Elt Ideal) ℓ) (c : Dev nD) :
    Cert.Reference4Ideal.Value.res_main_v90 (F := Ideal) m c = REFX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
theorem res1 (m : (ℓ : Loc nD τ sig) → Buf (Elt Ideal) ℓ) (c : Dev nD) :
    Cert.Reference4Ideal.Value.res_main_v92 (F := Ideal) m c = REFH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem N256_at (X : FVec Ideal S8x4096x256 .f32) (g : FVec Ideal S256 .f32) (b : Fin 8) (s : Fin 4096) (k : Fin 256) :
    N256 X g (ix3 b s k) = (rn (Ideal.ofBits FTy.f32 998244352#32) (fun k => X (ix3 b s k)) k * g (ix1 k) : EReal) := by
  pointwise [N256]
  rw [d256]
  rfl

theorem N512_at (X : FVec Ideal S8x4096x512 .f32) (g : FVec Ideal S512 .f32) (b : Fin 8) (s : Fin 4096) (k : Fin 512) :
    N512 X g (ix3 b s k) = (rn (Ideal.ofBits FTy.f32 989855744#32) (fun k => X (ix3 b s k)) k * g (ix1 k) : EReal) := by
  pointwise [N512]
  rw [d512]
  rfl

theorem SB_at (a : FVec Ideal S8x256x4096 .f32) (b : Fin 8) (s : Fin 4096) (k : Fin 256) : SB a (ix3 b s k) = a (ix3 b k s) := by
  pointwise [SB]

theorem ML_at (a : FVec Ideal S8x512x4096 .f32) (b : Fin 8) (s : Fin 4096) (k : Fin 512) : ML a (ix3 b s k) = a (ix3 b k s) := by
  pointwise [ML]

theorem CK_at (a : FVec Ideal S8x32x256x128 .f32) (b : Fin 8) (s : Fin 4096) (k : Fin 256) :
    CK a (ix3 b s k) = a (ix4 b (⟨s.val / 128, by omega⟩ : Fin 32) k (⟨s.val % 128, by omega⟩ : Fin 128)) := by
  pointwise [CK]

theorem XO_at (M : FVec Ideal S8x4096x1024 .f32) (x : FVec Ideal S32768x1024 .f32) (mo : FVec Ideal S8x6x1024 .f32) (w : FVec Ideal S1024x1024 .f32) (b : Fin 8) (s : Fin 4096) (l : Fin 1024) :
    XO M x mo w (ix3 b s l) = (x (ix2 ⟨b.val * 4096 + s.val, by omega⟩ l) + mo (ix3 b 2 l) * ∑ k : Fin 1024, M (ix3 b s k) * w (ix2 k l) : EReal) := by
  pointwise [XO]

theorem HH_at (X : FVec Ideal S8x4096x1024 .f32) (mo : FVec Ideal S8x6x1024 .f32) (g : FVec Ideal S1024 .f32) (b : Fin 8) (s : Fin 4096) (l : Fin 1024) :
    HH X mo g (ix3 b s l) = (rn (Ideal.ofBits FTy.f32 981467136#32) (fun k => X (ix3 b s k)) l * g (ix1 l) * (1 + mo (ix3 b 4 l)) + mo (ix3 b 3 l) : EReal) := by
  pointwise [HH]
  rw [d1024]
  rfl

theorem FLAT_at (Z : FVec Ideal S8x4096x1024 .f32) (R : Fin 32768) (l : Fin 1024) :
    FLAT Z (ix2 R l) = Z (ix3 (⟨R.val / 4096, by omega⟩ : Fin 8) (⟨R.val % 4096, by omega⟩ : Fin 4096) l) := by
  pointwise [FLAT]

theorem G0_at (g : FVec Ideal S1024 .f32) (k : Fin 256) : (extractStridedSlice S256 ![0] g slices_S1024_S256_0 : FVec Ideal S256 .f32) (ix1 k) = g (ix1 ⟨k.val, by omega⟩) := by
  pointwise
theorem G1_at (g : FVec Ideal S1024 .f32) (k : Fin 512) : (extractStridedSlice S512 ![256] g slices_S1024_S512_256 : FVec Ideal S512 .f32) (ix1 k) = g (ix1 ⟨256 + k.val, by omega⟩) := by
  pointwise
theorem G2_at (g : FVec Ideal S1024 .f32) (k : Fin 256) : (extractStridedSlice S256 ![768] g slices_S1024_S256_768 : FVec Ideal S256 .f32) (ix1 k) = g (ix1 ⟨768 + k.val, by omega⟩) := by
  pointwise

attribute [local irreducible] N256 N512 CK SB ML XO HH FLAT

theorem MG_at (a : FVec Ideal S8x256x4096 .f32) (b : FVec Ideal S8x512x4096 .f32) (c : FVec Ideal S8x32x256x128 .f32) (g : FVec Ideal S1024 .f32) (i : Fin 8) (s : Fin 4096) (l : Fin 1024) :
    MG a b c g (ix3 i s l) = mrg (fun k => a (ix3 i k s)) (fun k => b (ix3 i k s)) (fun k => c (ix4 i (⟨s.val / 128, by omega⟩ : Fin 32) k (⟨s.val % 128, by omega⟩ : Fin 128))) (fun k => g (ix1 k)) l := by
  pointwise [MG]
  unfold mrg
  by_cases h : l.val < 256
  · rw [dif_pos h, dif_pos h, N256_at, G0_at]
    exact congrArg (fun z : EReal => z * g (ix1 l)) (rn_congr (fun k => SB_at a i s k) _)
  · rw [dif_neg h, dif_neg h]
    by_cases h' : l.val - 256 < 512
    · rw [dif_pos h', dif_pos h', N512_at, G1_at]
      have e : (⟨256 + (l.val - 256), by omega⟩ : Fin 1024) = l := Fin.ext (by show 256 + (l.val - 256) = l.val; omega)
      exact congrArg₂ (fun z t : EReal => z * t) (rn_congr (fun k => ML_at b i s k) _) (congrArg (fun k : Fin 1024 => g (ix1 k)) e)
    · rw [dif_neg h', dif_neg h', N256_at, G2_at]
      have e : (⟨768 + (l.val - 256 - 512), by omega⟩ : Fin 1024) = l := Fin.ext (by show 768 + (l.val - 256 - 512) = l.val; omega)
      exact congrArg₂ (fun z t : EReal => z * t) (rn_congr (fun k => CK_at c i s k) _) (congrArg (fun k : Fin 1024 => g (ix1 k)) e)

attribute [local irreducible] MG

/-- The residual's row, at a row of the whole. -/
def row (a : FVec Ideal S8x256x4096 .f32) (b : FVec Ideal S8x512x4096 .f32) (c : FVec Ideal S8x32x256x128 .f32) (x : FVec Ideal S32768x1024 .f32) (mo : FVec Ideal S8x6x1024 .f32) (g : FVec Ideal S1024 .f32) (w : FVec Ideal S1024x1024 .f32) (R : Fin 32768) (l : Fin 1024) : EReal :=
  xo (x (ix2 R l)) (mo (ix3 (⟨R.val / 4096, by omega⟩ : Fin 8) 2 l)) (fun k => a (ix3 (⟨R.val / 4096, by omega⟩ : Fin 8) k (⟨R.val % 4096, by omega⟩ : Fin 4096))) (fun k => b (ix3 (⟨R.val / 4096, by omega⟩ : Fin 8) k (⟨R.val % 4096, by omega⟩ : Fin 4096)))
    (fun k => c (ix4 (⟨R.val / 4096, by omega⟩ : Fin 8) (⟨R.val % 4096 / 128, by omega⟩ : Fin 32) k (⟨R.val % 4096 % 128, by omega⟩ : Fin 128))) (fun k => g (ix1 k)) (fun k => w (ix2 k l))

theorem XO_row (a : FVec Ideal S8x256x4096 .f32) (b : FVec Ideal S8x512x4096 .f32) (c : FVec Ideal S8x32x256x128 .f32) (x : FVec Ideal S32768x1024 .f32) (mo : FVec Ideal S8x6x1024 .f32) (g : FVec Ideal S1024 .f32) (w : FVec Ideal S1024x1024 .f32) (R : Fin 32768) (l : Fin 1024) :
    XO (MG a b c g) x mo w (ix3 (⟨R.val / 4096, by omega⟩ : Fin 8) (⟨R.val % 4096, by omega⟩ : Fin 4096) l) = row a b c x mo g w R l := by
  rw [XO_at]
  have e : (⟨R.val / 4096 * 4096 + R.val % 4096, by omega⟩ : Fin 32768) = R := Fin.ext (Nat.div_add_mod' _ _)
  unfold row xo
  refine congrArg₂ (fun p q : EReal => p + q) (congrArg (fun s : Fin 32768 => x (ix2 s l)) e) (congrArg (fun q : EReal => mo (ix3 (⟨R.val / 4096, by omega⟩ : Fin 8) 2 l) * q) (Finset.sum_congr rfl fun k _ => ?_))
  exact congrArg (fun q : EReal => q * w (ix2 k l)) (MG_at a b c g _ _ k)

theorem REFX_at (a : FVec Ideal S8x256x4096 .f32) (b : FVec Ideal S8x512x4096 .f32) (c : FVec Ideal S8x32x256x128 .f32) (x : FVec Ideal S32768x1024 .f32) (mo : FVec Ideal S8x6x1024 .f32) (g : FVec Ideal S1024 .f32) (w : FVec Ideal S1024x1024 .f32) (R : Fin 32768) (l : Fin 1024) :
    REFX a b c x mo g w (ix2 R l) = row a b c x mo g w R l := by
  unfold REFX
  rw [FLAT_at, XO_row]

theorem REFH_at (a : FVec Ideal S8x256x4096 .f32) (b : FVec Ideal S8x512x4096 .f32) (c : FVec Ideal S8x32x256x128 .f32) (x : FVec Ideal S32768x1024 .f32) (mo : FVec Ideal S8x6x1024 .f32) (g : FVec Ideal S1024 .f32) (w : FVec Ideal S1024x1024 .f32) (g' : FVec Ideal S1024 .f32) (R : Fin 32768) (l : Fin 1024) :
    REFH a b c x mo g w g' (ix2 R l) = (rn (Ideal.ofBits FTy.f32 981467136#32) (fun k => row a b c x mo g w R k) l * g' (ix1 l) * (1 + mo (ix3 (⟨R.val / 4096, by omega⟩ : Fin 8) 4 l)) + mo (ix3 (⟨R.val / 4096, by omega⟩ : Fin 8) 3 l) : EReal) := by
  unfold REFH
  refine (FLAT_at _ R l).trans ((HH_at _ mo g' _ _ l).trans ?_)
  exact congrArg (fun z : EReal => z * g' (ix1 l) * (1 + mo (ix3 (⟨R.val / 4096, by omega⟩ : Fin 8) 4 l)) + mo (ix3 (⟨R.val / 4096, by omega⟩ : Fin 8) 3 l)) (rn_congr (fun k => XO_row a b c x mo g w R k) l)

end Cert.Reference4Ideal.Hand

end
-- ==== Proof.Out.Value.lean ====
module

public import proofs.«01_k».proof.Proof.Gen.Kernel4Ideal.Frame
public import proofs.«01_k».proof.Proof.Out.Ref
public import Idealize.ShloMosaic.Lib.Claim

/-! The arrays the output projection's kernel leaves are the reference's. -/

@[expose] public section

set_option maxRecDepth 16384

noncomputable section

open Idealize.ShloMosaic Idealize.ShloMosaic.TcCoe Idealize.SL.Sem

namespace Cert.Kernel4Ideal.Hand

open Cert.Kernel4Ideal Cert.Kernel4Ideal.Gen Cert.Out
open Cert.Reference4Ideal.Hand (REFX REFX_at REFH REFH_at row)

theorem payX_at (g : FVec Ideal S1x1024 .f32) (v10 : FVec Ideal S256x512 .bf16) (o : FVec Ideal S1x256x512 .bf16) (ml : FVec Ideal S1x512x512 .bf16) (w : FVec Ideal S1024x1024 .bf16) (x : FVec Ideal S512x1024 .f32) (mo : FVec Ideal S1x1x1024 .f32) (r : Fin 512) (l : Fin 1024) :
    k0_pay6 (F := Ideal) (k0_pay2 (F := Ideal) g) v10 (k0_pay4 (F := Ideal) g o) (k0_pay5 (F := Ideal) ml) w x mo (ix2 r l)
      = xo (x (ix2 r l)) (mo (ix3 0 0 l)) (fun k => o (ix3 0 k r)) (fun k => ml (ix3 0 k r)) (fun k => v10 (ix2 k r)) (fun k => g (ix2 0 k)) (fun k => w (ix2 k l)) := by
  pointwise [k0_pay6, k0_pay2, k0_pay4, k0_pay5]
  unfold xo
  refine congrArg (fun z : EReal => x (ix2 r l) + mo (ix3 0 0 l) * z) (Finset.sum_congr rfl fun k _ => congrArg (fun z : EReal => z * w (ix2 k l)) ?_)
  unfold mrg
  by_cases h : k.val < 256
  · rw [dif_pos h, dif_pos h]
    rfl
  · rw [dif_neg h, dif_neg h]
    by_cases h' : k.val - 256 < 512
    · rw [dif_pos h', dif_pos h']
      have e : (⟨256 + (k.val - 256), by omega⟩ : Fin 1024) = k := Fin.ext (by show 256 + (k.val - 256) = k.val; omega)
      exact congrArg₂ (fun z t : EReal => z * t) rfl (congrArg (fun k : Fin 1024 => g (ix2 0 k)) e)
    · rw [dif_neg h', dif_neg h']
      have e : (⟨768 + (k.val - 256 - 512), by omega⟩ : Fin 1024) = k := Fin.ext (by show 768 + (k.val - 256 - 512) = k.val; omega)
      exact congrArg₂ (fun z t : EReal => z * t) rfl (congrArg (fun k : Fin 1024 => g (ix2 0 k)) e)

theorem payH_at (xn : FVec Ideal S512x1024 .f32) (g : FVec Ideal S1x1024 .f32) (a b : FVec Ideal S1x1x1024 .f32) (r : Fin 512) (l : Fin 1024) :
    k0_pay1 (F := Ideal) xn g a b (ix2 r l)
      = (rn (Ideal.ofBits FTy.f32 981467136#32) (fun k => xn (ix2 r k)) l * g (ix2 0 l) * (1 + a (ix3 0 0 l)) + b (ix3 0 0 l) : EReal) := by
  unfold rn
  pointwise [k0_pay1]

theorem ldG (x : Vec Ideal S1x1024 .f32) (k : Fin 1024) : View.ld x r0_0 (ix2 0 k) = x (ix2 0 k) := by
  refine congrArg x (funext fun a => ?_)
  match a with
  | 0 => apply Fin.ext; show 0 + 1 * 0 = 0; omega
  | 1 => apply Fin.ext; show 0 + 1 * k.val = k.val; omega

theorem ldC0 (x : Vec Ideal S1x4x256x128 .bf16) (k : Fin 256) (p : Fin 128) : View.ld x r0_1 (ix4 0 0 k p) = x (ix4 0 0 k p) := by
  refine congrArg x (funext fun a => ?_)
  match a with
  | 0 => apply Fin.ext; show 0 + 1 * 0 = 0; omega
  | 1 => apply Fin.ext; show 0 + 1 * 0 = 0; omega
  | 2 => apply Fin.ext; show 0 + 1 * k.val = k.val; omega
  | 3 => apply Fin.ext; show 0 + 1 * p.val = p.val; omega

theorem ldC1 (x : Vec Ideal S1x4x256x128 .bf16) (k : Fin 256) (p : Fin 128) : View.ld x r0_2 (ix4 0 0 k p) = x (ix4 0 1 k p) := by
  refine congrArg x (funext fun a => ?_)
  match a with
  | 0 => apply Fin.ext; show 0 + 1 * 0 = 0; omega
  | 1 => apply Fin.ext; show 1 + 1 * 0 = 1; omega
  | 2 => apply Fin.ext; show 0 + 1 * k.val = k.val; omega
  | 3 => apply Fin.ext; show 0 + 1 * p.val = p.val; omega

theorem ldC2 (x : Vec Ideal S1x4x256x128 .bf16) (k : Fin 256) (p : Fin 128) : View.ld x r0_3 (ix4 0 0 k p) = x (ix4 0 2 k p) := by
  refine congrArg x (funext fun a => ?_)
  match a with
  | 0 => apply Fin.ext; show 0 + 1 * 0 = 0; omega
  | 1 => apply Fin.ext; show 2 + 1 * 0 = 2; omega
  | 2 => apply Fin.ext; show 0 + 1 * k.val = k.val; omega
  | 3 => apply Fin.ext; show 0 + 1 * p.val = p.val; omega

theorem ldC3 (x : Vec Ideal S1x4x256x128 .bf16) (k : Fin 256) (p : Fin 128) : View.ld x r0_4 (ix4 0 0 k p) = x (ix4 0 3 k p) := by
  refine congrArg x (funext fun a => ?_)
  match a with
  | 0 => apply Fin.ext; show 0 + 1 * 0 = 0; omega
  | 1 => apply Fin.ext; show 3 + 1 * 0 = 3; omega
  | 2 => apply Fin.ext; show 0 + 1 * k.val = k.val; omega
  | 3 => apply Fin.ext; show 0 + 1 * p.val = p.val; omega

theorem ldS (x : Vec Ideal S1x256x512 .bf16) (k : Fin 256) (r : Fin 512) : View.ld x r0_5 (ix3 0 k r) = x (ix3 0 k r) := by
  refine congrArg x (funext fun a => ?_)
  match a with
  | 0 => apply Fin.ext; show 0 + 1 * 0 = 0; omega
  | 1 => apply Fin.ext; show 0 + 1 * k.val = k.val; omega
  | 2 => apply Fin.ext; show 0 + 1 * r.val = r.val; omega

theorem ldL (x : Vec Ideal S1x512x512 .bf16) (k : Fin 512) (r : Fin 512) : View.ld x r0_6 (ix3 0 k r) = x (ix3 0 k r) := by
  refine congrArg x (funext fun a => ?_)
  match a with
  | 0 => apply Fin.ext; show 0 + 1 * 0 = 0; omega
  | 1 => apply Fin.ext; show 0 + 1 * k.val = k.val; omega
  | 2 => apply Fin.ext; show 0 + 1 * r.val = r.val; omega

theorem ldW (x : Vec Ideal S1024x1024 .bf16) (k l : Fin 1024) : View.ld x r0_7 (ix2 k l) = x (ix2 k l) := by
  refine congrArg x (funext fun a => ?_)
  match a with
  | 0 => apply Fin.ext; show 0 + 1 * k.val = k.val; omega
  | 1 => apply Fin.ext; show 0 + 1 * l.val = l.val; omega

theorem ldX (x : Vec Ideal S512x1024 .f32) (r : Fin 512) (l : Fin 1024) : View.ld x r0_8 (ix2 r l) = x (ix2 r l) := by
  refine congrArg x (funext fun a => ?_)
  match a with
  | 0 => apply Fin.ext; show 0 + 1 * r.val = r.val; omega
  | 1 => apply Fin.ext; show 0 + 1 * l.val = l.val; omega

theorem ldM2 (x : Vec Ideal S1x6x1024 .f32) (l : Fin 1024) : View.ld x r0_9 (ix3 0 0 l) = x (ix3 0 2 l) := by
  refine congrArg x (funext fun a => ?_)
  match a with
  | 0 => apply Fin.ext; show 0 + 1 * 0 = 0; omega
  | 1 => apply Fin.ext; show 2 + 1 * 0 = 2; omega
  | 2 => apply Fin.ext; show 0 + 1 * l.val = l.val; omega

theorem ldM4 (x : Vec Ideal S1x6x1024 .f32) (l : Fin 1024) : View.ld x r0_10 (ix3 0 0 l) = x (ix3 0 4 l) := by
  refine congrArg x (funext fun a => ?_)
  match a with
  | 0 => apply Fin.ext; show 0 + 1 * 0 = 0; omega
  | 1 => apply Fin.ext; show 4 + 1 * 0 = 4; omega
  | 2 => apply Fin.ext; show 0 + 1 * l.val = l.val; omega

theorem ldM3 (x : Vec Ideal S1x6x1024 .f32) (l : Fin 1024) : View.ld x r0_11 (ix3 0 0 l) = x (ix3 0 3 l) := by
  refine congrArg x (funext fun a => ?_)
  match a with
  | 0 => apply Fin.ext; show 0 + 1 * 0 = 0; omega
  | 1 => apply Fin.ext; show 3 + 1 * 0 = 3; omega
  | 2 => apply Fin.ext; show 0 + 1 * l.val = l.val; omega

theorem pay3_at (x : Vec Ideal S1x4x256x128 .bf16) (k : Fin 256) (r : Fin 512) :
    k0_pay3 (F := Ideal) (View.ld x r0_1) (View.ld x r0_2) (View.ld x r0_3) (View.ld x r0_4) (ix2 k r) = x (ix4 0 (⟨r.val / 128, by omega⟩ : Fin 4) k (⟨r.val % 128, by omega⟩ : Fin 128)) := by
  generalize ha : View.ld x r0_1 = a
  generalize hb : View.ld x r0_2 = b
  generalize hc : View.ld x r0_3 = c
  generalize hd : View.ld x r0_4 = d
  pointwise [k0_pay3]
  subst ha hb hc hd
  by_cases h0 : r.val < 128
  · rw [dif_pos h0, ldC0]
    exact congrArg₂ (fun (q : Fin 4) (p : Fin 128) => x (ix4 0 q k p)) (Fin.ext (by show 0 = r.val / 128; omega)) (Fin.ext (by show r.val = r.val % 128; omega))
  rw [dif_neg h0]
  by_cases h1 : r.val - 128 < 128
  · rw [dif_pos h1, ldC1]
    exact congrArg₂ (fun (q : Fin 4) (p : Fin 128) => x (ix4 0 q k p)) (Fin.ext (by show 1 = r.val / 128; omega)) (Fin.ext (by show r.val - 128 = r.val % 128; omega))
  rw [dif_neg h1]
  by_cases h2 : r.val - 128 - 128 < 128
  · rw [dif_pos h2, ldC2]
    exact congrArg₂ (fun (q : Fin 4) (p : Fin 128) => x (ix4 0 q k p)) (Fin.ext (by show 2 = r.val / 128; omega)) (Fin.ext (by show r.val - 128 - 128 = r.val % 128; omega))
  · rw [dif_neg h2, ldC3]
    exact congrArg₂ (fun (q : Fin 4) (p : Fin 128) => x (ix4 0 q k p)) (Fin.ext (by show 3 = r.val / 128; omega)) (Fin.ext (by show r.val - 128 - 128 - 128 = r.val % 128; omega))

theorem out_eq {e : EltTy} (p : Vec Ideal S512x1024 e) (r : Fin 512) (l : Fin 1024) : View.canon (Val := Elt Ideal) [⟨r0_8, p⟩] (ix2 r l) = p (ix2 r l) := by
  have h : (r0_8 : Rect S512x1024).emb (ix2 r l) = ix2 r l := by
    funext a
    match a with
    | 0 => apply Fin.ext; show 0 + 1 * r.val = r.val; omega
    | 1 => apply Fin.ext; show 0 + 1 * l.val = l.val; omega
  exact (congrArg (View.canon (Val := Elt Ideal) [⟨r0_8, p⟩]) h).symm.trans (View.canon_cons_emb r0_8 p [] (ix2 r l))

/-- A block's row of the residual. -/
def brow (x0 : FVec Ideal S1x256x512 .bf16) (x1 : FVec Ideal S1x512x512 .bf16) (x2 : FVec Ideal S1x4x256x128 .bf16) (x3 : FVec Ideal S512x1024 .f32) (x4 : FVec Ideal S1x6x1024 .f32) (x5 : FVec Ideal S1x1024 .f32) (x6 : FVec Ideal S1024x1024 .bf16) (r : Fin 512) (l : Fin 1024) : EReal :=
  xo (x3 (ix2 r l)) (x4 (ix3 0 2 l)) (fun k => x0 (ix3 0 k r)) (fun k => x1 (ix3 0 k r)) (fun k => x2 (ix4 0 (⟨r.val / 128, by omega⟩ : Fin 4) k (⟨r.val % 128, by omega⟩ : Fin 128))) (fun k => x5 (ix2 0 k)) (fun k => x6 (ix2 k l))

theorem pay_brow (x0 : FVec Ideal S1x256x512 .bf16) (x1 : FVec Ideal S1x512x512 .bf16) (x2 : FVec Ideal S1x4x256x128 .bf16) (x3 : FVec Ideal S512x1024 .f32) (x4 : FVec Ideal S1x6x1024 .f32) (x5 : FVec Ideal S1x1024 .f32) (x6 : FVec Ideal S1024x1024 .bf16) (x7 : FVec Ideal S1x1024 .f32) (r : Fin 512) (l : Fin 1024) :
    k0_pay6 (F := Ideal) (k0_pay7 x0 x1 x2 x3 x4 x5 x6 x7) (k0_pay8 x0 x1 x2 x3 x4 x5 x6 x7) (k0_pay9 x0 x1 x2 x3 x4 x5 x6 x7) (k0_pay10 x0 x1 x2 x3 x4 x5 x6 x7) (View.ld x6 r0_7) (View.ld x3 r0_8) (View.ld x4 r0_9) (ix2 r l) = brow x0 x1 x2 x3 x4 x5 x6 r l := by
  unfold k0_pay7 k0_pay8 k0_pay9 k0_pay10 brow
  refine (payX_at _ _ _ _ _ _ _ r l).trans ?_
  exact xo_congr (ldX x3 r l) (ldM2 x4 l) (fun k => ldS x0 k r) (fun k => ldL x1 k r) (fun k => pay3_at x2 k r) (fun k => ldG x5 k) (fun k => ldW x6 k l)

theorem outX_at (x0 : FVec Ideal S1x256x512 .bf16) (x1 : FVec Ideal S1x512x512 .bf16) (x2 : FVec Ideal S1x4x256x128 .bf16) (x3 : FVec Ideal S512x1024 .f32) (x4 : FVec Ideal S1x6x1024 .f32) (x5 : FVec Ideal S1x1024 .f32) (x6 : FVec Ideal S1024x1024 .bf16) (x7 : FVec Ideal S1x1024 .f32) (r : Fin 512) (l : Fin 1024) :
    out0_8 (F := Ideal) x0 x1 x2 x3 x4 x5 x6 x7 (ix2 r l) = brow x0 x1 x2 x3 x4 x5 x6 r l := by
  unfold out0_8
  exact (out_eq (e := .f32) _ r l).trans (pay_brow x0 x1 x2 x3 x4 x5 x6 x7 r l)

theorem outH_at (x0 : FVec Ideal S1x256x512 .bf16) (x1 : FVec Ideal S1x512x512 .bf16) (x2 : FVec Ideal S1x4x256x128 .bf16) (x3 : FVec Ideal S512x1024 .f32) (x4 : FVec Ideal S1x6x1024 .f32) (x5 : FVec Ideal S1x1024 .f32) (x6 : FVec Ideal S1024x1024 .bf16) (x7 : FVec Ideal S1x1024 .f32) (r : Fin 512) (l : Fin 1024) :
    out0_9 (F := Ideal) x0 x1 x2 x3 x4 x5 x6 x7 (ix2 r l) = (rn (Ideal.ofBits FTy.f32 981467136#32) (fun k => brow x0 x1 x2 x3 x4 x5 x6 r k) l * x7 (ix2 0 l) * (1 + x4 (ix3 0 4 l)) + x4 (ix3 0 3 l) : EReal) := by
  unfold out0_9
  refine (out_eq (e := .bf16) _ r l).trans ((payH_at _ _ _ _ r l).trans ?_)
  exact congrArg₂ (fun p q : EReal => p + q) (congrArg₂ (fun p q : EReal => p * q) (congrArg₂ (fun p q : EReal => p * q) (rn_congr (fun k => pay_brow x0 x1 x2 x3 x4 x5 x6 x7 r k) l) (ldG x7 l)) (congrArg (fun q : EReal => 1 + q) (ldM4 x4 l))) (ldM3 x4 l)

variable (m : (ℓ : Loc nD τ sig) → Buf (Elt Ideal) ℓ)

theorem idx : ∀ t : Fin cfg0.N, win0_0.index t = ![t.val / 8, 0, t.val % 8] ∧ win0_1.index t = ![t.val / 8, 0, t.val % 8] ∧ win0_2.index t = ![t.val / 8, t.val % 8, 0, 0]
    ∧ win0_3.index t = ![t.val, 0] ∧ win0_4.index t = ![t.val / 8, 0, 0] ∧ win0_5.index t = ![0, 0] ∧ win0_6.index t = ![0, 0] ∧ win0_7.index t = ![0, 0]
    ∧ win0_8.index t = ![t.val, 0] ∧ win0_9.index t = ![t.val, 0] :=
  (by decide +kernel : ∀ t : Fin grid0.N, _)

theorem V_v0 (c : Dev nD) : V m c main_v0 = (truncf .bf16 (m ((c : Thread nD τ).loc main_arg0)) bitsLt_bf16_f32 : FVec Ideal S8x256x4096 .bf16) := by
  simp only [V, hostOps0]
  entry_read
  rfl
theorem V_v1 (c : Dev nD) : V m c main_v1 = (truncf .bf16 (m ((c : Thread nD τ).loc main_arg1)) bitsLt_bf16_f32 : FVec Ideal S8x512x4096 .bf16) := by
  simp only [V, hostOps0]
  entry_read
  rfl
theorem V_v2 (c : Dev nD) : V m c main_v2 = (truncf .bf16 (m ((c : Thread nD τ).loc main_arg2)) bitsLt_bf16_f32 : FVec Ideal S8x32x256x128 .bf16) := by
  simp only [V, hostOps0]
  entry_read
  rfl
theorem V_v4 (c : Dev nD) : V m c main_v4 = (truncf .bf16 (m ((c : Thread nD τ).loc main_arg6)) bitsLt_bf16_f32 : FVec Ideal S1024x1024 .bf16) := by
  simp only [V, hostOps0]
  entry_read
  rfl
theorem V_v3 (c : Dev nD) : V m c main_v3 = (shapeCast S1x1024 (m ((c : Thread nD τ).loc main_arg5)) shapeCasts_S1024_S1x1024 : FVec Ideal S1x1024 .f32) := by
  simp only [V, hostOps0]
  entry_read
  rfl
theorem V_v5 (c : Dev nD) : V m c main_v5 = (shapeCast S1x1024 (m ((c : Thread nD τ).loc main_arg7)) shapeCasts_S1024_S1x1024 : FVec Ideal S1x1024 .f32) := by
  simp only [V, hostOps0]
  entry_read
  rfl

theorem row_at (g : FVec Ideal S1024 .f32) (k : Fin 1024) : (shapeCast S1x1024 g shapeCasts_S1024_S1x1024 : FVec Ideal S1x1024 .f32) (ix2 0 k) = g (ix1 k) := by
  pointwise

variable (c : Dev nD) (t : Fin cfg0.N) (i : Fin 64) (hi : i.val = t.val)

include hi

theorem blk0 (X : Vec Ideal S8x256x4096 .bf16) (hX : V m c main_v0 = X) (k : Fin 256) (r : Fin 512) :
    (iblk m c 0 t : Vec Ideal S1x256x512 .bf16) (ix3 0 k r) = X (ix3 (⟨i.val / 8, by omega⟩ : Fin 8) k (⟨i.val % 8 * 512 + r.val, by omega⟩ : Fin 4096)) := by
  subst hX
  refine congrArg (V m c main_v0) (funext fun (a : Fin 3) => ?_)
  have h := (idx t).1
  match a with
  | 0 =>
    apply Fin.ext
    show win0_0.index t (0 : Fin 3) * 1 + 1 * 0 = i.val / 8
    have h' : win0_0.index t (0 : Fin 3) = t.val / 8 := congrFun h 0
    omega
  | 1 =>
    apply Fin.ext
    show win0_0.index t (1 : Fin 3) * 256 + 1 * k.val = k.val
    have h' : win0_0.index t (1 : Fin 3) = 0 := congrFun h 1
    omega
  | 2 =>
    apply Fin.ext
    show win0_0.index t (2 : Fin 3) * 512 + 1 * r.val = i.val % 8 * 512 + r.val
    have h' : win0_0.index t (2 : Fin 3) = t.val % 8 := congrFun h 2
    omega

theorem blk1 (X : Vec Ideal S8x512x4096 .bf16) (hX : V m c main_v1 = X) (k : Fin 512) (r : Fin 512) :
    (iblk m c 1 t : Vec Ideal S1x512x512 .bf16) (ix3 0 k r) = X (ix3 (⟨i.val / 8, by omega⟩ : Fin 8) k (⟨i.val % 8 * 512 + r.val, by omega⟩ : Fin 4096)) := by
  subst hX
  refine congrArg (V m c main_v1) (funext fun (a : Fin 3) => ?_)
  have h := (idx t).2.1
  match a with
  | 0 =>
    apply Fin.ext
    show win0_1.index t (0 : Fin 3) * 1 + 1 * 0 = i.val / 8
    have h' : win0_1.index t (0 : Fin 3) = t.val / 8 := congrFun h 0
    omega
  | 1 =>
    apply Fin.ext
    show win0_1.index t (1 : Fin 3) * 512 + 1 * k.val = k.val
    have h' : win0_1.index t (1 : Fin 3) = 0 := congrFun h 1
    omega
  | 2 =>
    apply Fin.ext
    show win0_1.index t (2 : Fin 3) * 512 + 1 * r.val = i.val % 8 * 512 + r.val
    have h' : win0_1.index t (2 : Fin 3) = t.val % 8 := congrFun h 2
    omega

theorem blk2 (X : Vec Ideal S8x32x256x128 .bf16) (hX : V m c main_v2 = X) (q : Fin 4) (k : Fin 256) (p : Fin 128) :
    (iblk m c 2 t : Vec Ideal S1x4x256x128 .bf16) (ix4 0 q k p) = X (ix4 (⟨i.val / 8, by omega⟩ : Fin 8) (⟨i.val % 8 * 4 + q.val, by omega⟩ : Fin 32) k p) := by
  subst hX
  refine congrArg (V m c main_v2) (funext fun (a : Fin 4) => ?_)
  have h := (idx t).2.2.1
  match a with
  | 0 =>
    apply Fin.ext
    show win0_2.index t (0 : Fin 4) * 1 + 1 * 0 = i.val / 8
    have h' : win0_2.index t (0 : Fin 4) = t.val / 8 := congrFun h 0
    omega
  | 1 =>
    apply Fin.ext
    show win0_2.index t (1 : Fin 4) * 4 + 1 * q.val = i.val % 8 * 4 + q.val
    have h' : win0_2.index t (1 : Fin 4) = t.val % 8 := congrFun h 1
    omega
  | 2 =>
    apply Fin.ext
    show win0_2.index t (2 : Fin 4) * 256 + 1 * k.val = k.val
    have h' : win0_2.index t (2 : Fin 4) = 0 := congrFun h 2
    omega
  | 3 =>
    apply Fin.ext
    show win0_2.index t (3 : Fin 4) * 128 + 1 * p.val = p.val
    have h' : win0_2.index t (3 : Fin 4) = 0 := congrFun h 3
    omega

theorem blk3 (X : Vec Ideal S32768x1024 .f32) (hX : V m c main_arg3 = X) (r : Fin 512) (l : Fin 1024) :
    (iblk m c 3 t : Vec Ideal S512x1024 .f32) (ix2 r l) = X (ix2 (⟨i.val * 512 + r.val, by omega⟩ : Fin 32768) l) := by
  subst hX
  refine congrArg (V m c main_arg3) (funext fun (a : Fin 2) => ?_)
  have h := (idx t).2.2.2.1
  match a with
  | 0 =>
    apply Fin.ext
    show win0_3.index t (0 : Fin 2) * 512 + 1 * r.val = i.val * 512 + r.val
    have h' : win0_3.index t (0 : Fin 2) = t.val := congrFun h 0
    omega
  | 1 =>
    apply Fin.ext
    show win0_3.index t (1 : Fin 2) * 1024 + 1 * l.val = l.val
    have h' : win0_3.index t (1 : Fin 2) = 0 := congrFun h 1
    omega

theorem blk4 (X : Vec Ideal S8x6x1024 .f32) (hX : V m c main_arg4 = X) (q : Fin 6) (l : Fin 1024) :
    (iblk m c 4 t : Vec Ideal S1x6x1024 .f32) (ix3 0 q l) = X (ix3 (⟨i.val / 8, by omega⟩ : Fin 8) q l) := by
  subst hX
  refine congrArg (V m c main_arg4) (funext fun (a : Fin 3) => ?_)
  have h := (idx t).2.2.2.2.1
  match a with
  | 0 =>
    apply Fin.ext
    show win0_4.index t (0 : Fin 3) * 1 + 1 * 0 = i.val / 8
    have h' : win0_4.index t (0 : Fin 3) = t.val / 8 := congrFun h 0
    omega
  | 1 =>
    apply Fin.ext
    show win0_4.index t (1 : Fin 3) * 6 + 1 * q.val = q.val
    have h' : win0_4.index t (1 : Fin 3) = 0 := congrFun h 1
    omega
  | 2 =>
    apply Fin.ext
    show win0_4.index t (2 : Fin 3) * 1024 + 1 * l.val = l.val
    have h' : win0_4.index t (2 : Fin 3) = 0 := congrFun h 2
    omega

omit hi in
theorem blk5 (X : Vec Ideal S1x1024 .f32) (hX : V m c main_v3 = X) (l : Fin 1024) :
    (iblk m c 5 t : Vec Ideal S1x1024 .f32) (ix2 0 l) = X (ix2 0 l) := by
  subst hX
  refine congrArg (V m c main_v3) (funext fun (a : Fin 2) => ?_)
  have h := (idx t).2.2.2.2.2.1
  match a with
  | 0 =>
    apply Fin.ext
    show win0_5.index t (0 : Fin 2) * 1 + 1 * 0 = 0
    have h' : win0_5.index t (0 : Fin 2) = 0 := congrFun h 0
    omega
  | 1 =>
    apply Fin.ext
    show win0_5.index t (1 : Fin 2) * 1024 + 1 * l.val = l.val
    have h' : win0_5.index t (1 : Fin 2) = 0 := congrFun h 1
    omega

omit hi in
theorem blk6 (X : Vec Ideal S1024x1024 .bf16) (hX : V m c main_v4 = X) (k l : Fin 1024) :
    (iblk m c 6 t : Vec Ideal S1024x1024 .bf16) (ix2 k l) = X (ix2 k l) := by
  subst hX
  refine congrArg (V m c main_v4) (funext fun (a : Fin 2) => ?_)
  have h := (idx t).2.2.2.2.2.2.1
  match a with
  | 0 =>
    apply Fin.ext
    show win0_6.index t (0 : Fin 2) * 1024 + 1 * k.val = k.val
    have h' : win0_6.index t (0 : Fin 2) = 0 := congrFun h 0
    omega
  | 1 =>
    apply Fin.ext
    show win0_6.index t (1 : Fin 2) * 1024 + 1 * l.val = l.val
    have h' : win0_6.index t (1 : Fin 2) = 0 := congrFun h 1
    omega

omit hi in
theorem blk7 (X : Vec Ideal S1x1024 .f32) (hX : V m c main_v5 = X) (l : Fin 1024) :
    (iblk m c 7 t : Vec Ideal S1x1024 .f32) (ix2 0 l) = X (ix2 0 l) := by
  subst hX
  refine congrArg (V m c main_v5) (funext fun (a : Fin 2) => ?_)
  have h := (idx t).2.2.2.2.2.2.2.1
  match a with
  | 0 =>
    apply Fin.ext
    show win0_7.index t (0 : Fin 2) * 1 + 1 * 0 = 0
    have h' : win0_7.index t (0 : Fin 2) = 0 := congrFun h 0
    omega
  | 1 =>
    apply Fin.ext
    show win0_7.index t (1 : Fin 2) * 1024 + 1 * l.val = l.val
    have h' : win0_7.index t (1 : Fin 2) = 0 := congrFun h 1
    omega

theorem rd8 (X : FVec Ideal S32768x1024 .f32) (r : Fin 512) (l : Fin 1024) :
    View.read (Elt Ideal) ((cfg0.win 8).blk t).view X (ix2 r l) = X (ix2 (⟨i.val * 512 + r.val, by omega⟩ : Fin 32768) l) := by
  refine congrArg X (funext fun (a : Fin 2) => ?_)
  have h := (idx t).2.2.2.2.2.2.2.2.1
  match a with
  | 0 =>
    apply Fin.ext
    show win0_8.index t (0 : Fin 2) * 512 + 1 * r.val = i.val * 512 + r.val
    have h' : win0_8.index t (0 : Fin 2) = t.val := congrFun h 0
    omega
  | 1 =>
    apply Fin.ext
    show win0_8.index t (1 : Fin 2) * 1024 + 1 * l.val = l.val
    have h' : win0_8.index t (1 : Fin 2) = 0 := congrFun h 1
    omega

theorem rd9 (X : FVec Ideal S32768x1024 .bf16) (r : Fin 512) (l : Fin 1024) :
    View.read (Elt Ideal) ((cfg0.win 9).blk t).view X (ix2 r l) = X (ix2 (⟨i.val * 512 + r.val, by omega⟩ : Fin 32768) l) := by
  refine congrArg X (funext fun (a : Fin 2) => ?_)
  have h := (idx t).2.2.2.2.2.2.2.2.2
  match a with
  | 0 =>
    apply Fin.ext
    show win0_9.index t (0 : Fin 2) * 512 + 1 * r.val = i.val * 512 + r.val
    have h' : win0_9.index t (0 : Fin 2) = t.val := congrFun h 0
    omega
  | 1 =>
    apply Fin.ext
    show win0_9.index t (1 : Fin 2) * 1024 + 1 * l.val = l.val
    have h' : win0_9.index t (1 : Fin 2) = 0 := congrFun h 1
    omega

attribute [local irreducible] REFX REFH out0_8 out0_9

theorem brow_eq (a : FVec Ideal S8x256x4096 .f32) (b : FVec Ideal S8x512x4096 .f32) (d : FVec Ideal S8x32x256x128 .f32) (x : FVec Ideal S32768x1024 .f32) (mo : FVec Ideal S8x6x1024 .f32) (g : FVec Ideal S1024 .f32) (w : FVec Ideal S1024x1024 .f32)
    (e0 : m ((c : Thread nD τ).loc main_arg0) = a) (e1 : m ((c : Thread nD τ).loc main_arg1) = b) (e2 : m ((c : Thread nD τ).loc main_arg2) = d) (e3 : V m c main_arg3 = x) (e4 : V m c main_arg4 = mo) (e5 : m ((c : Thread nD τ).loc main_arg5) = g) (e6 : m ((c : Thread nD τ).loc main_arg6) = w) (r : Fin 512) (l : Fin 1024) :
    brow (iblk m c 0 t) (iblk m c 1 t) (iblk m c 2 t) (iblk m c 3 t) (iblk m c 4 t) (iblk m c 5 t) (iblk m c 6 t) r l = row a b d x mo g w (⟨i.val * 512 + r.val, by omega⟩ : Fin 32768) l := by
  unfold brow row
  have eb : (⟨(i.val * 512 + r.val) / 4096, by omega⟩ : Fin 8) = ⟨i.val / 8, by omega⟩ := Fin.ext (by show (i.val * 512 + r.val) / 4096 = i.val / 8; omega)
  have es : (⟨(i.val * 512 + r.val) % 4096, by omega⟩ : Fin 4096) = ⟨i.val % 8 * 512 + r.val, by omega⟩ := Fin.ext (by show (i.val * 512 + r.val) % 4096 = i.val % 8 * 512 + r.val; omega)
  have eq : (⟨(i.val * 512 + r.val) % 4096 / 128, by omega⟩ : Fin 32) = ⟨i.val % 8 * 4 + r.val / 128, by omega⟩ := Fin.ext (by show (i.val * 512 + r.val) % 4096 / 128 = i.val % 8 * 4 + r.val / 128; omega)
  have ep : (⟨(i.val * 512 + r.val) % 4096 % 128, by omega⟩ : Fin 128) = ⟨r.val % 128, by omega⟩ := Fin.ext (by show (i.val * 512 + r.val) % 4096 % 128 = r.val % 128; omega)
  rw [eb, es, eq, ep]
  exact xo_congr (blk3 m c t i hi x e3 r l) (blk4 m c t i hi mo e4 2 l)
    (fun k => blk0 m c t i hi (truncf .bf16 a bitsLt_bf16_f32) ((V_v0 m c).trans (by rw [e0])) k r)
    (fun k => blk1 m c t i hi (truncf .bf16 b bitsLt_bf16_f32) ((V_v1 m c).trans (by rw [e1])) k r)
    (fun k => blk2 m c t i hi (truncf .bf16 d bitsLt_bf16_f32) ((V_v2 m c).trans (by rw [e2])) _ k _)
    (fun k => (blk5 m c t (shapeCast S1x1024 g shapeCasts_S1024_S1x1024) ((V_v3 m c).trans (by rw [e5])) k).trans (row_at g k))
    (fun k => blk6 m c t (truncf .bf16 w bitsLt_bf16_f32) ((V_v4 m c).trans (by rw [e6])) k l)

theorem pointX (a : FVec Ideal S8x256x4096 .f32) (b : FVec Ideal S8x512x4096 .f32) (d : FVec Ideal S8x32x256x128 .f32) (x : FVec Ideal S32768x1024 .f32) (mo : FVec Ideal S8x6x1024 .f32) (g : FVec Ideal S1024 .f32) (w : FVec Ideal S1024x1024 .f32)
    (e0 : m ((c : Thread nD τ).loc main_arg0) = a) (e1 : m ((c : Thread nD τ).loc main_arg1) = b) (e2 : m ((c : Thread nD τ).loc main_arg2) = d) (e3 : V m c main_arg3 = x) (e4 : V m c main_arg4 = mo) (e5 : m ((c : Thread nD τ).loc main_arg5) = g) (e6 : m ((c : Thread nD τ).loc main_arg6) = w) (r : Fin 512) (l : Fin 1024) :
    out0_8 (F := Ideal) (iblk m c 0 t) (iblk m c 1 t) (iblk m c 2 t) (iblk m c 3 t) (iblk m c 4 t) (iblk m c 5 t) (iblk m c 6 t) (iblk m c 7 t) (ix2 r l) = REFX a b d x mo g w (ix2 (⟨i.val * 512 + r.val, by omega⟩ : Fin 32768) l) :=
  (outX_at _ _ _ _ _ _ _ _ r l).trans ((brow_eq m c t i hi a b d x mo g w e0 e1 e2 e3 e4 e5 e6 r l).trans (REFX_at a b d x mo g w _ l).symm)

theorem pointH (a : FVec Ideal S8x256x4096 .f32) (b : FVec Ideal S8x512x4096 .f32) (d : FVec Ideal S8x32x256x128 .f32) (x : FVec Ideal S32768x1024 .f32) (mo : FVec Ideal S8x6x1024 .f32) (g : FVec Ideal S1024 .f32) (w : FVec Ideal S1024x1024 .f32) (g' : FVec Ideal S1024 .f32)
    (e0 : m ((c : Thread nD τ).loc main_arg0) = a) (e1 : m ((c : Thread nD τ).loc main_arg1) = b) (e2 : m ((c : Thread nD τ).loc main_arg2) = d) (e3 : V m c main_arg3 = x) (e4 : V m c main_arg4 = mo) (e5 : m ((c : Thread nD τ).loc main_arg5) = g) (e6 : m ((c : Thread nD τ).loc main_arg6) = w) (e7 : m ((c : Thread nD τ).loc main_arg7) = g') (r : Fin 512) (l : Fin 1024) :
    out0_9 (F := Ideal) (iblk m c 0 t) (iblk m c 1 t) (iblk m c 2 t) (iblk m c 3 t) (iblk m c 4 t) (iblk m c 5 t) (iblk m c 6 t) (iblk m c 7 t) (ix2 r l) = REFH a b d x mo g w g' (ix2 (⟨i.val * 512 + r.val, by omega⟩ : Fin 32768) l) := by
  refine (outH_at _ _ _ _ _ _ _ _ r l).trans ((?_ : _ = _).trans (REFH_at a b d x mo g w g' _ l).symm)
  have eb : (⟨(i.val * 512 + r.val) / 4096, by omega⟩ : Fin 8) = ⟨i.val / 8, by omega⟩ := Fin.ext (by show (i.val * 512 + r.val) / 4096 = i.val / 8; omega)
  rw [eb]
  exact congrArg₂ (fun p q : EReal => p + q) (congrArg₂ (fun p q : EReal => p * q) (congrArg₂ (fun p q : EReal => p * q)
      (rn_congr (fun k => brow_eq m c t i hi a b d x mo g w e0 e1 e2 e3 e4 e5 e6 r k) l)
      ((blk7 m c t (shapeCast S1x1024 g' shapeCasts_S1024_S1x1024) ((V_v5 m c).trans (by rw [e7])) l).trans (row_at g' l)))
      (congrArg (fun q : EReal => 1 + q) (blk4 m c t i hi mo e4 4 l))) (blk4 m c t i hi mo e4 3 l)

omit hi t i in
theorem finalX (a : FVec Ideal S8x256x4096 .f32) (b : FVec Ideal S8x512x4096 .f32) (d : FVec Ideal S8x32x256x128 .f32) (x : FVec Ideal S32768x1024 .f32) (mo : FVec Ideal S8x6x1024 .f32) (g : FVec Ideal S1024 .f32) (w : FVec Ideal S1024x1024 .f32)
    (e0 : m ((c : Thread nD τ).loc main_arg0) = a) (e1 : m ((c : Thread nD τ).loc main_arg1) = b) (e2 : m ((c : Thread nD τ).loc main_arg2) = d) (e3 : V m c main_arg3 = x) (e4 : V m c main_arg4 = mo) (e5 : m ((c : Thread nD τ).loc main_arg5) = g) (e6 : m ((c : Thread nD τ).loc main_arg6) = w) :
    (dats m 0 c).arrAt 8 (cfgs 0).N = REFX a b d x mo g w := by
  refine (dats m 0 c).arrAt_eq_of_covers 8 _ (by decide +kernel) fun t _ y => ?_
  blk_simp
  rw [after0_8]
  obtain ⟨r, l, rfl⟩ : ∃ (r : Fin 512) (l : Fin 1024), y = ix2 r l := by
    refine ⟨y (0 : Fin 2), y (1 : Fin 2), funext fun (a : Fin 2) => ?_⟩
    match a with
    | 0 => rfl
    | 1 => rfl
  have ht : t.val < 64 := t.isLt.trans_eq N_0
  exact (pointX m c t ⟨t.val, ht⟩ rfl a b d x mo g w e0 e1 e2 e3 e4 e5 e6 r l).trans (rd8 t ⟨t.val, ht⟩ rfl (REFX a b d x mo g w) r l).symm

omit hi t i in
theorem finalH (a : FVec Ideal S8x256x4096 .f32) (b : FVec Ideal S8x512x4096 .f32) (d : FVec Ideal S8x32x256x128 .f32) (x : FVec Ideal S32768x1024 .f32) (mo : FVec Ideal S8x6x1024 .f32) (g : FVec Ideal S1024 .f32) (w : FVec Ideal S1024x1024 .f32) (g' : FVec Ideal S1024 .f32)
    (e0 : m ((c : Thread nD τ).loc main_arg0) = a) (e1 : m ((c : Thread nD τ).loc main_arg1) = b) (e2 : m ((c : Thread nD τ).loc main_arg2) = d) (e3 : V m c main_arg3 = x) (e4 : V m c main_arg4 = mo) (e5 : m ((c : Thread nD τ).loc main_arg5) = g) (e6 : m ((c : Thread nD τ).loc main_arg6) = w) (e7 : m ((c : Thread nD τ).loc main_arg7) = g') :
    (dats m 0 c).arrAt 9 (cfgs 0).N = REFH a b d x mo g w g' := by
  refine (dats m 0 c).arrAt_eq_of_covers 9 _ (by decide +kernel) fun t _ y => ?_
  blk_simp
  rw [after0_9]
  obtain ⟨r, l, rfl⟩ : ∃ (r : Fin 512) (l : Fin 1024), y = ix2 r l := by
    refine ⟨y (0 : Fin 2), y (1 : Fin 2), funext fun (a : Fin 2) => ?_⟩
    match a with
    | 0 => rfl
    | 1 => rfl
  have ht : t.val < 64 := t.isLt.trans_eq N_0
  exact (pointH m c t ⟨t.val, ht⟩ rfl a b d x mo g w g' e0 e1 e2 e3 e4 e5 e6 e7 r l).trans (rd9 t ⟨t.val, ht⟩ rfl (REFH a b d x mo g w g') r l).symm

end Cert.Kernel4Ideal.Hand

end
-- ==== Proof.Out.Algebraic.lean ====
module

public import proofs.«01_k».proof.Defs
public import proofs.«01_k».proof.Proof.Gen.Reference4Ideal.Run
public import proofs.«01_k».proof.Proof.Out.Value
public import Idealize.ShloMosaic.Lib.Claim

/-! The output projection's kernel computes what the reference computes, in exact arithmetic. -/

@[expose] public section

set_option maxRecDepth 16384

noncomputable section

open Idealize.ShloMosaic Idealize.ShloMosaic.TcCoe Idealize.SL.Sem

namespace Cert.Out

theorem algebraic : Cert.algebraic_Kernel4Ideal_Reference4Ideal := by
  pair_intro
  · run_from Cert.Kernel4Ideal.Gen.run_main m g
  · run_from Cert.Reference4Ideal.Value.run (F := Ideal) m' g'
    · obtain ⟨h0, h1, h2, h3, h4, h5, h6, h7⟩ := hagree c
      refine (Cert.Reference4Ideal.Hand.res0 m' c).trans (Eq.trans ?_ (Cert.Kernel4Ideal.Hand.finalX m c _ _ _ _ _ _ _ rfl rfl rfl (Cert.Kernel4Ideal.Gen.V_main_arg3 m c) (Cert.Kernel4Ideal.Gen.V_main_arg4 m c) rfl rfl).symm)
      rw [← h0, ← h1, ← h2, ← h3, ← h4, ← h5, ← h6]
    · obtain ⟨h0, h1, h2, h3, h4, h5, h6, h7⟩ := hagree c
      refine (Cert.Reference4Ideal.Hand.res1 m' c).trans (Eq.trans ?_ (Cert.Kernel4Ideal.Hand.finalH m c _ _ _ _ _ _ _ _ rfl rfl rfl (Cert.Kernel4Ideal.Gen.V_main_arg3 m c) (Cert.Kernel4Ideal.Gen.V_main_arg4 m c) rfl rfl rfl).symm)
      rw [← h0, ← h1, ← h2, ← h3, ← h4, ← h5, ← h6, ← h7]

end Cert.Out

end
-- ==== Proof.lean ====
/- The claims about the attention kernel, the experts' kernel and the dense layer's: the frames of each kernel, of its idealization and of
   its reference, what the idealization replaces, and that the idealized kernel computes what the reference computes. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_in_range
public import proofs.«01_k».proof.Proof.Gen.Kernel4
public import proofs.«01_k».proof.Proof.Gen.Kernel4.Launch
public import proofs.«01_k».proof.Proof.Gen.Kernel4.Skeleton
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel3
public import proofs.«01_k».proof.Proof.Gen.Kernel3.Launch
public import proofs.«01_k».proof.Proof.Gen.Kernel3.Skeleton
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Mla.Kernel.Frame
public import proofs.«01_k».proof.Proof.Mla.KernelIdeal.Frame
public import proofs.«01_k».proof.Proof.Mla.Algebraic
public import proofs.«01_k».proof.Proof.Moe.Kernel2.Frame
public import proofs.«01_k».proof.Proof.Moe.Kernel2.Pre
public import proofs.«01_k».proof.Proof.Moe.Kernel2Ideal.Frame
public import proofs.«01_k».proof.Proof.Moe.Algebraic
public import proofs.«01_k».proof.Proof.Ffn.Algebraic
public import proofs.«01_k».proof.Proof.Out.Algebraic
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof

theorem frame_p : Cert.quiescent_Kernel := fun m ρ _ => Cert.Kernel.Hand.frame m ρ
theorem frame_pi : Cert.quiescent_KernelIdeal := fun m ρ _ => Cert.KernelIdeal.Hand.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants are what the idealization says they are. -/
theorem preserves : Cert.preserves_Kernel_KernelIdeal :=
  ⟨IdealRules.named_const.statement Cert.KernelIdeal.κ "qscale" .f32 0x3E16C740#32 (((Real.sqrt 96)⁻¹ * (Real.log 2)⁻¹ : ℝ) : EReal) rfl,
    IdealRules.named_const.statement Cert.KernelIdeal.κ "mask" .f32 0xF149F2CA#32 ⊥ rfl⟩

theorem frame_p2 : Cert.quiescent_Kernel2 := fun m ρ hpre =>
  have hr := Cert.Moe.in_range_of _ _ _ _ _ _ (hpre 0)
  Cert.Kernel2.Hand.frame m ρ (Cert.Kernel2.Hand.hok m hr.1 hr.2)
theorem frame_pi2 : Cert.quiescent_Kernel2Ideal := fun m ρ hpre =>
  have hr := Cert.Moe.in_range_of _ _ _ _ _ _ (hpre 0)
  Cert.Kernel2Ideal.Hand.frame m ρ (Cert.Kernel2Ideal.Hand.hok m hr.1 hr.2)
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.Gen.facts, Cert.Pre_in_range.Gen.facts,
    frame_p, frame_pi, fun m ρ _ => frame_pi m ρ trivial, frame_ri, fun m ρ _ => frame_ri m ρ trivial,
    frame_p2, frame_pi2, frame_ri2, fun m ρ _ => frame_ri2 m ρ trivial,
    frame_p3, frame_pi3, frame_ri3,
    frame_p4, frame_pi4, frame_ri4,
    preserves, Cert.Mla.algebraic, trivial, Cert.Moe.algebraic, trivial, Cert.Ffn.algebraic, trivial, Cert.Out.algebraic⟩

end Cert.Proof

end
